-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_p [hPre_finite_p : Cert.Pre_finite_p.Facts] (m : (ℓ : Loc Cert.GqaIdeal.nD Cert.GqaIdeal.τ Cert.GqaIdeal.sig) → Buf (Elt Ideal) ℓ) : Prop :=
  ∀ c : Dev Cert.GqaIdeal.nD,
    (Cert.Pre_finite_p.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_p [hPre_finite_p : Cert.Pre_finite_p.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_p.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2))) = (fun _ => 1#1)

def Pre_Moe [hPre_experts : Cert.Pre_experts.Facts] (m : (ℓ : Loc Cert.Moe.nD Cert.Moe.τ Cert.Moe.sig) → Buf (Elt Bits) ℓ) : Prop :=
  ∀ c : Dev Cert.Moe.nD,
    (Cert.Pre_experts.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_experts : Cert.Pre_experts.Facts] (m : (ℓ : Loc Cert.MoeIdeal.nD Cert.MoeIdeal.τ Cert.MoeIdeal.sig) → Buf (Elt Ideal) ℓ) : Prop :=
  ∀ c : Dev Cert.MoeIdeal.nD,
    (Cert.Pre_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts [hPre_experts : Cert.Pre_experts.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_p [hGqaIdeal : Cert.GqaIdeal.Facts] [hPre_finite_p : Cert.Pre_finite_p.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_p m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_p [hGqaRefIdeal : Cert.GqaRefIdeal.Facts] [hPre_finite_p : Cert.Pre_finite_p.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_p m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2))
      ∧ r.2.sem = fun _ => 0)

def quiescent_Moe [hMoe : Cert.Moe.Facts] [hPre_experts : Cert.Pre_experts.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_MoeRefIdeal_pre_experts [hMoeRefIdeal : Cert.MoeRefIdeal.Facts] [hPre_experts : Cert.Pre_experts.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4)
      ∧ r.2.mem ((c.tc : Thread Cert.Resid.nD Cert.Resid.τ).loc Cert.Resid.main_arg5) = m ((c.tc : Thread Cert.Resid.nD Cert.Resid.τ).loc Cert.Resid.main_arg5))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4)
      ∧ r.2.mem ((c.tc : Thread Cert.ResidRefIdeal.nD Cert.ResidRefIdeal.τ).loc Cert.ResidRefIdeal.main_arg5) = m ((c.tc : Thread Cert.ResidRefIdeal.nD Cert.ResidRefIdeal.τ).loc Cert.ResidRefIdeal.main_arg5))
      ∧ r.2.sem = fun _ => 0)

def preserves_Gqa_GqaIdeal : Prop :=
  True

def algebraic_GqaIdeal_GqaRefIdeal_pre_finite_p [hGqaIdeal : Cert.GqaIdeal.Facts] [hGqaRefIdeal : Cert.GqaRefIdeal.Facts] [hPre_finite_p : Cert.Pre_finite_p.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_p m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v1)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v1) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v29) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Diff_DiffIdeal : Prop :=
  True

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v85) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2))

def preserves_Moe_MoeIdeal : Prop :=
  True

def algebraic_MoeIdeal_MoeRefIdeal [hMoeIdeal : Cert.MoeIdeal.Facts] [hMoeRefIdeal : Cert.MoeRefIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v144) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_v62) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v31) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)
      ∧ m' ((c.tc : Thread Cert.ResidRefIdeal.nD Cert.ResidRefIdeal.τ).loc Cert.ResidRefIdeal.main_arg5) = m ((c.tc : Thread Cert.ResidIdeal.nD Cert.ResidIdeal.τ).loc Cert.ResidIdeal.main_arg5)) →
    ∃ (v0 : (c : Dev Cert.ResidIdeal.nD) → Buf (Elt Ideal) ((c.tc : Thread Cert.ResidIdeal.nD Cert.ResidIdeal.τ).loc Cert.ResidIdeal.main_v2_0)) (v1 : (c : Dev Cert.ResidIdeal.nD) → Buf (Elt Ideal) ((c.tc : Thread Cert.ResidIdeal.nD Cert.ResidIdeal.τ).loc Cert.ResidIdeal.main_v2_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v2_0) = v0 c
          ∧ r.2.mem ((c.tc : Thread Cert.ResidIdeal.nD Cert.ResidIdeal.τ).loc Cert.ResidIdeal.main_v2_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
          ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v24) = v0 c
          ∧ r.2.mem ((c.tc : Thread Cert.ResidRefIdeal.nD Cert.ResidRefIdeal.τ).loc Cert.ResidRefIdeal.main_v56) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4)
          ∧ r.2.mem ((c.tc : Thread Cert.ResidRefIdeal.nD Cert.ResidRefIdeal.τ).loc Cert.ResidRefIdeal.main_arg5) = m' ((c.tc : Thread Cert.ResidRefIdeal.nD Cert.ResidRefIdeal.τ).loc Cert.ResidRefIdeal.main_arg5))

def Claim : Prop :=
  ∃ (hGqa : Cert.Gqa.Facts) (hGqaIdeal : Cert.GqaIdeal.Facts) (hGqaRefIdeal : Cert.GqaRefIdeal.Facts) (hDiff : Cert.Diff.Facts) (hDiffIdeal : Cert.DiffIdeal.Facts) (hDiffRefIdeal : Cert.DiffRefIdeal.Facts) (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hResid : Cert.Resid.Facts) (hResidIdeal : Cert.ResidIdeal.Facts) (hResidRefIdeal : Cert.ResidRefIdeal.Facts) (hPre_finite_p : Cert.Pre_finite_p.Facts) (hPre_finite : Cert.Pre_finite.Facts) (hPre_experts : Cert.Pre_experts.Facts),
    quiescent_Gqa (hGqa := hGqa)
    ∧ quiescent_GqaIdeal (hGqaIdeal := hGqaIdeal)
    ∧ quiescent_GqaIdeal_pre_finite_p (hGqaIdeal := hGqaIdeal) (hPre_finite_p := hPre_finite_p)
    ∧ quiescent_GqaRefIdeal (hGqaRefIdeal := hGqaRefIdeal)
    ∧ quiescent_GqaRefIdeal_pre_finite_p (hGqaRefIdeal := hGqaRefIdeal) (hPre_finite_p := hPre_finite_p)
    ∧ quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Moe (hMoe := hMoe) (hPre_experts := hPre_experts)
    ∧ quiescent_MoeIdeal (hMoeIdeal := hMoeIdeal) (hPre_experts := hPre_experts)
    ∧ quiescent_MoeRefIdeal (hMoeRefIdeal := hMoeRefIdeal)
    ∧ quiescent_MoeRefIdeal_pre_experts (hMoeRefIdeal := hMoeRefIdeal) (hPre_experts := hPre_experts)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Resid (hResid := hResid)
    ∧ quiescent_ResidIdeal (hResidIdeal := hResidIdeal)
    ∧ quiescent_ResidRefIdeal (hResidRefIdeal := hResidRefIdeal)
    ∧ preserves_Gqa_GqaIdeal
    ∧ algebraic_GqaIdeal_GqaRefIdeal_pre_finite_p (hGqaIdeal := hGqaIdeal) (hGqaRefIdeal := hGqaRefIdeal) (hPre_finite_p := hPre_finite_p)
    ∧ preserves_Diff_DiffIdeal
    ∧ algebraic_DiffIdeal_DiffRefIdeal_pre_finite (hDiffIdeal := hDiffIdeal) (hDiffRefIdeal := hDiffRefIdeal) (hPre_finite := hPre_finite)
    ∧ preserves_Moe_MoeIdeal
    ∧ algebraic_MoeIdeal_MoeRefIdeal (hMoeIdeal := hMoeIdeal) (hMoeRefIdeal := hMoeRefIdeal) (hPre_experts := hPre_experts)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Resid_ResidIdeal
    ∧ algebraic_ResidIdeal_ResidRefIdeal (hResidIdeal := hResidIdeal) (hResidRefIdeal := hResidRefIdeal)
-- ==== Pre_experts.lean ====
abbrev S93 : Shape := ⟨1, ![93]⟩
abbrev S1 : Shape := ⟨1, ![1]⟩
abbrev S71424x2048 : Shape := ⟨2, ![71424, 2048]⟩
abbrev S8x2048x11264 : Shape := ⟨3, ![8, 2048, 11264]⟩
abbrev S8x5632x2048 : Shape := ⟨3, ![8, 5632, 2048]⟩
abbrev S_ : Shape := ⟨0, ![]⟩

class Facts : Prop where
  bcast_S_S93 : S_.BroadcastsInDim S93 (![] : Fin 0 → Fin S93.rank)
  reducesTo_S93_S_d0 : S93.ReducesTo [0] S_
  h_S_ : 0 < S_.numel

variable [Facts]

def fn {F : FTy → Type} [FloatOps F] (main_arg0 : IVec S93 32) (main_arg1 : IVec S1 32) (main_arg2 : FVec F S71424x2048 .bf16) (main_arg3 : FVec F S8x2048x11264 .bf16) (main_arg4 : FVec F S8x5632x2048 .bf16) : IVec S_ 1 :=
  let main_c : IVec S_ 32 := constantI S_ 32 0#32
  let main_v0 : IVec S93 32 := broadcastInDim S93 ![] bcast_S_S93 main_c
  let main_v1 : IVec S93 1 := cmpi .sge main_arg0 main_v0
  let main_c_0 : IVec S_ 32 := constantI S_ 32 8#32
  let main_v2 : IVec S93 32 := broadcastInDim S93 ![] bcast_S_S93 main_c_0
  let main_v3 : IVec S93 1 := cmpi .slt main_arg0 main_v2
  let main_v4 : IVec S93 1 := andi main_v1 main_v3
  let main_c_1 : IVec S_ 1 := constantI S_ 1 1#1
  let main_v5 : IVec S_ 1 := (fun x v => Host.reduce IntOp.andi x v reducesTo_S93_S_d0 h_S_) main_v4 main_c_1
  main_v5
-- ==== Pre_finite.lean ====
abbrev S16x2304x7680 : Shape := ⟨3, ![16, 2304, 7680]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16x2304x7680 : S_.BroadcastsInDim S16x2304x7680 (![] : Fin 0 → Fin S16x2304x7680.rank)
  reducesTo_S16x2304x7680_S_d0_1_2 : S16x2304x7680.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16x2304x7680 .bf16) (main_arg1 : FVec F S4x64 .f32) (main_arg2 : FVec F S128 .f32) : IVec S_ 1 :=
  let main_v0 : FVec F S16x2304x7680 .f32 := (extf .f32 · bitsLt_bf16_f32) main_arg0
  let main_v1 : FVec F S16x2304x7680 .f32 := Host.absf main_v0
  let main_cst : FVec F S_ .f32 := constant S_ .f32 0x7F800000#32
  let main_v2 : FVec F S16x2304x7680 .f32 := broadcastInDim S16x2304x7680 ![] bcast_S_S16x2304x7680 main_cst
  let main_v3 : IVec S16x2304x7680 1 := cmpf .olt main_v1 main_v2
  let main_c : IVec S_ 1 := constantI S_ 1 1#1
  let main_v4 : IVec S_ 1 := (fun x v => Host.reduce IntOp.andi x v reducesTo_S16x2304x7680_S_d0_1_2 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Pre_finite_p.lean ====
abbrev S16x2304x7680 : Shape := ⟨3, ![16, 2304, 7680]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16x2304x7680 : S_.BroadcastsInDim S16x2304x7680 (![] : Fin 0 → Fin S16x2304x7680.rank)
  reducesTo_S16x2304x7680_S_d0_1_2 : S16x2304x7680.ReducesTo [0, 1, 2] S_
  h_S_ : 0 < S_.numel

variable [Facts]

def fn {F : FTy → Type} [FloatOps F] (main_arg0 : FVec F S16x2304x7680 .bf16) (main_arg1 : FVec F S4x64 .f32) (main_arg2 : FVec F S128 .f32) : IVec S_ 1 :=
  let main_v0 : FVec F S16x2304x7680 .f32 := (extf .f32 · bitsLt_bf16_f32) main_arg0
  let main_v1 : FVec F S16x2304x7680 .f32 := Host.absf main_v0
  let main_cst : FVec F S_ .f32 := constant S_ .f32 0x7F800000#32
  let main_v2 : FVec F S16x2304x7680 .f32 := broadcastInDim S16x2304x7680 ![] bcast_S_S16x2304x7680 main_cst
  let main_v3 : IVec S16x2304x7680 1 := cmpf .olt main_v1 main_v2
  let main_c : IVec S_ 1 := constantI S_ 1 1#1
  let main_v4 : IVec S_ 1 := (fun x v => Host.reduce IntOp.andi x v reducesTo_S16x2304x7680_S_d0_1_2 h_S_) main_v3 main_c
  main_v4
-- ==== Gqa.lean ====
abbrev S16x2304x7680 : Shape := ⟨3, ![16, 2304, 7680]⟩
abbrev S4x64 : Shape := ⟨2, ![4, 64]⟩
abbrev S128 : Shape := ⟨1, ![128]⟩
abbrev S1x128 : Shape := ⟨2, ![1, 128]⟩
abbrev S16x2048x1024 : Shape := ⟨3, ![16, 2048, 1024]⟩
abbrev S1x512x512 : Shape := ⟨3, ![1, 512, 512]⟩
abbrev S1x2304x128 : Shape := ⟨3, ![1, 2304, 128]⟩
abbrev S1x2304x256 : Shape := ⟨3, ![1, 2304, 256]⟩
abbrev S1x8x128 : Shape := ⟨3, ![1, 8, 128]⟩
abbrev S2304x128 : Shape := ⟨2, ![2304, 128]⟩
abbrev S128x128 : Shape := ⟨2, ![128, 128]⟩
abbrev S8x128 : Shape := ⟨2, ![8, 128]⟩
abbrev S1x512x128 : Shape := ⟨3, ![1, 512, 128]⟩
abbrev S512x128 : Shape := ⟨2, ![512, 128]⟩
abbrev S2304x256 : Shape := ⟨2, ![2304, 256]⟩
abbrev S1x1x1 : Shape := ⟨3, ![1, 1, 1]⟩
abbrev S1x1 : Shape := ⟨2, ![1, 1]⟩
abbrev S512x2304 : Shape := ⟨2, ![512, 2304]⟩
abbrev S512 : Shape := ⟨1, ![512]⟩
abbrev S512x1 : Shape := ⟨2, ![512, 1]⟩
abbrev S512x256 : Shape := ⟨2, ![512, 256]⟩
abbrev S1x512x1 : Shape := ⟨3, ![1, 512, 1]⟩
abbrev S1 : Shape := ⟨1, ![1]⟩

abbrev nBuf : Space → Nat
  | .hbm => 5
  | .vmem => 12
  | .smem => 0
  | _ => 0

abbrev bufTy : (tb : Table) → Fin (tcTables nBuf tb) → BufTy
  | .hbm, ⟨0, _⟩ => ⟨S16x2304x7680, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S16x2048x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S4x64, .f32⟩
  | .local _ .vmem, ⟨7, _⟩ => ⟨S1x128, .f32⟩
  | .local _ .vmem, ⟨8, _⟩ => ⟨S1x512x512, .bf16⟩
  | .local _ .vmem, ⟨9, _⟩ => ⟨S1x512x512, .bf16⟩
  | .local _ .vmem, ⟨10, _⟩ => ⟨S1x2304x256, .bf16⟩
  | .local _ .vmem, ⟨11, _⟩ => ⟨S1x8x128, .f32⟩
  | _, _ => ⟨S16x2304x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c58_i32 : BitVec 32 := 58#32
  let v0 : BitVec 32 := Scalar.addi c58_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S16x2304x7680 : Shape := ⟨3, ![16, 2304, 7680]⟩
abbrev S4x64 : Shape := ⟨2, ![4, 64]⟩
abbrev S128 : Shape := ⟨1, ![128]⟩
abbrev S16x2048x1024 : Shape := ⟨3, ![16, 2048, 1024]⟩
abbrev S16x2048x2x4x128 : Shape := ⟨5, ![16, 2048, 2, 4, 128]⟩
abbrev S16x2x4x2048x128 : Shape := ⟨5, ![16, 2, 4, 2048, 128]⟩
abbrev S16x2304x256 : Shape := ⟨3, ![16, 2304, 256]⟩
abbrev S16x2304x2x128 : Shape := ⟨4, ![16, 2304, 2, 128]⟩
abbrev S16x2x2304x128 : Shape := ⟨4, ![16, 2, 2304, 128]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x8x2048x128 : Shape := ⟨4, ![16, 8, 2048, 128]⟩
abbrev S16x2048x8x128 : Shape := ⟨4, ![16, 2048, 8, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x2304x7680, .bf16⟩
  | .hbm, ⟨1, _⟩ => ⟨S4x64, .f32⟩
  | .hbm, ⟨2, _⟩ => ⟨S128, .f32⟩
  | .hbm, ⟨3, _⟩ => ⟨S16x2304x7680, .f32⟩
  | .hbm, ⟨4, _⟩ => ⟨S16x2048x1024, .f32⟩
  | .hbm, ⟨5, _⟩ => ⟨S16x2048x2x4x128, .f32⟩
  | .hbm, ⟨6, _⟩ => ⟨S16x2x4x2048x128, .f32⟩
  | .hbm, ⟨7, _⟩ => ⟨S16x2304x256, .f32⟩
  | .hbm, ⟨8, _⟩ => ⟨S16x2304x2x128, .f32⟩
  | .hbm, ⟨9, _⟩ => ⟨S16x2x2304x128, .f32⟩
  | .hbm, ⟨10, _⟩ => ⟨S16x2304x256, .f32⟩
  | .hbm, ⟨11, _⟩ => ⟨S16x2304x2x128, .f32⟩
  | .hbm, ⟨12, _⟩ => ⟨S16x2x2304x128, .f32⟩
  | .hbm, ⟨13, _⟩ => ⟨S16x2x4x2048x2304, .f32⟩
  | .hbm, ⟨14, _⟩ => ⟨S_, .f32⟩
  | .hbm, ⟨15, _⟩ => ⟨S_, .f32⟩
  | .hbm, ⟨16, _⟩ => ⟨S16x2x4x2048x2304, .f32⟩
  | .hbm, ⟨17, _⟩ => ⟨S16x2x4x2048x2304, .f32⟩
  | .hbm, ⟨18, _⟩ => ⟨S_, .f32⟩
  | .hbm, ⟨19, _⟩ => ⟨S16x2x4x2048, .f32⟩
  | .hbm, ⟨20, _⟩ => ⟨S_, .f32⟩
  | .hbm, ⟨21, _⟩ => ⟨S16x2x4x2048, .f32⟩
  | .hbm, ⟨22, _⟩ => ⟨S16x2x4x2048, .f32⟩
  | .hbm, ⟨23, _⟩ => ⟨S16x2x4x2048x1, .f32⟩
  | .hbm, ⟨24, _⟩ => ⟨S16x2x4x2048x2304, .f32⟩
  | .hbm, ⟨25, _⟩ => ⟨S16x2x4x2048x2304, .f32⟩
  | .hbm, ⟨26, _⟩ => ⟨S16x2x4x2048x2304, .f32⟩
  | .hbm, ⟨27, _⟩ => ⟨S_, .f32⟩
  | .hbm, ⟨28, _⟩ => ⟨S16x2x4x2048, .f32⟩
  | .hbm, ⟨29, _⟩ => ⟨S16x2x4x2048x1, .f32⟩
  | .hbm, ⟨30, _⟩ => ⟨S16x2x4x2048x2304, .f32⟩
  | .hbm, ⟨31, _⟩ => ⟨S16x2x4x2048x2304, .f32⟩
  | .hbm, ⟨32, _⟩ => ⟨S16x2x4x2048x128, .f32⟩
  | .hbm, ⟨33, _⟩ => ⟨S16x8x2048x128, .f32⟩
  | .hbm, ⟨34, _⟩ => ⟨S16x2048x8x128, .f32⟩
  | .hbm, ⟨35, _⟩ => ⟨S16x2048x1024, .f32⟩
  | .hbm, ⟨36, _⟩ => ⟨S16x2048x1024, .bf16⟩
  | _, _ => ⟨S16x2304x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Diff.lean ====
abbrev S16x2304x7680 : Shape := ⟨3, ![16, 2304, 7680]⟩
abbrev S4x64 : Shape := ⟨2, ![4, 64]⟩
abbrev S128 : Shape := ⟨1, ![128]⟩
abbrev S1x128 : Shape := ⟨2, ![1, 128]⟩
abbrev S16x2048x1024 : Shape := ⟨3, ![16, 2048, 1024]⟩
abbrev S1x512x256 : Shape := ⟨3, ![1, 512, 256]⟩
abbrev S1x2304x256 : Shape := ⟨3, ![1, 2304, 256]⟩
abbrev S2x2304x256 : Shape := ⟨3, ![2, 2304, 256]⟩
abbrev S2x8x128 : Shape := ⟨3, ![2, 8, 128]⟩
abbrev S1x2304x128 : Shape := ⟨3, ![1, 2304, 128]⟩
abbrev S2304x128 : Shape := ⟨2, ![2304, 128]⟩
abbrev S128x128 : Shape := ⟨2, ![128, 128]⟩
abbrev S8x128 : Shape := ⟨2, ![8, 128]⟩
abbrev S1x8x128 : Shape := ⟨3, ![1, 8, 128]⟩
abbrev S1x512x128 : Shape := ⟨3, ![1, 512, 128]⟩
abbrev S512x128 : Shape := ⟨2, ![512, 128]⟩
abbrev S2304x256 : Shape := ⟨2, ![2304, 256]⟩
abbrev S1x1x1 : Shape := ⟨3, ![1, 1, 1]⟩
abbrev S1x1 : Shape := ⟨2, ![1, 1]⟩
abbrev S512x2304 : Shape := ⟨2, ![512, 2304]⟩
abbrev S512 : Shape := ⟨1, ![512]⟩
abbrev S512x1 : Shape := ⟨2, ![512, 1]⟩
abbrev S512x256 : Shape := ⟨2, ![512, 256]⟩
abbrev S1x512x1 : Shape := ⟨3, ![1, 512, 1]⟩
abbrev S1 : Shape := ⟨1, ![1]⟩
abbrev S1x64 : Shape := ⟨2, ![1, 64]⟩

abbrev nBuf : Space → Nat
  | .hbm => 5
  | .vmem => 12
  | .smem => 0
  | _ => 0

abbrev bufTy : (tb : Table) → Fin (tcTables nBuf tb) → BufTy
  | .hbm, ⟨0, _⟩ => ⟨S16x2304x7680, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S16x2048x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S4x64, .f32⟩
  | .local _ .vmem, ⟨7, _⟩ => ⟨S1x128, .f32⟩
  | .local _ .vmem, ⟨8, _⟩ => ⟨S1x512x256, .bf16⟩
  | .local _ .vmem, ⟨9, _⟩ => ⟨S1x512x256, .bf16⟩
  | .local _ .vmem, ⟨10, _⟩ => ⟨S2x2304x256, .bf16⟩
  | .local _ .vmem, ⟨11, _⟩ => ⟨S2x8x128, .f32⟩
  | _, _ => ⟨S16x2304x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffRefIdeal.lean ====
abbrev S16x2304x7680 : Shape := ⟨3, ![16, 2304, 7680]⟩
abbrev S4x64 : Shape := ⟨2, ![4, 64]⟩
abbrev S128 : Shape := ⟨1, ![128]⟩
abbrev S16x2048x1024 : Shape := ⟨3, ![16, 2048, 1024]⟩
abbrev S16x2048x8x2x64 : Shape := ⟨5, ![16, 2048, 8, 2, 64]⟩
abbrev S2x16x8x2048x64 : Shape := ⟨5, ![2, 16, 8, 2048, 64]⟩
abbrev S16x2304x1024 : Shape := ⟨3, ![16, 2304, 1024]⟩
abbrev S16x2304x8x2x64 : Shape := ⟨5, ![16, 2304, 8, 2, 64]⟩
abbrev S2x16x8x2304x64 : Shape := ⟨5, ![2, 16, 8, 2304, 64]⟩
abbrev S16x2304x8x128 : Shape := ⟨4, ![16, 2304, 8, 128]⟩
abbrev S16x8x2304x128 : Shape := ⟨4, ![16, 8, 2304, 128]⟩
abbrev S1x64 : Shape := ⟨2, ![1, 64]⟩
abbrev S64 : Shape := ⟨1, ![64]⟩
abbrev S_ : Shape := ⟨0, ![]⟩
abbrev S1x16x8x2048x64 : Shape := ⟨5, ![1, 16, 8, 2048, 64]⟩
abbrev S16x8x2048x64 : Shape := ⟨4, ![16, 8, 2048, 64]⟩
abbrev S1x16x8x2304x64 : Shape := ⟨5, ![1, 16, 8, 2304, 64]⟩
abbrev S16x8x2304x64 : Shape := ⟨4, ![16, 8, 2304, 64]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S16x8x2048x128 : Shape := ⟨4, ![16, 8, 2048, 128]⟩
abbrev S1x1x1x128 : Shape := ⟨4, ![1, 1, 1, 128]⟩
abbrev S16x2048x8x128 : Shape := ⟨4, ![16, 2048, 8, 128]⟩

abbrev nBuf : Space → Nat
  | .hbm => 104
  | .vmem => 0
  | .smem => 0
  | _ => 0

abbrev bufTy : (tb : Table) → Fin (tcTables nBuf tb) → BufTy
  | .hbm, ⟨0, _⟩ => ⟨S16x2304x7680, .bf16⟩
  | .hbm, ⟨1, _⟩ => ⟨S4x64, .f32⟩
  | .hbm, ⟨2, _⟩ => ⟨S128, .f32⟩
  | .hbm, ⟨3, _⟩ => ⟨S16x2304x7680, .f32⟩
  | .hbm, ⟨4, _⟩ => ⟨S16x2048x1024, .f32⟩
  | .hbm, ⟨5, _⟩ => ⟨S16x2048x8x2x64, .f32⟩
  | .hbm, ⟨6, _⟩ => ⟨S2x16x8x2048x64, .f32⟩
  | .hbm, ⟨7, _⟩ => ⟨S16x2304x1024, .f32⟩
  | .hbm, ⟨8, _⟩ => ⟨S16x2304x8x2x64, .f32⟩
  | .hbm, ⟨9, _⟩ => ⟨S2x16x8x2304x64, .f32⟩
  | .hbm, ⟨10, _⟩ => ⟨S16x2304x1024, .f32⟩
  | .hbm, ⟨11, _⟩ => ⟨S16x2304x8x128, .f32⟩
  | .hbm, ⟨12, _⟩ => ⟨S16x8x2304x128, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x16x8x2048x64, .f32⟩
  | .hbm, ⟨33, _⟩ => ⟨S16x8x2048x64, .f32⟩
  | .hbm, ⟨34, _⟩ => ⟨S1x16x8x2304x64, .f32⟩
  | .hbm, ⟨35, _⟩ => ⟨S16x8x2304x64, .f32⟩
  | .hbm, ⟨36, _⟩ => ⟨S16x8x2048x2304, .f32⟩
  | .hbm, ⟨37, _⟩ => ⟨S_, .f32⟩
  | .hbm, ⟨38, _⟩ => ⟨S_, .f32⟩
  | .hbm, ⟨39, _⟩ => ⟨S16x8x2048x2304, .f32⟩
  | .hbm, ⟨40, _⟩ => ⟨S16x8x2048x2304, .f32⟩
  | .hbm, ⟨41, _⟩ => ⟨S_, .f32⟩
  | .hbm, ⟨42, _⟩ => ⟨S16x8x2048, .f32⟩
  | .hbm, ⟨43, _⟩ => ⟨S_, .f32⟩
  | .hbm, ⟨44, _⟩ => ⟨S16x8x2048, .f32⟩
  | .hbm, ⟨45, _⟩ => ⟨S16x8x2048, .f32⟩
  | .hbm, ⟨46, _⟩ => ⟨S16x8x2048x1, .f32⟩
  | .hbm, ⟨47, _⟩ => ⟨S16x8x2048x2304, .f32⟩
  | .hbm, ⟨48, _⟩ => ⟨S16x8x2048x2304, .f32⟩
  | .hbm, ⟨49, _⟩ => ⟨S16x8x2048x2304, .f32⟩
  | .hbm, ⟨50, _⟩ => ⟨S_, .f32⟩
  | .hbm, ⟨51, _⟩ => ⟨S16x8x2048, .f32⟩
  | .hbm, ⟨52, _⟩ => ⟨S16x8x2048x1, .f32⟩
  | .hbm, ⟨53, _⟩ => ⟨S16x8x2048x2304, .f32⟩
  | .hbm, ⟨54, _⟩ => ⟨S16x8x2048x2304, .f32⟩
  | .hbm, ⟨55, _⟩ => ⟨S1x16x8x2048x64, .f32⟩
  | .hbm, ⟨56, _⟩ => ⟨S16x8x2048x64, .f32⟩
  | .hbm, ⟨57, _⟩ => ⟨S1x16x8x2304x64, .f32⟩
  | .hbm, ⟨58, _⟩ => ⟨S16x8x2304x64, .f32⟩
  | .hbm, ⟨59, _⟩ => ⟨S16x8x2048x2304, .f32⟩
  | .hbm, ⟨60, _⟩ => ⟨S_, .f32⟩
  | .hbm, ⟨61, _⟩ => ⟨S_, .f32⟩
  | .hbm, ⟨62, _⟩ => ⟨S16x8x2048x2304, .f32⟩
  | .hbm, ⟨63, _⟩ => ⟨S16x8x2048x2304, .f32⟩
  | .hbm, ⟨64, _⟩ => ⟨S_, .f32⟩
  | .hbm, ⟨65, _⟩ => ⟨S16x8x2048, .f32⟩
  | .hbm, ⟨66, _⟩ => ⟨S_, .f32⟩
  | .hbm, ⟨67, _⟩ => ⟨S16x8x2048, .f32⟩
  | .hbm, ⟨68, _⟩ => ⟨S16x8x2048, .f32⟩
  | .hbm, ⟨69, _⟩ => ⟨S16x8x2048x1, .f32⟩
  | .hbm, ⟨70, _⟩ => ⟨S16x8x2048x2304, .f32⟩
  | .hbm, ⟨71, _⟩ => ⟨S16x8x2048x2304, .f32⟩
  | .hbm, ⟨72, _⟩ => ⟨S16x8x2048x2304, .f32⟩
  | .hbm, ⟨73, _⟩ => ⟨S_, .f32⟩
  | .hbm, ⟨74, _⟩ => ⟨S16x8x2048, .f32⟩
  | .hbm, ⟨75, _⟩ => ⟨S16x8x2048x1, .f32⟩
  | .hbm, ⟨76, _⟩ => ⟨S16x8x2048x2304, .f32⟩
  | .hbm, ⟨77, _⟩ => ⟨S16x8x2048x2304, .f32⟩
  | .hbm, ⟨78, _⟩ => ⟨S16x8x2048x2304, .f32⟩
  | .hbm, ⟨79, _⟩ => ⟨S16x8x2048x2304, .f32⟩
  | .hbm, ⟨80, _⟩ => ⟨S16x8x2048x2304, .f32⟩
  | .hbm, ⟨81, _⟩ => ⟨S16x8x2048x128, .f32⟩
  | .hbm, ⟨82, _⟩ => ⟨S16x8x2048x128, .f32⟩
  | .hbm, ⟨83, _⟩ => ⟨S_, .f32⟩
  | .hbm, ⟨84, _⟩ => ⟨S16x8x2048, .f32⟩
  | .hbm, ⟨85, _⟩ => ⟨S16x8x2048x1, .f32⟩
  | .hbm, ⟨86, _⟩ => ⟨S_, .f32⟩
  | .hbm, ⟨87, _⟩ => ⟨S16x8x2048x1, .f32⟩
  | .hbm, ⟨88, _⟩ => ⟨S16x8x2048x1, .f32⟩
  | .hbm, ⟨89, _⟩ => ⟨S_, .f32⟩
  | .hbm, ⟨90, _⟩ => ⟨S16x8x2048x1, .f32⟩
  | .hbm, ⟨91, _⟩ => ⟨S16x8x2048x1, .f32⟩
  | .hbm, ⟨92, _⟩ => ⟨S16x8x2048x1, .f32⟩
  | .hbm, ⟨93, _⟩ => ⟨S16x8x2048x128, .f32⟩
  | .hbm, ⟨94, _⟩ => ⟨S16x8x2048x128, .f32⟩
  | .hbm, ⟨95, _⟩ => ⟨S1x1x1x128, .f32⟩
  | .hbm, ⟨96, _⟩ => ⟨S16x8x2048x128, .f32⟩
  | .hbm, ⟨97, _⟩ => ⟨S16x8x2048x128, .f32⟩
  | .hbm, ⟨98, _⟩ => ⟨S_, .f32⟩
  | .hbm, ⟨99, _⟩ => ⟨S16x8x2048x128, .f32⟩
  | .hbm, ⟨100, _⟩ => ⟨S16x8x2048x128, .f32⟩
  | .hbm, ⟨101, _⟩ => ⟨S16x2048x8x128, .f32⟩
  | .hbm, ⟨102, _⟩ => ⟨S16x2048x1024, .f32⟩
  | .hbm, ⟨103, _⟩ => ⟨S16x2048x1024, .bf16⟩
  | _, _ => ⟨S16x2304x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_10 : Ref sig .tc := ⟨.hbm, 83, rfl⟩
abbrev main_v69 : Ref sig .tc := ⟨.hbm, 84, rfl⟩
abbrev main_v70 : Ref sig .tc := ⟨.hbm, 85, rfl⟩
abbrev main_cst_11 : Ref sig .tc := ⟨.hbm, 86, rfl⟩
abbrev main_v71 : Ref sig .tc := ⟨.hbm, 87, rfl⟩
abbrev main_v72 : Ref sig .tc := ⟨.hbm, 88, rfl⟩
abbrev main_cst_12 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_13 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩

abbrev nD : Nat := 1
abbrev τ : Topo := Topo.v7x

variable {F : FTy → Type} [FloatOps F]
-- ==== Moe.lean ====
abbrev S93 : Shape := ⟨1, ![93]⟩
abbrev S1 : Shape := ⟨1, ![1]⟩
abbrev S71424x2048 : Shape := ⟨2, ![71424, 2048]⟩
abbrev S8x2048x11264 : Shape := ⟨3, ![8, 2048, 11264]⟩
abbrev S8x5632x2048 : Shape := ⟨3, ![8, 5632, 2048]⟩
abbrev S768x2048 : Shape := ⟨2, ![768, 2048]⟩
abbrev S1x2048x512 : Shape := ⟨3, ![1, 2048, 512]⟩
abbrev S1x512x2048 : Shape := ⟨3, ![1, 512, 2048]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 4
  | .vmem => 10
  | .smem => 2
  | _ => 0

abbrev bufTy : (tb : Table) → Fin (tcTables nBuf tb) → BufTy
  | .hbm, ⟨0, _⟩ => ⟨S71424x2048, .bf16⟩
  | .hbm, ⟨1, _⟩ => ⟨S8x2048x11264, .bf16⟩
  | .hbm, ⟨2, _⟩ => ⟨S8x5632x2048, .bf16⟩
  | .hbm, ⟨3, _⟩ => ⟨S71424x2048, .f32⟩
  | .local _ .vmem, ⟨0, _⟩ => ⟨S768x2048, .bf16⟩
  | .local _ .vmem, ⟨1, _⟩ => ⟨S768x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S768x2048, .f32⟩
  | .local _ .vmem, ⟨9, _⟩ => ⟨S768x2048, .f32⟩
  | .local _ .smem, ⟨0, _⟩ => ⟨S93, .i32⟩
  | .local _ .smem, ⟨1, _⟩ => ⟨S1, .i32⟩
  | _, _ => ⟨S71424x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![93, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S93.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S93.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c11_i32 : BitVec 32 := 11#32
  let v5 : BitVec 32 := Scalar.addi c11_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S93.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S93 : Shape := ⟨1, ![93]⟩
abbrev S1 : Shape := ⟨1, ![1]⟩
abbrev S71424x2048 : Shape := ⟨2, ![71424, 2048]⟩
abbrev S8x2048x11264 : Shape := ⟨3, ![8, 2048, 11264]⟩
abbrev S8x5632x2048 : Shape := ⟨3, ![8, 5632, 2048]⟩
abbrev S71424 : Shape := ⟨1, ![71424]⟩
abbrev S_ : Shape := ⟨0, ![]⟩
abbrev S71424x1 : Shape := ⟨2, ![71424, 1]⟩
abbrev S1x8 : Shape := ⟨2, ![1, 8]⟩
abbrev S71424x8 : Shape := ⟨2, ![71424, 8]⟩
abbrev S1x2048x11264 : Shape := ⟨3, ![1, 2048, 11264]⟩
abbrev S2048x11264 : Shape := ⟨2, ![2048, 11264]⟩
abbrev S71424x11264 : Shape := ⟨2, ![71424, 11264]⟩
abbrev S71424x5632 : Shape := ⟨2, ![71424, 5632]⟩
abbrev S1x5632x2048 : Shape := ⟨3, ![1, 5632, 2048]⟩
abbrev S5632x2048 : Shape := ⟨2, ![5632, 2048]⟩

abbrev nBuf : Space → Nat
  | .hbm => 238
  | .vmem => 0
  | .smem => 0
  | _ => 0

abbrev hbmTy0_0 (i : Nat) : BufTy := match i % 128 with
  | 0 => ⟨S93, .i32⟩
  | 1 => ⟨S1, .i32⟩
  | 2 => ⟨S71424x2048, .bf16⟩
  | 3 => ⟨S8x2048x11264, .bf16⟩
  | 4 => ⟨S8x5632x2048, .bf16⟩
  | 5 => ⟨S71424x2048, .f32⟩
  | 6 => ⟨S71424, .i32⟩
  | 7 => ⟨S_, .i32⟩
  | 8 => ⟨S_, .i32⟩
  | 9 => ⟨S71424, .i32⟩
  | 10 => ⟨S71424, .i32⟩
  | 11 => ⟨S71424, .i32⟩
  | 12 => ⟨S_, .i32⟩
  | 13 => ⟨S71424, .i32⟩
  | 14 => ⟨S71424, .i1⟩
  | 15 => ⟨S71424, .i32⟩
  | 16 => ⟨S71424, .i32⟩
  | 17 => ⟨S_, .i32⟩
  | 18 => ⟨S71424, .i32⟩
  | 19 => ⟨S71424, .i1⟩
  | 20 => ⟨S71424, .i1⟩
  | 21 => ⟨S_, .i32⟩
  | 22 => ⟨S71424, .i32⟩
  | 23 => ⟨S71424, .i32⟩
  | 24 => ⟨S71424, .i32⟩
  | 25 => ⟨S_, .i32⟩
  | 26 => ⟨S71424, .i32⟩
  | 27 => ⟨S71424, .i1⟩
  | 28 => ⟨S_, .i32⟩
  | 29 => ⟨S71424, .i32⟩
  | 30 => ⟨S71424, .i32⟩
  | 31 => ⟨S71424, .i32⟩
  | 32 => ⟨S71424x1, .i32⟩
  | 33 => ⟨S71424, .i32⟩
  | 34 => ⟨S71424x1, .i32⟩
  | 35 => ⟨S1x8, .i32⟩
  | 36 => ⟨S71424x8, .i32⟩
  | 37 => ⟨S71424x8, .i32⟩
  | 38 => ⟨S71424x8, .i1⟩
  | 39 => ⟨S71424x8, .f32⟩
  | 40 => ⟨S_, .i32⟩
  | 41 => ⟨S71424, .i32⟩
  | 42 => ⟨S71424, .i1⟩
  | 43 => ⟨S71424x1, .i1⟩
  | 44 => ⟨S71424x1, .f32⟩
  | 45 => ⟨S71424x8, .f32⟩
  | 46 => ⟨S71424x8, .f32⟩
  | 47 => ⟨S1x2048x11264, .bf16⟩
  | 48 => ⟨S2048x11264, .bf16⟩
  | 49 => ⟨S2048x11264, .f32⟩
  | 50 => ⟨S71424x11264, .f32⟩
  | 51 => ⟨S71424x5632, .f32⟩
  | 52 => ⟨S71424x5632, .f32⟩
  | 53 => ⟨S71424x5632, .f32⟩
  | 54 => ⟨S71424x5632, .f32⟩
  | 55 => ⟨S_, .f32⟩
  | 56 => ⟨S71424x5632, .f32⟩
  | 57 => ⟨S71424x5632, .f32⟩
  | 58 => ⟨S_, .f32⟩
  | 59 => ⟨S71424x5632, .f32⟩
  | 60 => ⟨S71424x5632, .f32⟩
  | 61 => ⟨S71424x5632, .f32⟩
  | 62 => ⟨S71424x5632, .f32⟩
  | 63 => ⟨S1x5632x2048, .bf16⟩
  | 64 => ⟨S5632x2048, .bf16⟩
  | 65 => ⟨S5632x2048, .f32⟩
  | 66 => ⟨S71424x2048, .f32⟩
  | 67 => ⟨S71424x1, .f32⟩
  | 68 => ⟨S71424x2048, .f32⟩
  | 69 => ⟨S71424x2048, .f32⟩
  | 70 => ⟨S1x2048x11264, .bf16⟩
  | 71 => ⟨S2048x11264, .bf16⟩
  | 72 => ⟨S2048x11264, .f32⟩
  | 73 => ⟨S71424x11264, .f32⟩
  | 74 => ⟨S71424x5632, .f32⟩
  | 75 => ⟨S71424x5632, .f32⟩
  | 76 => ⟨S71424x5632, .f32⟩
  | 77 => ⟨S71424x5632, .f32⟩
  | 78 => ⟨S_, .f32⟩
  | 79 => ⟨S71424x5632, .f32⟩
  | 80 => ⟨S71424x5632, .f32⟩
  | 81 => ⟨S_, .f32⟩
  | 82 => ⟨S71424x5632, .f32⟩
  | 83 => ⟨S71424x5632, .f32⟩
  | 84 => ⟨S71424x5632, .f32⟩
  | 85 => ⟨S71424x5632, .f32⟩
  | 86 => ⟨S1x5632x2048, .bf16⟩
  | 87 => ⟨S5632x2048, .bf16⟩
  | 88 => ⟨S5632x2048, .f32⟩
  | 89 => ⟨S71424x2048, .f32⟩
  | 90 => ⟨S71424x1, .f32⟩
  | 91 => ⟨S71424x2048, .f32⟩
  | 92 => ⟨S71424x2048, .f32⟩
  | 93 => ⟨S71424x2048, .f32⟩
  | 94 => ⟨S1x2048x11264, .bf16⟩
  | 95 => ⟨S2048x11264, .bf16⟩
  | 96 => ⟨S2048x11264, .f32⟩
  | 97 => ⟨S71424x11264, .f32⟩
  | 98 => ⟨S71424x5632, .f32⟩
  | 99 => ⟨S71424x5632, .f32⟩
  | 100 => ⟨S71424x5632, .f32⟩
  | 101 => ⟨S71424x5632, .f32⟩
  | 102 => ⟨S_, .f32⟩
  | 103 => ⟨S71424x5632, .f32⟩
  | 104 => ⟨S71424x5632, .f32⟩
  | 105 => ⟨S_, .f32⟩
  | 106 => ⟨S71424x5632, .f32⟩
  | 107 => ⟨S71424x5632, .f32⟩
  | 108 => ⟨S71424x5632, .f32⟩
  | 109 => ⟨S71424x5632, .f32⟩
  | 110 => ⟨S1x5632x2048, .bf16⟩
  | 111 => ⟨S5632x2048, .bf16⟩
  | 112 => ⟨S5632x2048, .f32⟩
  | 113 => ⟨S71424x2048, .f32⟩
  | 114 => ⟨S71424x1, .f32⟩
  | 115 => ⟨S71424x2048, .f32⟩
  | 116 => ⟨S71424x2048, .f32⟩
  | 117 => ⟨S71424x2048, .f32⟩
  | 118 => ⟨S1x2048x11264, .bf16⟩
  | 119 => ⟨S2048x11264, .bf16⟩
  | 120 => ⟨S2048x11264, .f32⟩
  | 121 => ⟨S71424x11264, .f32⟩
  | 122 => ⟨S71424x5632, .f32⟩
  | 123 => ⟨S71424x5632, .f32⟩
  | 124 => ⟨S71424x5632, .f32⟩
  | 125 => ⟨S71424x5632, .f32⟩
  | 126 => ⟨S_, .f32⟩
  | 127 => ⟨S71424x5632, .f32⟩
  | _ => ⟨S93, .i32⟩

abbrev hbmTy0_1 (i : Nat) : BufTy := match i % 128 with
  | 0 => ⟨S71424x5632, .f32⟩
  | 1 => ⟨S_, .f32⟩
  | 2 => ⟨S71424x5632, .f32⟩
  | 3 => ⟨S71424x5632, .f32⟩
  | 4 => ⟨S71424x5632, .f32⟩
  | 5 => ⟨S71424x5632, .f32⟩
  | 6 => ⟨S1x5632x2048, .bf16⟩
  | 7 => ⟨S5632x2048, .bf16⟩
  | 8 => ⟨S5632x2048, .f32⟩
  | 9 => ⟨S71424x2048, .f32⟩
  | 10 => ⟨S71424x1, .f32⟩
  | 11 => ⟨S71424x2048, .f32⟩
  | 12 => ⟨S71424x2048, .f32⟩
  | 13 => ⟨S71424x2048, .f32⟩
  | 14 => ⟨S1x2048x11264, .bf16⟩
  | 15 => ⟨S2048x11264, .bf16⟩
  | 16 => ⟨S2048x11264, .f32⟩
  | 17 => ⟨S71424x11264, .f32⟩
  | 18 => ⟨S71424x5632, .f32⟩
  | 19 => ⟨S71424x5632, .f32⟩
  | 20 => ⟨S71424x5632, .f32⟩
  | 21 => ⟨S71424x5632, .f32⟩
  | 22 => ⟨S_, .f32⟩
  | 23 => ⟨S71424x5632, .f32⟩
  | 24 => ⟨S71424x5632, .f32⟩
  | 25 => ⟨S_, .f32⟩
  | 26 => ⟨S71424x5632, .f32⟩
  | 27 => ⟨S71424x5632, .f32⟩
  | 28 => ⟨S71424x5632, .f32⟩
  | 29 => ⟨S71424x5632, .f32⟩
  | 30 => ⟨S1x5632x2048, .bf16⟩
  | 31 => ⟨S5632x2048, .bf16⟩
  | 32 => ⟨S5632x2048, .f32⟩
  | 33 => ⟨S71424x2048, .f32⟩
  | 34 => ⟨S71424x1, .f32⟩
  | 35 => ⟨S71424x2048, .f32⟩
  | 36 => ⟨S71424x2048, .f32⟩
  | 37 => ⟨S71424x2048, .f32⟩
  | 38 => ⟨S1x2048x11264, .bf16⟩
  | 39 => ⟨S2048x11264, .bf16⟩
  | 40 => ⟨S2048x11264, .f32⟩
  | 41 => ⟨S71424x11264, .f32⟩
  | 42 => ⟨S71424x5632, .f32⟩
  | 43 => ⟨S71424x5632, .f32⟩
  | 44 => ⟨S71424x5632, .f32⟩
  | 45 => ⟨S71424x5632, .f32⟩
  | 46 => ⟨S_, .f32⟩
  | 47 => ⟨S71424x5632, .f32⟩
  | 48 => ⟨S71424x5632, .f32⟩
  | 49 => ⟨S_, .f32⟩
  | 50 => ⟨S71424x5632, .f32⟩
  | 51 => ⟨S71424x5632, .f32⟩
  | 52 => ⟨S71424x5632, .f32⟩
  | 53 => ⟨S71424x5632, .f32⟩
  | 54 => ⟨S1x5632x2048, .bf16⟩
  | 55 => ⟨S5632x2048, .bf16⟩
  | 56 => ⟨S5632x2048, .f32⟩
  | 57 => ⟨S71424x2048, .f32⟩
  | 58 => ⟨S71424x1, .f32⟩
  | 59 => ⟨S71424x2048, .f32⟩
  | 60 => ⟨S71424x2048, .f32⟩
  | 61 => ⟨S71424x2048, .f32⟩
  | 62 => ⟨S1x2048x11264, .bf16⟩
  | 63 => ⟨S2048x11264, .bf16⟩
  | 64 => ⟨S2048x11264, .f32⟩
  | 65 => ⟨S71424x11264, .f32⟩
  | 66 => ⟨S71424x5632, .f32⟩
  | 67 => ⟨S71424x5632, .f32⟩
  | 68 => ⟨S71424x5632, .f32⟩
  | 69 => ⟨S71424x5632, .f32⟩
  | 70 => ⟨S_, .f32⟩
  | 71 => ⟨S71424x5632, .f32⟩
  | 72 => ⟨S71424x5632, .f32⟩
  | 73 => ⟨S_, .f32⟩
  | 74 => ⟨S71424x5632, .f32⟩
  | 75 => ⟨S71424x5632, .f32⟩
  | 76 => ⟨S71424x5632, .f32⟩
  | 77 => ⟨S71424x5632, .f32⟩
  | 78 => ⟨S1x5632x2048, .bf16⟩
  | 79 => ⟨S5632x2048, .bf16⟩
  | 80 => ⟨S5632x2048, .f32⟩
  | 81 => ⟨S71424x2048, .f32⟩
  | 82 => ⟨S71424x1, .f32⟩
  | 83 => ⟨S71424x2048, .f32⟩
  | 84 => ⟨S71424x2048, .f32⟩
  | 85 => ⟨S71424x2048, .f32⟩
  | 86 => ⟨S1x2048x11264, .bf16⟩
  | 87 => ⟨S2048x11264, .bf16⟩
  | 88 => ⟨S2048x11264, .f32⟩
  | 89 => ⟨S71424x11264, .f32⟩
  | 90 => ⟨S71424x5632, .f32⟩
  | 91 => ⟨S71424x5632, .f32⟩
  | 92 => ⟨S71424x5632, .f32⟩
  | 93 => ⟨S71424x5632, .f32⟩
  | 94 => ⟨S_, .f32⟩
  | 95 => ⟨S71424x5632, .f32⟩
  | 96 => ⟨S71424x5632, .f32⟩
  | 97 => ⟨S_, .f32⟩
  | 98 => ⟨S71424x5632, .f32⟩
  | 99 => ⟨S71424x5632, .f32⟩
  | 100 => ⟨S71424x5632, .f32⟩
  | 101 => ⟨S71424x5632, .f32⟩
  | 102 => ⟨S1x5632x2048, .bf16⟩
  | 103 => ⟨S5632x2048, .bf16⟩
  | 104 => ⟨S5632x2048, .f32⟩
  | 105 => ⟨S71424x2048, .f32⟩
  | 106 => ⟨S71424x1, .f32⟩
  | 107 => ⟨S71424x2048, .f32⟩
  | 108 => ⟨S71424x2048, .f32⟩
  | 109 => ⟨S71424x2048, .f32⟩
  | _ => ⟨S93, .i32⟩

abbrev hbmTy (i : Nat) : BufTy := match i / 128 with
  | 0 => hbmTy0_0 i
  | 1 => hbmTy0_1 i
  | _ => ⟨S93, .i32⟩

abbrev bufTy : (tb : Table) → Fin (tcTables nBuf tb) → BufTy
  | .hbm, ⟨i, _⟩ => hbmTy i
  | _, _ => ⟨S93, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_call7_v0 : Ref sig .tc := ⟨.hbm, 172, rfl⟩
abbrev main_call7_v1 : Ref sig .tc := ⟨.hbm, 173, rfl⟩
abbrev main_call7_cst : Ref sig .tc := ⟨.hbm, 174, rfl⟩
abbrev main_call7_v2 : Ref sig .tc := ⟨.hbm, 175, rfl⟩
abbrev main_call7_v3 : Ref sig .tc := ⟨.hbm, 176, rfl⟩
abbrev main_call7_cst_0 : Ref sig .tc := ⟨.hbm, 177, rfl⟩
abbrev main_call7_v4 : Ref sig .tc := ⟨.hbm, 178, rfl⟩
abbrev main_call7_v5 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_call8_v0 : Ref sig .tc := ⟨.hbm, 196, rfl⟩
abbrev main_call8_v1 : Ref sig .tc := ⟨.hbm, 197, rfl⟩
abbrev main_call8_cst : Ref sig .tc := ⟨.hbm, 198, rfl⟩
abbrev main_call8_v2 : Ref sig .tc := ⟨.hbm, 199, rfl⟩
abbrev main_call8_v3 : Ref sig .tc := ⟨.hbm, 200, rfl⟩
abbrev main_call8_cst_0 : Ref sig .tc := ⟨.hbm, 201, rfl⟩
abbrev main_call8_v4 : Ref sig .tc := ⟨.hbm, 202, rfl⟩
abbrev main_call8_v5 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_call9_v0 : Ref sig .tc := ⟨.hbm, 220, rfl⟩
abbrev main_call9_v1 : Ref sig .tc := ⟨.hbm, 221, rfl⟩
abbrev main_call9_cst : Ref sig .tc := ⟨.hbm, 222, rfl⟩
abbrev main_call9_v2 : Ref sig .tc := ⟨.hbm, 223, rfl⟩
abbrev main_call9_v3 : Ref sig .tc := ⟨.hbm, 224, rfl⟩
abbrev main_call9_cst_0 : Ref sig .tc := ⟨.hbm, 225, rfl⟩
abbrev main_call9_v4 : Ref sig .tc := ⟨.hbm, 226, rfl⟩
abbrev main_call9_v5 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩

abbrev nD : Nat := 1
abbrev τ : Topo := Topo.v7x

variable {F : FTy → Type} [FloatOps F]
-- ==== Merge.lean ====
abbrev S16x2304x2048 : Shape := ⟨3, ![16, 2304, 2048]⟩
abbrev S16x2304x1024 : Shape := ⟨3, ![16, 2304, 1024]⟩
abbrev S2048x6144 : Shape := ⟨2, ![2048, 6144]⟩
abbrev S3x1024x2048 : Shape := ⟨3, ![3, 1024, 2048]⟩
abbrev S1x1152x2048 : Shape := ⟨3, ![1, 1152, 2048]⟩
abbrev S1x1152x1024 : Shape := ⟨3, ![1, 1152, 1024]⟩
abbrev S2048x512 : Shape := ⟨2, ![2048, 512]⟩
abbrev S3x1024x512 : Shape := ⟨3, ![3, 1024, 512]⟩
abbrev S1x1152x512 : Shape := ⟨3, ![1, 1152, 512]⟩
abbrev S1152x2048 : Shape := ⟨2, ![1152, 2048]⟩
abbrev S1152x512 : Shape := ⟨2, ![1152, 512]⟩
abbrev S1152x1024 : Shape := ⟨2, ![1152, 1024]⟩
abbrev S1x1024x512 : Shape := ⟨3, ![1, 1024, 512]⟩
abbrev S1024x512 : Shape := ⟨2, ![1024, 512]⟩

abbrev nBuf : Space → Nat
  | .hbm => 7
  | .vmem => 18
  | .smem => 0
  | _ => 0

abbrev bufTy : (tb : Table) → Fin (tcTables nBuf tb) → BufTy
  | .hbm, ⟨0, _⟩ => ⟨S16x2304x2048, .bf16⟩
  | .hbm, ⟨1, _⟩ => ⟨S16x2304x1024, .bf16⟩
  | .hbm, ⟨2, _⟩ => ⟨S16x2304x1024, .bf16⟩
  | .hbm, ⟨3, _⟩ => ⟨S16x2304x1024, .bf16⟩
  | .hbm, ⟨4, _⟩ => ⟨S2048x6144, .bf16⟩
  | .hbm, ⟨5, _⟩ => ⟨S3x1024x2048, .bf16⟩
  | .hbm, ⟨6, _⟩ => ⟨S16x2304x2048, .bf16⟩
  | .local _ .vmem, ⟨0, _⟩ => ⟨S1x1152x2048, .bf16⟩
  | .local _ .vmem, ⟨1, _⟩ => ⟨S1x1152x2048, .bf16⟩
  | .local _ .vmem, ⟨2, _⟩ => ⟨S1x1152x1024, .bf16⟩
  | .local _ .vmem, ⟨3, _⟩ => ⟨S1x1152x1024, .bf16⟩
  | .local _ .vmem, ⟨4, _⟩ => ⟨S1x1152x1024, .bf16⟩
  | .local _ .vmem, ⟨5, _⟩ => ⟨S1x1152x1024, .bf16⟩
  | .local _ .vmem, ⟨6, _⟩ => ⟨S1x1152x1024, .bf16⟩
  | .local _ .vmem, ⟨7, _⟩ => ⟨S1x1152x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x1024x512, .bf16⟩
  | .local _ .vmem, ⟨15, _⟩ => ⟨S3x1024x512, .bf16⟩
  | .local _ .vmem, ⟨16, _⟩ => ⟨S1x1152x512, .bf16⟩
  | .local _ .vmem, ⟨17, _⟩ => ⟨S1x1152x512, .bf16⟩
  | _, _ => ⟨S16x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1152x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== MergeRefIdeal.lean ====
abbrev S16x2304x2048 : Shape := ⟨3, ![16, 2304, 2048]⟩
abbrev S16x2304x1024 : Shape := ⟨3, ![16, 2304, 1024]⟩
abbrev S2048x6144 : Shape := ⟨2, ![2048, 6144]⟩
abbrev S3x1024x2048 : Shape := ⟨3, ![3, 1024, 2048]⟩
abbrev S16x2304x6144 : Shape := ⟨3, ![16, 2304, 6144]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x2304x2048, .bf16⟩
  | .hbm, ⟨1, _⟩ => ⟨S16x2304x1024, .bf16⟩
  | .hbm, ⟨2, _⟩ => ⟨S16x2304x1024, .bf16⟩
  | .hbm, ⟨3, _⟩ => ⟨S16x2304x1024, .bf16⟩
  | .hbm, ⟨4, _⟩ => ⟨S2048x6144, .bf16⟩
  | .hbm, ⟨5, _⟩ => ⟨S3x1024x2048, .bf16⟩
  | .hbm, ⟨6, _⟩ => ⟨S16x2304x1024, .f32⟩
  | .hbm, ⟨7, _⟩ => ⟨S16x2304x1024, .f32⟩
  | .hbm, ⟨8, _⟩ => ⟨S16x2304x1024, .f32⟩
  | .hbm, ⟨9, _⟩ => ⟨S3x1024x2048, .f32⟩
  | .hbm, ⟨10, _⟩ => ⟨S16x2304x2048, .f32⟩
  | .hbm, ⟨11, _⟩ => ⟨S2048x6144, .f32⟩
  | .hbm, ⟨12, _⟩ => ⟨S16x2304x6144, .f32⟩
  | .hbm, ⟨13, _⟩ => ⟨S16x2304x6144, .f32⟩
  | .hbm, ⟨14, _⟩ => ⟨S16x2304x6144, .f32⟩
  | .hbm, ⟨15, _⟩ => ⟨S_, .f32⟩
  | .hbm, ⟨16, _⟩ => ⟨S16x2304x6144, .f32⟩
  | .hbm, ⟨17, _⟩ => ⟨S16x2304x6144, .f32⟩
  | .hbm, ⟨18, _⟩ => ⟨S_, .f32⟩
  | .hbm, ⟨19, _⟩ => ⟨S16x2304x6144, .f32⟩
  | .hbm, ⟨20, _⟩ => ⟨S16x2304x6144, .f32⟩
  | .hbm, ⟨21, _⟩ => ⟨S16x2304x2048, .f32⟩
  | .hbm, ⟨22, _⟩ => ⟨S1x1024x2048, .f32⟩
  | .hbm, ⟨23, _⟩ => ⟨S1024x2048, .f32⟩
  | .hbm, ⟨24, _⟩ => ⟨S16x2304x2048, .f32⟩
  | .hbm, ⟨25, _⟩ => ⟨S16x2304x2048, .f32⟩
  | .hbm, ⟨26, _⟩ => ⟨S16x2304x2048, .f32⟩
  | .hbm, ⟨27, _⟩ => ⟨S1x1024x2048, .f32⟩
  | .hbm, ⟨28, _⟩ => ⟨S1024x2048, .f32⟩
  | .hbm, ⟨29, _⟩ => ⟨S16x2304x2048, .f32⟩
  | .hbm, ⟨30, _⟩ => ⟨S16x2304x2048, .f32⟩
  | .hbm, ⟨31, _⟩ => ⟨S16x2304x2048, .f32⟩
  | .hbm, ⟨32, _⟩ => ⟨S16x2304x2048, .f32⟩
  | .hbm, ⟨33, _⟩ => ⟨S1x1024x2048, .f32⟩
  | .hbm, ⟨34, _⟩ => ⟨S1024x2048, .f32⟩
  | .hbm, ⟨35, _⟩ => ⟨S16x2304x2048, .f32⟩
  | .hbm, ⟨36, _⟩ => ⟨S16x2304x2048, .f32⟩
  | .hbm, ⟨37, _⟩ => ⟨S16x2304x2048, .f32⟩
  | .hbm, ⟨38, _⟩ => ⟨S16x2304x2048, .bf16⟩
  | _, _ => ⟨S16x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Ffn.lean ====
abbrev S16x2304x2048 : Shape := ⟨3, ![16, 2304, 2048]⟩
abbrev S2048x11264 : Shape := ⟨2, ![2048, 11264]⟩
abbrev S5632x2048 : Shape := ⟨2, ![5632, 2048]⟩
abbrev S2048 : Shape := ⟨1, ![2048]⟩
abbrev S24x6x1x2048 : Shape := ⟨4, ![24, 6, 1, 2048]⟩
abbrev S1x2048 : Shape := ⟨2, ![1, 2048]⟩
abbrev S1x576x2048 : Shape := ⟨3, ![1, 576, 2048]⟩
abbrev S2048x512 : Shape := ⟨2, ![2048, 512]⟩
abbrev S512x2048 : Shape := ⟨2, ![512, 2048]⟩
abbrev S1x6x1x2048 : Shape := ⟨4, ![1, 6, 1, 2048]⟩
abbrev S576x2048 : Shape := ⟨2, ![576, 2048]⟩
abbrev S576x512 : Shape := ⟨2, ![576, 512]⟩
abbrev S576x1 : Shape := ⟨2, ![576, 1]⟩
abbrev S1x1x1x2048 : Shape := ⟨4, ![1, 1, 1, 2048]⟩
abbrev S576 : Shape := ⟨1, ![576]⟩

abbrev nBuf : Space → Nat
  | .hbm => 12
  | .vmem => 22
  | .smem => 0
  | _ => 0

abbrev bufTy : (tb : Table) → Fin (tcTables nBuf tb) → BufTy
  | .hbm, ⟨0, _⟩ => ⟨S16x2304x2048, .bf16⟩
  | .hbm, ⟨1, _⟩ => ⟨S2048x11264, .bf16⟩
  | .hbm, ⟨2, _⟩ => ⟨S5632x2048, .bf16⟩
  | .hbm, ⟨3, _⟩ => ⟨S16x2304x2048, .f32⟩
  | .hbm, ⟨4, _⟩ => ⟨S2048, .f32⟩
  | .hbm, ⟨5, _⟩ => ⟨S24x6x1x2048, .f32⟩
  | .hbm, ⟨6, _⟩ => ⟨S2048, .f32⟩
  | .hbm, ⟨7, _⟩ => ⟨S24x6x1x2048, .f32⟩
  | .hbm, ⟨8, _⟩ => ⟨S1x2048, .f32⟩
  | .hbm, ⟨9, _⟩ => ⟨S1x2048, .f32⟩
  | .hbm, ⟨10, _⟩ => ⟨S16x2304x2048, .f32⟩
  | .hbm, ⟨11, _⟩ => ⟨S16x2304x2048, .bf16⟩
  | .local _ .vmem, ⟨0, _⟩ => ⟨S1x576x2048, .bf16⟩
  | .local _ .vmem, ⟨1, _⟩ => ⟨S1x576x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x576x2048, .f32⟩
  | .local _ .vmem, ⟨9, _⟩ => ⟨S1x576x2048, .f32⟩
  | .local _ .vmem, ⟨10, _⟩ => ⟨S1x2048, .f32⟩
  | .local _ .vmem, ⟨11, _⟩ => ⟨S1x6x1x2048, .f32⟩
  | .local _ .vmem, ⟨12, _⟩ => ⟨S1x6x1x2048, .f32⟩
  | .local _ .vmem, ⟨13, _⟩ => ⟨S1x6x1x2048, .f32⟩
  | .local _ .vmem, ⟨14, _⟩ => ⟨S1x2048, .f32⟩
  | .local _ .vmem, ⟨15, _⟩ => ⟨S1x6x1x2048, .f32⟩
  | .local _ .vmem, ⟨16, _⟩ => ⟨S1x6x1x2048, .f32⟩
  | .local _ .vmem, ⟨17, _⟩ => ⟨S1x6x1x2048, .f32⟩
  | .local _ .vmem, ⟨18, _⟩ => ⟨S1x576x2048, .f32⟩
  | .local _ .vmem, ⟨19, _⟩ => ⟨S1x576x2048, .f32⟩
  | .local _ .vmem, ⟨20, _⟩ => ⟨S1x576x2048, .bf16⟩
  | .local _ .vmem, ⟨21, _⟩ => ⟨S1x576x2048, .bf16⟩
  | _, _ => ⟨S16x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v21 : BitVec 1 := Scalar.cmpi .eq arg2 c10_i32
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  let c0_i32_1 : BitVec 32 := 0#32
  let c0_i32_2 : BitVec 32 := 0#32
  ![c16_i32.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  let c0_i32_1 : BitVec 32 := 0#32
  let c0_i32_2 : BitVec 32 := 0#32
  ![c16_i32.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x576x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x576x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x6x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x6x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x6x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x6x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x576x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x576x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== FfnRefIdeal.lean ====
abbrev S16x2304x2048 : Shape := ⟨3, ![16, 2304, 2048]⟩
abbrev S2048x11264 : Shape := ⟨2, ![2048, 11264]⟩
abbrev S5632x2048 : Shape := ⟨2, ![5632, 2048]⟩
abbrev S2048 : Shape := ⟨1, ![2048]⟩
abbrev S24x6x1x2048 : Shape := ⟨4, ![24, 6, 1, 2048]⟩
abbrev S16x2304x11264 : Shape := ⟨3, ![16, 2304, 11264]⟩
abbrev S16x2304x5632 : Shape := ⟨3, ![16, 2304, 5632]⟩
abbrev S_ : Shape := ⟨0, ![]⟩
abbrev S16x1x1x2048 : Shape := ⟨4, ![16, 1, 1, 2048]⟩
abbrev S16x1x2048 : Shape := ⟨3, ![16, 1, 2048]⟩
abbrev S16x2048x2048 : Shape := ⟨3, ![16, 2048, 2048]⟩
abbrev S1x1x1x2048 : Shape := ⟨4, ![1, 1, 1, 2048]⟩
abbrev S1x2048 : Shape := ⟨2, ![1, 2048]⟩
abbrev S16x256x2048 : Shape := ⟨3, ![16, 256, 2048]⟩
abbrev S16x2304 : Shape := ⟨2, ![16, 2304]⟩
abbrev S16x2304x1 : Shape := ⟨3, ![16, 2304, 1]⟩
abbrev S1x1x2048 : Shape := ⟨3, ![1, 1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S16x2304x2048, .bf16⟩
  | .hbm, ⟨1, _⟩ => ⟨S2048x11264, .bf16⟩
  | .hbm, ⟨2, _⟩ => ⟨S5632x2048, .bf16⟩
  | .hbm, ⟨3, _⟩ => ⟨S16x2304x2048, .f32⟩
  | .hbm, ⟨4, _⟩ => ⟨S2048, .f32⟩
  | .hbm, ⟨5, _⟩ => ⟨S24x6x1x2048, .f32⟩
  | .hbm, ⟨6, _⟩ => ⟨S2048, .f32⟩
  | .hbm, ⟨7, _⟩ => ⟨S24x6x1x2048, .f32⟩
  | .hbm, ⟨8, _⟩ => ⟨S16x2304x2048, .f32⟩
  | .hbm, ⟨9, _⟩ => ⟨S2048x11264, .f32⟩
  | .hbm, ⟨10, _⟩ => ⟨S16x2304x11264, .f32⟩
  | .hbm, ⟨11, _⟩ => ⟨S16x2304x5632, .f32⟩
  | .hbm, ⟨12, _⟩ => ⟨S16x2304x5632, .f32⟩
  | .hbm, ⟨13, _⟩ => ⟨S16x2304x5632, .f32⟩
  | .hbm, ⟨14, _⟩ => ⟨S16x2304x5632, .f32⟩
  | .hbm, ⟨15, _⟩ => ⟨S_, .f32⟩
  | .hbm, ⟨16, _⟩ => ⟨S16x2304x5632, .f32⟩
  | .hbm, ⟨17, _⟩ => ⟨S16x2304x5632, .f32⟩
  | .hbm, ⟨18, _⟩ => ⟨S_, .f32⟩
  | .hbm, ⟨19, _⟩ => ⟨S16x2304x5632, .f32⟩
  | .hbm, ⟨20, _⟩ => ⟨S16x2304x5632, .f32⟩
  | .hbm, ⟨21, _⟩ => ⟨S16x2304x5632, .f32⟩
  | .hbm, ⟨22, _⟩ => ⟨S16x2304x5632, .f32⟩
  | .hbm, ⟨23, _⟩ => ⟨S5632x2048, .f32⟩
  | .hbm, ⟨24, _⟩ => ⟨S16x2304x2048, .f32⟩
  | .hbm, ⟨25, _⟩ => ⟨S16x1x1x2048, .f32⟩
  | .hbm, ⟨26, _⟩ => ⟨S16x1x2048, .f32⟩
  | .hbm, ⟨27, _⟩ => ⟨S16x2048x2048, .f32⟩
  | .hbm, ⟨28, _⟩ => ⟨S1x1x1x2048, .f32⟩
  | .hbm, ⟨29, _⟩ => ⟨S1x2048, .f32⟩
  | .hbm, ⟨30, _⟩ => ⟨S16x256x2048, .f32⟩
  | .hbm, ⟨31, _⟩ => ⟨S16x2304x2048, .f32⟩
  | .hbm, ⟨32, _⟩ => ⟨S16x2304x2048, .f32⟩
  | .hbm, ⟨33, _⟩ => ⟨S_, .f32⟩
  | .hbm, ⟨34, _⟩ => ⟨S16x2304, .f32⟩
  | .hbm, ⟨35, _⟩ => ⟨S16x2304x1, .f32⟩
  | .hbm, ⟨36, _⟩ => ⟨S_, .f32⟩
  | .hbm, ⟨37, _⟩ => ⟨S16x2304x1, .f32⟩
  | .hbm, ⟨38, _⟩ => ⟨S16x2304x1, .f32⟩
  | .hbm, ⟨39, _⟩ => ⟨S_, .f32⟩
  | .hbm, ⟨40, _⟩ => ⟨S16x2304x1, .f32⟩
  | .hbm, ⟨41, _⟩ => ⟨S16x2304x1, .f32⟩
  | .hbm, ⟨42, _⟩ => ⟨S16x2304x1, .f32⟩
  | .hbm, ⟨43, _⟩ => ⟨S16x2304x2048, .f32⟩
  | .hbm, ⟨44, _⟩ => ⟨S16x2304x2048, .f32⟩
  | .hbm, ⟨45, _⟩ => ⟨S1x1x2048, .f32⟩
  | .hbm, ⟨46, _⟩ => ⟨S16x2304x2048, .f32⟩
  | .hbm, ⟨47, _⟩ => ⟨S16x2304x2048, .f32⟩
  | .hbm, ⟨48, _⟩ => ⟨S16x2304x2048, .f32⟩
  | .hbm, ⟨49, _⟩ => ⟨S16x2304x2048, .f32⟩
  | .hbm, ⟨50, _⟩ => ⟨S16x2304x2048, .f32⟩
  | .hbm, ⟨51, _⟩ => ⟨S_, .f32⟩
  | .hbm, ⟨52, _⟩ => ⟨S16x2304, .f32⟩
  | .hbm, ⟨53, _⟩ => ⟨S16x2304x1, .f32⟩
  | .hbm, ⟨54, _⟩ => ⟨S_, .f32⟩
  | .hbm, ⟨55, _⟩ => ⟨S16x2304x1, .f32⟩
  | .hbm, ⟨56, _⟩ => ⟨S16x2304x1, .f32⟩
  | .hbm, ⟨57, _⟩ => ⟨S_, .f32⟩
  | .hbm, ⟨58, _⟩ => ⟨S16x2304x1, .f32⟩
  | .hbm, ⟨59, _⟩ => ⟨S16x2304x1, .f32⟩
  | .hbm, ⟨60, _⟩ => ⟨S16x2304x1, .f32⟩
  | .hbm, ⟨61, _⟩ => ⟨S16x2304x2048, .f32⟩
  | .hbm, ⟨62, _⟩ => ⟨S16x2304x2048, .f32⟩
  | .hbm, ⟨63, _⟩ => ⟨S1x1x2048, .f32⟩
  | .hbm, ⟨64, _⟩ => ⟨S16x2304x2048, .f32⟩
  | .hbm, ⟨65, _⟩ => ⟨S16x2304x2048, .f32⟩
  | .hbm, ⟨66, _⟩ => ⟨S16x1x1x2048, .f32⟩
  | .hbm, ⟨67, _⟩ => ⟨S16x1x2048, .f32⟩
  | .hbm, ⟨68, _⟩ => ⟨S16x2048x2048, .f32⟩
  | .hbm, ⟨69, _⟩ => ⟨S1x1x1x2048, .f32⟩
  | .hbm, ⟨70, _⟩ => ⟨S1x2048, .f32⟩
  | .hbm, ⟨71, _⟩ => ⟨S16x256x2048, .f32⟩
  | .hbm, ⟨72, _⟩ => ⟨S16x2304x2048, .f32⟩
  | .hbm, ⟨73, _⟩ => ⟨S_, .f32⟩
  | .hbm, ⟨74, _⟩ => ⟨S16x2304x2048, .f32⟩
  | .hbm, ⟨75, _⟩ => ⟨S16x2304x2048, .f32⟩
  | .hbm, ⟨76, _⟩ => ⟨S16x2304x2048, .f32⟩
  | .hbm, ⟨77, _⟩ => ⟨S16x1x1x2048, .f32⟩
  | .hbm, ⟨78, _⟩ => ⟨S16x1x2048, .f32⟩
  | .hbm, ⟨79, _⟩ => ⟨S16x2048x2048, .f32⟩
  | .hbm, ⟨80, _⟩ => ⟨S1x1x1x2048, .f32⟩
  | .hbm, ⟨81, _⟩ => ⟨S1x2048, .f32⟩
  | .hbm, ⟨82, _⟩ => ⟨S16x256x2048, .f32⟩
  | .hbm, ⟨83, _⟩ => ⟨S16x2304x2048, .f32⟩
  | .hbm, ⟨84, _⟩ => ⟨S16x2304x2048, .f32⟩
  | .hbm, ⟨85, _⟩ => ⟨S16x2304x2048, .bf16⟩
  | _, _ => ⟨S16x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Last.lean ====
abbrev S16x2304x2048 : Shape := ⟨3, ![16, 2304, 2048]⟩
abbrev S16x2048x1024 : Shape := ⟨3, ![16, 2048, 1024]⟩
abbrev S2048x6144 : Shape := ⟨2, ![2048, 6144]⟩
abbrev S3x1024x2048 : Shape := ⟨3, ![3, 1024, 2048]⟩
abbrev S16x2048x2048 : Shape := ⟨3, ![16, 2048, 2048]⟩
abbrev S1x1024x2048 : Shape := ⟨3, ![1, 1024, 2048]⟩
abbrev S1x1024x1024 : Shape := ⟨3, ![1, 1024, 1024]⟩
abbrev S2048x512 : Shape := ⟨2, ![2048, 512]⟩
abbrev S3x1024x512 : Shape := ⟨3, ![3, 1024, 512]⟩
abbrev S1x1024x512 : Shape := ⟨3, ![1, 1024, 512]⟩
abbrev S1024x2048 : Shape := ⟨2, ![1024, 2048]⟩
abbrev S1024x512 : Shape := ⟨2, ![1024, 512]⟩
abbrev S1024x1024 : Shape := ⟨2, ![1024, 1024]⟩

abbrev nBuf : Space → Nat
  | .hbm => 7
  | .vmem => 18
  | .smem => 0
  | _ => 0

abbrev bufTy : (tb : Table) → Fin (tcTables nBuf tb) → BufTy
  | .hbm, ⟨0, _⟩ => ⟨S16x2304x2048, .bf16⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S2048x6144, .bf16⟩
  | .hbm, ⟨5, _⟩ => ⟨S3x1024x2048, .bf16⟩
  | .hbm, ⟨6, _⟩ => ⟨S16x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x1024x512, .bf16⟩
  | .local _ .vmem, ⟨15, _⟩ => ⟨S3x1024x512, .bf16⟩
  | .local _ .vmem, ⟨16, _⟩ => ⟨S1x1024x512, .bf16⟩
  | .local _ .vmem, ⟨17, _⟩ => ⟨S1x1024x512, .bf16⟩
  | _, _ => ⟨S16x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== LastRefIdeal.lean ====
abbrev S16x2304x2048 : Shape := ⟨3, ![16, 2304, 2048]⟩
abbrev S16x2048x1024 : Shape := ⟨3, ![16, 2048, 1024]⟩
abbrev S2048x6144 : Shape := ⟨2, ![2048, 6144]⟩
abbrev S3x1024x2048 : Shape := ⟨3, ![3, 1024, 2048]⟩
abbrev S16x2048x2048 : Shape := ⟨3, ![16, 2048, 2048]⟩
abbrev S16x2048x6144 : Shape := ⟨3, ![16, 2048, 6144]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16x2304x2048, .bf16⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S2048x6144, .bf16⟩
  | .hbm, ⟨5, _⟩ => ⟨S3x1024x2048, .bf16⟩
  | .hbm, ⟨6, _⟩ => ⟨S16x2048x2048, .bf16⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S3x1024x2048, .f32⟩
  | .hbm, ⟨11, _⟩ => ⟨S16x2048x2048, .f32⟩
  | .hbm, ⟨12, _⟩ => ⟨S2048x6144, .f32⟩
  | .hbm, ⟨13, _⟩ => ⟨S16x2048x6144, .f32⟩
  | .hbm, ⟨14, _⟩ => ⟨S16x2048x6144, .f32⟩
  | .hbm, ⟨15, _⟩ => ⟨S16x2048x6144, .f32⟩
  | .hbm, ⟨16, _⟩ => ⟨S_, .f32⟩
  | .hbm, ⟨17, _⟩ => ⟨S16x2048x6144, .f32⟩
  | .hbm, ⟨18, _⟩ => ⟨S16x2048x6144, .f32⟩
  | .hbm, ⟨19, _⟩ => ⟨S_, .f32⟩
  | .hbm, ⟨20, _⟩ => ⟨S16x2048x6144, .f32⟩
  | .hbm, ⟨21, _⟩ => ⟨S16x2048x6144, .f32⟩
  | .hbm, ⟨22, _⟩ => ⟨S16x2048x2048, .f32⟩
  | .hbm, ⟨23, _⟩ => ⟨S1x1024x2048, .f32⟩
  | .hbm, ⟨24, _⟩ => ⟨S1024x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S1x1024x2048, .f32⟩
  | .hbm, ⟨29, _⟩ => ⟨S1024x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S1x1024x2048, .f32⟩
  | .hbm, ⟨35, _⟩ => ⟨S1024x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .bf16⟩
  | _, _ => ⟨S16x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Resid.lean ====
abbrev S16x2304x2048 : Shape := ⟨3, ![16, 2304, 2048]⟩
abbrev S2048x2048 : Shape := ⟨2, ![2048, 2048]⟩
abbrev S2048 : Shape := ⟨1, ![2048]⟩
abbrev S24x6x1x2048 : Shape := ⟨4, ![24, 6, 1, 2048]⟩
abbrev S1x2048 : Shape := ⟨2, ![1, 2048]⟩
abbrev S1x384x2048 : Shape := ⟨3, ![1, 384, 2048]⟩
abbrev S1x6x1x2048 : Shape := ⟨4, ![1, 6, 1, 2048]⟩
abbrev S384x1 : Shape := ⟨2, ![384, 1]⟩
abbrev S384x2048 : Shape := ⟨2, ![384, 2048]⟩
abbrev S1x1x1x2048 : Shape := ⟨4, ![1, 1, 1, 2048]⟩
abbrev S384 : Shape := ⟨1, ![384]⟩

abbrev nBuf : Space → Nat
  | .hbm => 10
  | .vmem => 14
  | .smem => 0
  | _ => 0

abbrev bufTy : (tb : Table) → Fin (tcTables nBuf tb) → BufTy
  | .hbm, ⟨0, _⟩ => ⟨S16x2304x2048, .bf16⟩
  | .hbm, ⟨1, _⟩ => ⟨S2048x2048, .bf16⟩
  | .hbm, ⟨2, _⟩ => ⟨S16x2304x2048, .f32⟩
  | .hbm, ⟨3, _⟩ => ⟨S2048, .f32⟩
  | .hbm, ⟨4, _⟩ => ⟨S2048, .f32⟩
  | .hbm, ⟨5, _⟩ => ⟨S24x6x1x2048, .f32⟩
  | .hbm, ⟨6, _⟩ => ⟨S1x2048, .f32⟩
  | .hbm, ⟨7, _⟩ => ⟨S1x2048, .f32⟩
  | .hbm, ⟨8, _⟩ => ⟨S16x2304x2048, .f32⟩
  | .hbm, ⟨9, _⟩ => ⟨S16x2304x2048, .bf16⟩
  | .local _ .vmem, ⟨0, _⟩ => ⟨S1x384x2048, .bf16⟩
  | .local _ .vmem, ⟨1, _⟩ => ⟨S1x384x2048, .bf16⟩
  | .local _ .vmem, ⟨2, _⟩ => ⟨S2048x2048, .bf16⟩
  | .local _ .vmem, ⟨3, _⟩ => ⟨S1x384x2048, .f32⟩
  | .local _ .vmem, ⟨4, _⟩ => ⟨S1x384x2048, .f32⟩
  | .local _ .vmem, ⟨5, _⟩ => ⟨S1x2048, .f32⟩
  | .local _ .vmem, ⟨6, _⟩ => ⟨S1x2048, .f32⟩
  | .local _ .vmem, ⟨7, _⟩ => ⟨S1x6x1x2048, .f32⟩
  | .local _ .vmem, ⟨8, _⟩ => ⟨S1x6x1x2048, .f32⟩
  | .local _ .vmem, ⟨9, _⟩ => ⟨S1x6x1x2048, .f32⟩
  | .local _ .vmem, ⟨10, _⟩ => ⟨S1x384x2048, .f32⟩
  | .local _ .vmem, ⟨11, _⟩ => ⟨S1x384x2048, .f32⟩
  | .local _ .vmem, ⟨12, _⟩ => ⟨S1x384x2048, .bf16⟩
  | .local _ .vmem, ⟨13, _⟩ => ⟨S1x384x2048, .bf16⟩
  | _, _ => ⟨S16x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  let c0_i32_2 : BitVec 32 := 0#32
  ![c16_i32.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x6x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x384x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ResidRefIdeal.lean ====
abbrev S16x2304x2048 : Shape := ⟨3, ![16, 2304, 2048]⟩
abbrev S2048x2048 : Shape := ⟨2, ![2048, 2048]⟩
abbrev S2048 : Shape := ⟨1, ![2048]⟩
abbrev S24x6x1x2048 : Shape := ⟨4, ![24, 6, 1, 2048]⟩
abbrev S16x1x1x2048 : Shape := ⟨4, ![16, 1, 1, 2048]⟩
abbrev S16x1x2048 : Shape := ⟨3, ![16, 1, 2048]⟩
abbrev S16x2048x2048 : Shape := ⟨3, ![16, 2048, 2048]⟩
abbrev S1x1x1x2048 : Shape := ⟨4, ![1, 1, 1, 2048]⟩
abbrev S1x2048 : Shape := ⟨2, ![1, 2048]⟩
abbrev S16x256x2048 : Shape := ⟨3, ![16, 256, 2048]⟩
abbrev S_ : Shape := ⟨0, ![]⟩
abbrev S16x2304 : Shape := ⟨2, ![16, 2304]⟩
abbrev S16x2304x1 : Shape := ⟨3, ![16, 2304, 1]⟩
abbrev S1x1x2048 : Shape := ⟨3, ![1, 1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16x2304x2048, .bf16⟩
  | .hbm, ⟨1, _⟩ => ⟨S2048x2048, .bf16⟩
  | .hbm, ⟨2, _⟩ => ⟨S16x2304x2048, .f32⟩
  | .hbm, ⟨3, _⟩ => ⟨S2048, .f32⟩
  | .hbm, ⟨4, _⟩ => ⟨S2048, .f32⟩
  | .hbm, ⟨5, _⟩ => ⟨S24x6x1x2048, .f32⟩
  | .hbm, ⟨6, _⟩ => ⟨S16x1x1x2048, .f32⟩
  | .hbm, ⟨7, _⟩ => ⟨S16x1x2048, .f32⟩
  | .hbm, ⟨8, _⟩ => ⟨S16x2048x2048, .f32⟩
  | .hbm, ⟨9, _⟩ => ⟨S1x1x1x2048, .f32⟩
  | .hbm, ⟨10, _⟩ => ⟨S1x2048, .f32⟩
  | .hbm, ⟨11, _⟩ => ⟨S16x256x2048, .f32⟩
  | .hbm, ⟨12, _⟩ => ⟨S16x2304x2048, .f32⟩
  | .hbm, ⟨13, _⟩ => ⟨S16x2304x2048, .f32⟩
  | .hbm, ⟨14, _⟩ => ⟨S2048x2048, .f32⟩
  | .hbm, ⟨15, _⟩ => ⟨S16x2304x2048, .f32⟩
  | .hbm, ⟨16, _⟩ => ⟨S16x2304x2048, .f32⟩
  | .hbm, ⟨17, _⟩ => ⟨S_, .f32⟩
  | .hbm, ⟨18, _⟩ => ⟨S16x2304, .f32⟩
  | .hbm, ⟨19, _⟩ => ⟨S16x2304x1, .f32⟩
  | .hbm, ⟨20, _⟩ => ⟨S_, .f32⟩
  | .hbm, ⟨21, _⟩ => ⟨S16x2304x1, .f32⟩
  | .hbm, ⟨22, _⟩ => ⟨S16x2304x1, .f32⟩
  | .hbm, ⟨23, _⟩ => ⟨S_, .f32⟩
  | .hbm, ⟨24, _⟩ => ⟨S16x2304x1, .f32⟩
  | .hbm, ⟨25, _⟩ => ⟨S16x2304x1, .f32⟩
  | .hbm, ⟨26, _⟩ => ⟨S16x2304x1, .f32⟩
  | .hbm, ⟨27, _⟩ => ⟨S16x2304x2048, .f32⟩
  | .hbm, ⟨28, _⟩ => ⟨S16x2304x2048, .f32⟩
  | .hbm, ⟨29, _⟩ => ⟨S1x1x2048, .f32⟩
  | .hbm, ⟨30, _⟩ => ⟨S16x2304x2048, .f32⟩
  | .hbm, ⟨31, _⟩ => ⟨S16x2304x2048, .f32⟩
  | .hbm, ⟨32, _⟩ => ⟨S16x2304x2048, .f32⟩
  | .hbm, ⟨33, _⟩ => ⟨S16x2304x2048, .f32⟩
  | .hbm, ⟨34, _⟩ => ⟨S16x2304x2048, .f32⟩
  | .hbm, ⟨35, _⟩ => ⟨S_, .f32⟩
  | .hbm, ⟨36, _⟩ => ⟨S16x2304, .f32⟩
  | .hbm, ⟨37, _⟩ => ⟨S16x2304x1, .f32⟩
  | .hbm, ⟨38, _⟩ => ⟨S_, .f32⟩
  | .hbm, ⟨39, _⟩ => ⟨S16x2304x1, .f32⟩
  | .hbm, ⟨40, _⟩ => ⟨S16x2304x1, .f32⟩
  | .hbm, ⟨41, _⟩ => ⟨S_, .f32⟩
  | .hbm, ⟨42, _⟩ => ⟨S16x2304x1, .f32⟩
  | .hbm, ⟨43, _⟩ => ⟨S16x2304x1, .f32⟩
  | .hbm, ⟨44, _⟩ => ⟨S16x2304x1, .f32⟩
  | .hbm, ⟨45, _⟩ => ⟨S16x2304x2048, .f32⟩
  | .hbm, ⟨46, _⟩ => ⟨S16x2304x2048, .f32⟩
  | .hbm, ⟨47, _⟩ => ⟨S1x1x2048, .f32⟩
  | .hbm, ⟨48, _⟩ => ⟨S16x2304x2048, .f32⟩
  | .hbm, ⟨49, _⟩ => ⟨S16x2304x2048, .f32⟩
  | .hbm, ⟨50, _⟩ => ⟨S16x1x1x2048, .f32⟩
  | .hbm, ⟨51, _⟩ => ⟨S16x1x2048, .f32⟩
  | .hbm, ⟨52, _⟩ => ⟨S16x2048x2048, .f32⟩
  | .hbm, ⟨53, _⟩ => ⟨S1x1x1x2048, .f32⟩
  | .hbm, ⟨54, _⟩ => ⟨S1x2048, .f32⟩
  | .hbm, ⟨55, _⟩ => ⟨S16x256x2048, .f32⟩
  | .hbm, ⟨56, _⟩ => ⟨S16x2304x2048, .f32⟩
  | .hbm, ⟨57, _⟩ => ⟨S_, .f32⟩
  | .hbm, ⟨58, _⟩ => ⟨S16x2304x2048, .f32⟩
  | .hbm, ⟨59, _⟩ => ⟨S16x2304x2048, .f32⟩
  | .hbm, ⟨60, _⟩ => ⟨S16x2304x2048, .f32⟩
  | .hbm, ⟨61, _⟩ => ⟨S16x1x1x2048, .f32⟩
  | .hbm, ⟨62, _⟩ => ⟨S16x1x2048, .f32⟩
  | .hbm, ⟨63, _⟩ => ⟨S16x2048x2048, .f32⟩
  | .hbm, ⟨64, _⟩ => ⟨S1x1x1x2048, .f32⟩
  | .hbm, ⟨65, _⟩ => ⟨S1x2048, .f32⟩
  | .hbm, ⟨66, _⟩ => ⟨S16x256x2048, .f32⟩
  | .hbm, ⟨67, _⟩ => ⟨S16x2304x2048, .f32⟩
  | .hbm, ⟨68, _⟩ => ⟨S16x2304x2048, .f32⟩
  | .hbm, ⟨69, _⟩ => ⟨S16x2304x2048, .bf16⟩
  | _, _ => ⟨S16x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Proof.GqaIdealCond.lean ====
module

public import proofs.«01_k».proof.Proof.Gen.GqaIdeal.Frame
public import proofs.«01_k».proof.Proof.Gen.GqaIdeal.Skeleton
public import proofs.«01_k».proof.Proof.Gen.GqaIdeal.Points
public import proofs.«01_k».proof.Proof.Gen.GqaIdeal.Launch
public import Idealize.ShloMosaic.Lib.Claim

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body fills its scratch: the innermost grid coordinate is zero. -/
abbrev startCond (i : grid0.Coords) : Prop := (Scalar.cmpi .ne (Scalar.extui (Scalar.cmpi .eq (BitVec.ofNat 32 (i 2).val) 0#32)) 0#32) = 1#1

/-- It holds at every fourth point. -/
theorem startCond_iff : ∀ t : Fin cfg0.N, startCond (grid0.coords t) ↔ t.val % 4 = 0 :=
  (fun t => by
    have ht : t.val < 128 := Nat.lt_of_lt_of_eq t.isLt N_0
    have e2 : (grid0.coords t 2).val = t.val / 1 % 4 := Pipeline.Grid.coords_val t 2 (by decide) rfl
    simp only [startCond, e2]
    word_cmp
   : ∀ t : Fin grid0.N, startCond (grid0.coords t) ↔ t.val % 4 = 0)

/-- Window 0's staging memref at point `t`. -/
abbrev stg0 (t : Fin cfg0.N) : Memref sig .tc .vmem S1x512x512 .bf16 := win0_0.stage (cfg0.slots t 0)
abbrev whole0 (t : Fin cfg0.N) : (stg0 t).IsWhole := hstage0_0 ((cfg0.slots t 0).cast nbuf0_0)
/-- Window 1's staging memref at point `t`. -/
abbrev stg1 (t : Fin cfg0.N) : Memref sig .tc .vmem S1x2304x128 .bf16 := win0_1.stage (cfg0.slots t 1)
abbrev whole1 (t : Fin cfg0.N) : (stg1 t).IsWhole := hstage0_1 ((cfg0.slots t 1).cast nbuf0_1)
/-- Window 2's staging memref at point `t`. -/
abbrev stg2 (t : Fin cfg0.N) : Memref sig .tc .vmem S1x2304x128 .bf16 := win0_2.stage (cfg0.slots t 2)
abbrev whole2 (t : Fin cfg0.N) : (stg2 t).IsWhole := hstage0_2 ((cfg0.slots t 2).cast nbuf0_2)
/-- Window 3's staging memref at point `t`. -/
abbrev stg3 (t : Fin cfg0.N) : Memref sig .tc .vmem S4x64 .f32 := win0_3.stage (cfg0.slots t 3)
abbrev whole3 (t : Fin cfg0.N) : (stg3 t).IsWhole := hstage0_3 ((cfg0.slots t 3).cast nbuf0_3)
/-- Window 4's staging memref at point `t`. -/
abbrev stg4 (t : Fin cfg0.N) : Memref sig .tc .vmem S1x128 .f32 := win0_4.stage (cfg0.slots t 4)
abbrev whole4 (t : Fin cfg0.N) : (stg4 t).IsWhole := hstage0_4 ((cfg0.slots t 4).cast nbuf0_4)
/-- Window 5's staging memref at point `t`. -/
abbrev stg5 (t : Fin cfg0.N) : Memref sig .tc .vmem S1x512x512 .bf16 := win0_5.stage (cfg0.slots t 5)
abbrev whole5 (t : Fin cfg0.N) : (stg5 t).IsWhole := hstage0_5 ((cfg0.slots t 5).cast nbuf0_5)

/-- The scratch of the values with a column of ones, and the scratch of the largest squared key. -/
abbrev scrV : Memref sig .tc .vmem S1x2304x256 .bf16 := Memref.whole cc0_scratch0
abbrev scrK : Memref sig .tc .vmem S1x8x128 .f32 := Memref.whole cc0_scratch1
abbrev outView : View sig .tc .vmem S1x512x512 .bf16 := (Memref.whole cc0_stg5_0 : Memref sig .tc .vmem S1x512x512 .bf16).view

/-- What the pipeline keeps beside the windows: the two scratch buffers and the generator register. -/
theorem keep_eq (c : Dev nD) :
    (Pipeline.ΦA spec0 c : sProp 𝕄)
      = iprop(iprop((∃ d, owns (c : Thread nD τ) scrV fullShare d) ∗ (∃ d, owns (c : Thread nD τ) scrK fullShare d)) ∗ (∃ r, prngReg c r)) := by
  unfold Pipeline.ΦA; rw [scopedRest0_eq]; simp only [scrV, scrK, owns_whole]; try rfl

end Cert.GqaIdeal.Gen

end
-- ==== Proof.GqaIdealBody.lean ====
module

public import proofs.«01_k».proof.Proof.GqaIdealCond

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What one run of the body computes, as functions of the contents of its buffers. -/

def d1_store (x2 : Vec F S1x2304x128 .bf16) :=
  (k0_pay13 (View.ld (Val := Elt F) (S := S1x2304x128) (e' := .bf16) x2 (Rect.unit (s := S1x2304x128) ![0, 0, 0] S1x2304x128.size inb_S1x2304x128_S1x2304x128_0_0_0)))
def d2_store  :=
  (k0_pay14 (F := F))
def d3_store (x1 : Vec F S1x2304x128 .bf16) :=
  (k0_pay15 (View.ld (Val := Elt F) (S := S1x2304x128) (e' := .bf16) x1 (Rect.unit (s := S1x2304x128) ![0, 0, 0] S1x2304x128.size inb_S1x2304x128_S1x2304x128_0_0_0)))
def d4_v4 (x0 : Vec F S1x512x512 .bf16) :=
  k0_pay16 (View.ld (Val := Elt F) (S := S1x512x512) (e' := .bf16) x0 (Rect.unit (s := S1x512x512) ![0, 0, 0] S1x512x128.size inb_S1x512x512_S1x512x128_0_0_0))
def d5_v6 (x1 : Vec F S1x2304x128 .bf16) :=
  k0_pay17 (View.ld (Val := Elt F) (S := S1x2304x128) (e' := .bf16) x1 (Rect.unit (s := S1x2304x128) ![0, 0, 0] S1x2304x128.size inb_S1x2304x128_S1x2304x128_0_0_0))
def d6_v8 (xs0 : Vec F S1x2304x256 .bf16) :=
  k0_pay18 (View.ld (Val := Elt F) (S := S1x2304x256) (e' := .bf16) xs0 (Rect.unit (s := S1x2304x256) ![0, 0, 0] S1x2304x256.size inb_S1x2304x256_S1x2304x256_0_0_0))
def d7_v10 (xs1 : Vec F S1x8x128 .f32) :=
  k0_pay19 (View.ld (Val := Elt F) (S := S1x8x128) (e' := .f32) xs1 (Rect.unit (s := S1x8x128) ![0, 0, 0] S1x1x1.size inb_S1x8x128_S1x1x1_0_0_0))
def d8_v12 (x0 : Vec F S1x512x512 .bf16) :=
  k0_pay20 (View.ld (Val := Elt F) (S := S1x512x512) (e' := .bf16) x0 (Rect.unit (s := S1x512x512) ![0, 0, 128] S1x512x128.size inb_S1x512x512_S1x512x128_0_0_128))
def d9_v14 (x1 : Vec F S1x2304x128 .bf16) :=
  k0_pay21 (View.ld (Val := Elt F) (S := S1x2304x128) (e' := .bf16) x1 (Rect.unit (s := S1x2304x128) ![0, 0, 0] S1x2304x128.size inb_S1x2304x128_S1x2304x128_0_0_0))
def d10_v16 (xs0 : Vec F S1x2304x256 .bf16) :=
  k0_pay22 (View.ld (Val := Elt F) (S := S1x2304x256) (e' := .bf16) xs0 (Rect.unit (s := S1x2304x256) ![0, 0, 0] S1x2304x256.size inb_S1x2304x256_S1x2304x256_0_0_0))
def d11_v18 (xs1 : Vec F S1x8x128 .f32) :=
  k0_pay23 (View.ld (Val := Elt F) (S := S1x8x128) (e' := .f32) xs1 (Rect.unit (s := S1x8x128) ![0, 0, 0] S1x1x1.size inb_S1x8x128_S1x1x1_0_0_0))
def d12_v20 (x0 : Vec F S1x512x512 .bf16) :=
  k0_pay24 (View.ld (Val := Elt F) (S := S1x512x512) (e' := .bf16) x0 (Rect.unit (s := S1x512x512) ![0, 0, 256] S1x512x128.size inb_S1x512x512_S1x512x128_0_0_256))
def d13_v22 (x1 : Vec F S1x2304x128 .bf16) :=
  k0_pay25 (View.ld (Val := Elt F) (S := S1x2304x128) (e' := .bf16) x1 (Rect.unit (s := S1x2304x128) ![0, 0, 0] S1x2304x128.size inb_S1x2304x128_S1x2304x128_0_0_0))
def d14_v24 (xs0 : Vec F S1x2304x256 .bf16) :=
  k0_pay26 (View.ld (Val := Elt F) (S := S1x2304x256) (e' := .bf16) xs0 (Rect.unit (s := S1x2304x256) ![0, 0, 0] S1x2304x256.size inb_S1x2304x256_S1x2304x256_0_0_0))
def d15_v26 (xs1 : Vec F S1x8x128 .f32) :=
  k0_pay27 (View.ld (Val := Elt F) (S := S1x8x128) (e' := .f32) xs1 (Rect.unit (s := S1x8x128) ![0, 0, 0] S1x1x1.size inb_S1x8x128_S1x1x1_0_0_0))
def d16_v28 (x0 : Vec F S1x512x512 .bf16) :=
  k0_pay28 (View.ld (Val := Elt F) (S := S1x512x512) (e' := .bf16) x0 (Rect.unit (s := S1x512x512) ![0, 0, 384] S1x512x128.size inb_S1x512x512_S1x512x128_0_0_384))
def d17_v30 (x1 : Vec F S1x2304x128 .bf16) :=
  k0_pay29 (View.ld (Val := Elt F) (S := S1x2304x128) (e' := .bf16) x1 (Rect.unit (s := S1x2304x128) ![0, 0, 0] S1x2304x128.size inb_S1x2304x128_S1x2304x128_0_0_0))
def d18_v32 (xs0 : Vec F S1x2304x256 .bf16) :=
  k0_pay30 (View.ld (Val := Elt F) (S := S1x2304x256) (e' := .bf16) xs0 (Rect.unit (s := S1x2304x256) ![0, 0, 0] S1x2304x256.size inb_S1x2304x256_S1x2304x256_0_0_0))
def d19_v34 (xs1 : Vec F S1x8x128 .f32) :=
  k0_pay31 (View.ld (Val := Elt F) (S := S1x8x128) (e' := .f32) xs1 (Rect.unit (s := S1x8x128) ![0, 0, 0] S1x1x1.size inb_S1x8x128_S1x1x1_0_0_0))
def d20_v46 (x0 : Vec F S1x512x512 .bf16) (x1 : Vec F S1x2304x128 .bf16) (xs1 : Vec F S1x8x128 .f32) :=
  k0_pay32 (d4_v4 x0) (d5_v6 x1) (d7_v10 xs1)
def d21_v58 (x0 : Vec F S1x512x512 .bf16) (x1 : Vec F S1x2304x128 .bf16) (xs1 : Vec F S1x8x128 .f32) :=
  k0_pay33 (d8_v12 x0) (d9_v14 x1) (d11_v18 xs1)
def d22_v95 (x0 : Vec F S1x512x512 .bf16) (x1 : Vec F S1x2304x128 .bf16) (xs0 : Vec F S1x2304x256 .bf16) (xs1 : Vec F S1x8x128 .f32) :=
  k0_pay38 (d6_v8 xs0) (d20_v46 x0 x1 xs1)
def d23_v96 (x0 : Vec F S1x512x512 .bf16) (x1 : Vec F S1x2304x128 .bf16) (xs0 : Vec F S1x2304x256 .bf16) (xs1 : Vec F S1x8x128 .f32) :=
  k0_pay39 (d6_v8 xs0) (d20_v46 x0 x1 xs1)
def d24_v97 (x0 : Vec F S1x512x512 .bf16) (x1 : Vec F S1x2304x128 .bf16) (xs0 : Vec F S1x2304x256 .bf16) (xs1 : Vec F S1x8x128 .f32) :=
  k0_pay40 (d10_v16 xs0) (d21_v58 x0 x1 xs1)
def d25_v98 (x0 : Vec F S1x512x512 .bf16) (x1 : Vec F S1x2304x128 .bf16) (xs0 : Vec F S1x2304x256 .bf16) (xs1 : Vec F S1x8x128 .f32) :=
  k0_pay41 (d10_v16 xs0) (d21_v58 x0 x1 xs1)
def d26_v99 (x0 : Vec F S1x512x512 .bf16) (x1 : Vec F S1x2304x128 .bf16) (xs0 : Vec F S1x2304x256 .bf16) (xs1 : Vec F S1x8x128 .f32) :=
  k0_pay42 (d12_v20 x0) (d13_v22 x1) (d14_v24 xs0) (d15_v26 xs1) (constant S512x2304 .f32 0x00000000#32)
def d27_v100 (x0 : Vec F S1x512x512 .bf16) (x1 : Vec F S1x2304x128 .bf16) (xs0 : Vec F S1x2304x256 .bf16) (xs1 : Vec F S1x8x128 .f32) :=
  k0_pay43 (d12_v20 x0) (d13_v22 x1) (d14_v24 xs0) (d15_v26 xs1) (constant S512x2304 .f32 0x00000000#32)
def d28_v101 (x0 : Vec F S1x512x512 .bf16) (x1 : Vec F S1x2304x128 .bf16) (xs0 : Vec F S1x2304x256 .bf16) (xs1 : Vec F S1x8x128 .f32) :=
  k0_pay44 (d16_v28 x0) (d17_v30 x1) (d18_v32 xs0) (d19_v34 xs1)
def d29_v102 (x0 : Vec F S1x512x512 .bf16) (x1 : Vec F S1x2304x128 .bf16) (xs0 : Vec F S1x2304x256 .bf16) (xs1 : Vec F S1x8x128 .f32) :=
  k0_pay45 (d16_v28 x0) (d17_v30 x1) (d18_v32 xs0) (d19_v34 xs1)
def d30_v108 (x0 : Vec F S1x512x512 .bf16) (x1 : Vec F S1x2304x128 .bf16) (xs0 : Vec F S1x2304x256 .bf16) (xs1 : Vec F S1x8x128 .f32) :=
  k0_pay46 (d6_v8 xs0) (d10_v16 xs0) (d12_v20 x0) (d13_v22 x1) (d14_v24 xs0) (d15_v26 xs1) (d16_v28 x0) (d17_v30 x1) (d18_v32 xs0) (d19_v34 xs1) (d20_v46 x0 x1 xs1) (d21_v58 x0 x1 xs1) (constant S512x2304 .f32 0x00000000#32)
def d31_store (x0 : Vec F S1x512x512 .bf16) (x1 : Vec F S1x2304x128 .bf16) (xs0 : Vec F S1x2304x256 .bf16) (xs1 : Vec F S1x8x128 .f32) :=
  (k0_pay2 (d22_v95 x0 x1 xs0 xs1) (d23_v96 x0 x1 xs0 xs1))
def d32_store (x0 : Vec F S1x512x512 .bf16) (x1 : Vec F S1x2304x128 .bf16) (xs0 : Vec F S1x2304x256 .bf16) (xs1 : Vec F S1x8x128 .f32) :=
  (k0_pay3 (d24_v97 x0 x1 xs0 xs1) (d25_v98 x0 x1 xs0 xs1))
def d33_store (x0 : Vec F S1x512x512 .bf16) (x1 : Vec F S1x2304x128 .bf16) (xs0 : Vec F S1x2304x256 .bf16) (xs1 : Vec F S1x8x128 .f32) :=
  (k0_pay4 (d26_v99 x0 x1 xs0 xs1) (d27_v100 x0 x1 xs0 xs1))
def d34_store (x0 : Vec F S1x512x512 .bf16) (x1 : Vec F S1x2304x128 .bf16) (xs0 : Vec F S1x2304x256 .bf16) (xs1 : Vec F S1x8x128 .f32) :=
  (k0_pay5 (d28_v101 x0 x1 xs0 xs1) (d29_v102 x0 x1 xs0 xs1))
def d35_store (x0 : Vec F S1x512x512 .bf16) (x1 : Vec F S1x2304x128 .bf16) (xs0 : Vec F S1x2304x256 .bf16) :=
  (k0_pay7 (View.ld (Val := Elt F) (S := S1x512x512) (e' := .bf16) x0 (Rect.unit (s := S1x512x512) ![0, 0, 0] S1x512x128.size inb_S1x512x512_S1x512x128_0_0_0)) (View.ld (Val := Elt F) (S := S1x2304x128) (e' := .bf16) x1 (Rect.unit (s := S1x2304x128) ![0, 0, 0] S1x2304x128.size inb_S1x2304x128_S1x2304x128_0_0_0)) (View.ld (Val := Elt F) (S := S1x2304x256) (e' := .bf16) xs0 (Rect.unit (s := S1x2304x256) ![0, 0, 0] S1x2304x256.size inb_S1x2304x256_S1x2304x256_0_0_0)))
def d36_v143 (xs0 : Vec F S1x2304x256 .bf16) :=
  k0_pay8 (View.ld (Val := Elt F) (S := S1x2304x256) (e' := .bf16) xs0 (Rect.unit (s := S1x2304x256) ![0, 0, 0] S1x2304x256.size inb_S1x2304x256_S1x2304x256_0_0_0))
def d37_v148 (x0 : Vec F S1x512x512 .bf16) (x1 : Vec F S1x2304x128 .bf16) :=
  k0_pay9 (View.ld (Val := Elt F) (S := S1x512x512) (e' := .bf16) x0 (Rect.unit (s := S1x512x512) ![0, 0, 128] S1x512x128.size inb_S1x512x512_S1x512x128_0_0_128)) (View.ld (Val := Elt F) (S := S1x2304x128) (e' := .bf16) x1 (Rect.unit (s := S1x2304x128) ![0, 0, 0] S1x2304x128.size inb_S1x2304x128_S1x2304x128_0_0_0))
def d38_store (x0 : Vec F S1x512x512 .bf16) (x1 : Vec F S1x2304x128 .bf16) (xs0 : Vec F S1x2304x256 .bf16) :=
  (k0_pay10 (d36_v143 xs0) (d37_v148 x0 x1))
def d39_store (x0 : Vec F S1x512x512 .bf16) (x1 : Vec F S1x2304x128 .bf16) (xs0 : Vec F S1x2304x256 .bf16) :=
  (k0_pay11 (View.ld (Val := Elt F) (S := S1x512x512) (e' := .bf16) x0 (Rect.unit (s := S1x512x512) ![0, 0, 256] S1x512x128.size inb_S1x512x512_S1x512x128_0_0_256)) (View.ld (Val := Elt F) (S := S1x2304x128) (e' := .bf16) x1 (Rect.unit (s := S1x2304x128) ![0, 0, 0] S1x2304x128.size inb_S1x2304x128_S1x2304x128_0_0_0)) (View.ld (Val := Elt F) (S := S1x2304x256) (e' := .bf16) xs0 (Rect.unit (s := S1x2304x256) ![0, 0, 0] S1x2304x256.size inb_S1x2304x256_S1x2304x256_0_0_0)))
def d40_v183 (x0 : Vec F S1x512x512 .bf16) :=
  (k0_pay12 (View.ld (Val := Elt F) (S := S1x512x512) (e' := .bf16) x0 (Rect.unit (s := S1x512x512) ![0, 0, 384] S1x512x128.size inb_S1x512x512_S1x512x128_0_0_384)))
def d41_store (x0 : Vec F S1x512x512 .bf16) (x1 : Vec F S1x2304x128 .bf16) (xs0 : Vec F S1x2304x256 .bf16) :=
  (k0_pay6 (d40_v183 x0) (View.ld (Val := Elt F) (S := S1x2304x128) (e' := .bf16) x1 (Rect.unit (s := S1x2304x128) ![0, 0, 0] S1x2304x128.size inb_S1x2304x128_S1x2304x128_0_0_0)) (View.ld (Val := Elt F) (S := S1x2304x256) (e' := .bf16) xs0 (Rect.unit (s := S1x2304x256) ![0, 0, 0] S1x2304x256.size inb_S1x2304x256_S1x2304x256_0_0_0)))

/-- The pieces the start of a run writes into the two scratch buffers. -/
def valPieces (x2 : Vec F S1x2304x128 .bf16) : List (View.Piece (Elt F) S1x2304x256 .bf16) :=
  [⟨(Rect.unit (s := S1x2304x256) ![0, 0, 128] S1x2304x128.size inb_S1x2304x256_S1x2304x128_0_0_128), (d2_store (F := F))⟩,
    ⟨(Rect.unit (s := S1x2304x256) ![0, 0, 0] S1x2304x128.size inb_S1x2304x256_S1x2304x128_0_0_0), (d1_store x2)⟩]
def keyPieces (x1 : Vec F S1x2304x128 .bf16) : List (View.Piece (Elt F) S1x8x128 .f32) :=
  [⟨(Rect.unit (s := S1x8x128) ![0, 0, 0] S1x8x128.size inb_S1x8x128_S1x8x128_0_0_0), (d3_store x1)⟩]
def valScr (x2 : Vec F S1x2304x128 .bf16) : Vec F S1x2304x256 .bf16 := View.canon (valPieces x2)
def keyScr (x1 : Vec F S1x2304x128 .bf16) : Vec F S1x8x128 .f32 := View.canon (keyPieces x1)

/-- Whether every denominator is large enough for the bound shift. -/
def gate (x0 : Vec F S1x512x512 .bf16) (x1 : Vec F S1x2304x128 .bf16) (x3 : Vec F S4x64 .f32) (x4 : Vec F S1x128 .f32) (xs0 : Vec F S1x2304x256 .bf16) (xs1 : Vec F S1x8x128 .f32) : BitVec 1 := Scalar.cmpf .oge (k0_pay1 (d30_v108 x0 x1 xs0 xs1)) (Scalar.ofBits .f32 0x13800000#32)

/-- The output's pieces where the bound shift is precise, and where it is not. -/
def sharpPieces (x0 : Vec F S1x512x512 .bf16) (x1 : Vec F S1x2304x128 .bf16) (x3 : Vec F S4x64 .f32) (x4 : Vec F S1x128 .f32) (xs0 : Vec F S1x2304x256 .bf16) (xs1 : Vec F S1x8x128 .f32) : List (View.Piece (Elt F) S1x512x512 .bf16) :=
  [⟨(Rect.unit (s := S1x512x512) ![0, 0, 384] S1x512x128.size inb_S1x512x512_S1x512x128_0_0_384), (d34_store x0 x1 xs0 xs1)⟩,
    ⟨(Rect.unit (s := S1x512x512) ![0, 0, 256] S1x512x128.size inb_S1x512x512_S1x512x128_0_0_256), (d33_store x0 x1 xs0 xs1)⟩,
    ⟨(Rect.unit (s := S1x512x512) ![0, 0, 128] S1x512x128.size inb_S1x512x512_S1x512x128_0_0_128), (d32_store x0 x1 xs0 xs1)⟩,
    ⟨(Rect.unit (s := S1x512x512) ![0, 0, 0] S1x512x128.size inb_S1x512x512_S1x512x128_0_0_0), (d31_store x0 x1 xs0 xs1)⟩]
def maxPieces (x0 : Vec F S1x512x512 .bf16) (x1 : Vec F S1x2304x128 .bf16) (x3 : Vec F S4x64 .f32) (x4 : Vec F S1x128 .f32) (xs0 : Vec F S1x2304x256 .bf16) (xs1 : Vec F S1x8x128 .f32) : List (View.Piece (Elt F) S1x512x512 .bf16) :=
  [⟨(Rect.unit (s := S1x512x512) ![0, 0, 384] S1x512x128.size inb_S1x512x512_S1x512x128_0_0_384), (d41_store x0 x1 xs0)⟩,
    ⟨(Rect.unit (s := S1x512x512) ![0, 0, 256] S1x512x128.size inb_S1x512x512_S1x512x128_0_0_256), (d39_store x0 x1 xs0)⟩,
    ⟨(Rect.unit (s := S1x512x512) ![0, 0, 128] S1x512x128.size inb_S1x512x512_S1x512x128_0_0_128), (d38_store x0 x1 xs0)⟩,
    ⟨(Rect.unit (s := S1x512x512) ![0, 0, 0] S1x512x128.size inb_S1x512x512_S1x512x128_0_0_0), (d35_store x0 x1 xs0)⟩]
def outBlk (x0 : Vec F S1x512x512 .bf16) (x1 : Vec F S1x2304x128 .bf16) (x3 : Vec F S4x64 .f32) (x4 : Vec F S1x128 .f32) (xs0 : Vec F S1x2304x256 .bf16) (xs1 : Vec F S1x8x128 .f32) : Vec F S1x512x512 .bf16 :=
  if gate x0 x1 x3 x4 xs0 xs1 = 1#1 then View.canon (sharpPieces x0 x1 x3 x4 xs0 xs1) else View.canon (maxPieces x0 x1 x3 x4 xs0 xs1)

theorem valPieces_cover (x2 : Vec F S1x2304x128 .bf16) (y : S1x2304x256.Idx) : ∃ p ∈ valPieces x2, y ∈ p.1.set :=
  View.cover_of_tiledL (valPieces x2) S1x2304x128.size (by sl_kernel_rfl) y
theorem keyPieces_cover (x1 : Vec F S1x2304x128 .bf16) (y : S1x8x128.Idx) : ∃ p ∈ keyPieces x1, y ∈ p.1.set :=
  View.cover_of_tiledL (keyPieces x1) S1x8x128.size (by sl_kernel_rfl) y
theorem sharpPieces_cover (x0 : Vec F S1x512x512 .bf16) (x1 : Vec F S1x2304x128 .bf16) (x3 : Vec F S4x64 .f32) (x4 : Vec F S1x128 .f32) (xs0 : Vec F S1x2304x256 .bf16) (xs1 : Vec F S1x8x128 .f32) (y : S1x512x512.Idx) : ∃ p ∈ sharpPieces x0 x1 x3 x4 xs0 xs1, y ∈ p.1.set :=
  View.cover_of_tiledL (sharpPieces x0 x1 x3 x4 xs0 xs1) S1x512x128.size (by sl_kernel_rfl) y
theorem maxPieces_cover (x0 : Vec F S1x512x512 .bf16) (x1 : Vec F S1x2304x128 .bf16) (x3 : Vec F S4x64 .f32) (x4 : Vec F S1x128 .f32) (xs0 : Vec F S1x2304x256 .bf16) (xs1 : Vec F S1x8x128 .f32) (y : S1x512x512.Idx) : ∃ p ∈ maxPieces x0 x1 x3 x4 xs0 xs1, y ∈ p.1.set :=
  View.cover_of_tiledL (maxPieces x0 x1 x3 x4 xs0 xs1) S1x512x128.size (by sl_kernel_rfl) y

/-- The two branches of the body are told apart by one bit. -/
theorem bit_ne (b : BitVec 1) : Scalar.cmpi .ne (Scalar.extui b) 0#32 = 1#1 ↔ b = 1#1 := by
  revert b; decide
theorem bit_xor (b : BitVec 1) : Scalar.cmpi .ne (Scalar.extui (Scalar.xori b 1#1)) 0#32 = 1#1 ↔ ¬ b = 1#1 := by
  revert b; decide

/-- What is read of the output block after the two branches, whichever was taken. -/
theorem read_branches (v : View sig .tc .vmem S1x512x512 .bf16) (f : v.ty.Contents (Elt F)) (b : BitVec 1)
    (Lp Lm : List (View.Piece (Elt F) S1x512x512 .bf16)) (hp : ∀ y, ∃ p ∈ Lp, y ∈ p.1.set) (hm : ∀ y, ∃ p ∈ Lm, y ∈ p.1.set) :
    v.read (Elt F) (if hc : Scalar.cmpi .ne (Scalar.extui (Scalar.xori b 1#1)) 0#32 = 1#1 then
        v.writes (Elt F) (if hc : Scalar.cmpi .ne (Scalar.extui b) 0#32 = 1#1 then v.writes (Elt F) f Lp else f) Lm
      else if hc : Scalar.cmpi .ne (Scalar.extui b) 0#32 = 1#1 then v.writes (Elt F) f Lp else f)
      = if b = 1#1 then View.canon Lp else View.canon Lm := by
  by_cases hb : b = 1#1
  · rw [dif_neg (fun h => (bit_xor b).mp h hb), dif_pos ((bit_ne b).mpr hb), if_pos hb]
    exact View.read_writes_eq_canon v f Lp hp
  · rw [dif_pos ((bit_xor b).mpr hb), dif_neg (fun h => hb ((bit_ne b).mp h)), if_neg hb]
    exact View.read_writes_eq_canon v f Lm hm

end Cert.GqaIdeal.Gen

end
-- ==== Proof.GqaIdealRun.lean ====
module

public import proofs.«01_k».proof.Proof.GqaIdealBody

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A run at the start of a row of query tiles: it fills the scratch, then writes its output block. -/
theorem runA (c : Dev nD) (i : grid0.Coords) (arg3 : Memref sig .tc .vmem S1x512x512 .bf16) (harg3 : arg3.IsWhole) (arg4 : Memref sig .tc .vmem S1x2304x128 .bf16) (harg4 : arg4.IsWhole) (arg5 : Memref sig .tc .vmem S1x2304x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S1x2304x256 .bf16) (harg9 : arg9.IsWhole) (arg10 : Memref sig .tc .vmem S1x8x128 .f32) (harg10 : arg10.IsWhole) (hc0 : startCond i)
    (x0 : Vec F S1x512x512 .bf16) (x1 : Vec F S1x2304x128 .bf16) (x2 : Vec F S1x2304x128 .bf16) (x3 : Vec F S4x64 .f32) (x4 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk x0 x1 x3 x4 (valScr x2) (keyScr x1)) ∗ owns (c : Thread nD τ) arg9 fullShare (valScr x2) ∗ owns (c : Thread nD τ) arg10 fullShare (keyScr x1)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10) K := by
  simp only [cc0__attn_kernel_eq_skeleton]; unfold cc0__attn_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  subst hf0 hf1 hf2 hf3 hf4
  sl_exec (disch := first | sl_exact hc0)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  have e9 : (arg9.view.read (Elt F) (arg9.view.writes (Elt F) arg9.view.junk (valPieces (arg5.view.read (Elt F) f2)))) = valScr (arg5.view.read (Elt F) f2) := View.read_writes_junk_eq_canon _ _
  have e10 : (arg10.view.read (Elt F) (arg10.view.writes (Elt F) arg10.view.junk (keyPieces (arg4.view.read (Elt F) f1)))) = keyScr (arg4.view.read (Elt F) f1) := View.read_writes_junk_eq_canon _ _
  isplitl [H5]
  · iexists _; isplitr; rotate_left
    · iexact H5
    · ipureintro
      rw [← e9, ← e10]
      exact read_branches arg8.view f5 (gate (arg3.view.read (Elt F) f0) (arg4.view.read (Elt F) f1) (arg6.view.read (Elt F) f3) (arg7.view.read (Elt F) f4) (arg9.view.read (Elt F) (arg9.view.writes (Elt F) arg9.view.junk (valPieces (arg5.view.read (Elt F) f2)))) (arg10.view.read (Elt F) (arg10.view.writes (Elt F) arg10.view.junk (keyPieces (arg4.view.read (Elt F) f1))))) (sharpPieces (arg3.view.read (Elt F) f0) (arg4.view.read (Elt F) f1) (arg6.view.read (Elt F) f3) (arg7.view.read (Elt F) f4) (arg9.view.read (Elt F) (arg9.view.writes (Elt F) arg9.view.junk (valPieces (arg5.view.read (Elt F) f2)))) (arg10.view.read (Elt F) (arg10.view.writes (Elt F) arg10.view.junk (keyPieces (arg4.view.read (Elt F) f1))))) (maxPieces (arg3.view.read (Elt F) f0) (arg4.view.read (Elt F) f1) (arg6.view.read (Elt F) f3) (arg7.view.read (Elt F) f4) (arg9.view.read (Elt F) (arg9.view.writes (Elt F) arg9.view.junk (valPieces (arg5.view.read (Elt F) f2)))) (arg10.view.read (Elt F) (arg10.view.writes (Elt F) arg10.view.junk (keyPieces (arg4.view.read (Elt F) f1))))) (sharpPieces_cover _ _ _ _ _ _) (maxPieces_cover _ _ _ _ _ _)
  isplitl [HS0]
  · iexists _; isplitr; rotate_left
    · iexact HS0
    · ipureintro; exact View.read_writes_eq_canon arg9.view fs0 (valPieces (arg5.view.read (Elt F) f2)) (valPieces_cover _)
  iexists _; isplitr; rotate_left
  · iexact HS1
  · ipureintro; exact View.read_writes_eq_canon arg10.view fs1 (keyPieces (arg4.view.read (Elt F) f1)) (keyPieces_cover _)

set_option maxHeartbeats 1000000 in
/-- A run later in a row: the scratch stays, and the output block is written. -/
theorem runB (c : Dev nD) (i : grid0.Coords) (arg3 : Memref sig .tc .vmem S1x512x512 .bf16) (harg3 : arg3.IsWhole) (arg4 : Memref sig .tc .vmem S1x2304x128 .bf16) (harg4 : arg4.IsWhole) (arg5 : Memref sig .tc .vmem S1x2304x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S1x2304x256 .bf16) (harg9 : arg9.IsWhole) (arg10 : Memref sig .tc .vmem S1x8x128 .f32) (harg10 : arg10.IsWhole) (hc0 : ¬startCond i)
    (x0 : Vec F S1x512x512 .bf16) (x1 : Vec F S1x2304x128 .bf16) (x2 : Vec F S1x2304x128 .bf16) (x3 : Vec F S4x64 .f32) (x4 : Vec F S1x128 .f32) (xs0 : Vec F S1x2304x256 .bf16) (xs1 : Vec F S1x8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk x0 x1 x3 x4 xs0 xs1) ∗ owns (c : Thread nD τ) arg9 fullShare xs0 ∗ owns (c : Thread nD τ) arg10 fullShare xs1) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10) K := by
  simp only [cc0__attn_kernel_eq_skeleton]; unfold cc0__attn_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  subst hf0 hf1 hf2 hf3 hf4 hfs0 hfs1
  sl_exec (disch := first | sl_exact hc0)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; rotate_left
    · iexact H5
    · ipureintro
      exact read_branches arg8.view f5 (gate (arg3.view.read (Elt F) f0) (arg4.view.read (Elt F) f1) (arg6.view.read (Elt F) f3) (arg7.view.read (Elt F) f4) (arg9.view.read (Elt F) fs0) (arg10.view.read (Elt F) fs1)) (sharpPieces (arg3.view.read (Elt F) f0) (arg4.view.read (Elt F) f1) (arg6.view.read (Elt F) f3) (arg7.view.read (Elt F) f4) (arg9.view.read (Elt F) fs0) (arg10.view.read (Elt F) fs1)) (maxPieces (arg3.view.read (Elt F) f0) (arg4.view.read (Elt F) f1) (arg6.view.read (Elt F) f3) (arg7.view.read (Elt F) f4) (arg9.view.read (Elt F) fs0) (arg10.view.read (Elt F) fs1)) (sharpPieces_cover _ _ _ _ _ _) (maxPieces_cover _ _ _ _ _ _)
  isplitl [HS0]
  · iexists _; isplitr; · ipureintro; exact rfl
    iexact HS0
  iexists _; isplitr; · ipureintro; exact rfl
  iexact HS1

end Cert.GqaIdeal.Gen

end
-- ==== Proof.GqaIdealFrame.lean ====
module

public import proofs.«01_k».proof.Proof.GqaIdealRun
public import Idealize.ShloMosaic.Lib.Pipeline.ValueKit

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The frame of the program: the scratch holds, through a row of query tiles, the values and the largest squared key
of the row's blocks, so that what every point writes is a function of that point's blocks alone. -/

/-- The block each window stands at, at point `t`. -/
theorem idx0 : ∀ t : Fin cfg0.N, win0_0.index t = ![t.val / 8, t.val % 4, 12 + t.val / 4 % 2] := (by decide +kernel : ∀ t : Fin grid0.N, _)
theorem idx1 : ∀ t : Fin cfg0.N, win0_1.index t = ![t.val / 8, 0, 56 + t.val / 4 % 2] := (by decide +kernel : ∀ t : Fin grid0.N, _)
theorem idx2 : ∀ t : Fin cfg0.N, win0_2.index t = ![t.val / 8, 0, 58 + t.val / 4 % 2] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 8, t.val % 4, t.val / 4 % 2] := (by decide +kernel : ∀ t : Fin grid0.N, _)

/-- Within a row of query tiles the blocks of keys and of values do not move. -/
theorem keys_prev (c : Dev nD) (t : Fin cfg0.N) (h : ¬ t.val % 4 = 0) (h' : t.val - 1 < cfg0.N) :
    (iblk m c 1 ⟨t.val - 1, h'⟩ : Vec F S1x2304x128 .bf16) = iblk m c 1 t := by
  refine funext fun (y : S1x2304x128.Idx) => ?_
  blk_ext [iblk, V, idx1 ⟨t.val - 1, h'⟩, idx1 t]
theorem vals_prev (c : Dev nD) (t : Fin cfg0.N) (h : ¬ t.val % 4 = 0) (h' : t.val - 1 < cfg0.N) :
    (iblk m c 2 ⟨t.val - 1, h'⟩ : Vec F S1x2304x128 .bf16) = iblk m c 2 t := by
  refine funext fun (y : S1x2304x128.Idx) => ?_
  blk_ext [iblk, V, idx2 ⟨t.val - 1, h'⟩, idx2 t]

/-- What the body leaves in its output block at point `t`. -/
def outAt (c : Dev nD) (t : Fin cfg0.N) : Vec F S1x512x512 .bf16 :=
  outBlk (X0_0 m c t) (iblk m c 1 t) (iblk m c 3 t) (iblk m c 4 t) (valScr (iblk m c 2 t)) (keyScr (iblk m c 1 t))

/-- The scratch and the generator register once point `t` is done. -/
abbrev keptAfter (c : Dev nD) (t : Fin cfg0.N) : sProp 𝕄 :=
  iprop(iprop(owns (c : Thread nD τ) scrV fullShare (valScr (iblk m c 2 t)) ∗ owns (c : Thread nD τ) scrK fullShare (keyScr (iblk m c 1 t))) ∗ (∃ r, prngReg c r))

/-- What holds beside the windows before point `n`. -/
def kept (c : Dev nD) : (n : ℕ) → n ≤ cfg0.N → sProp 𝕄
  | 0, _ => Pipeline.ΦA spec0 c
  | n + 1, hn => keptAfter m c ⟨n, hn⟩

theorem kept_zero (c : Dev nD) (n : ℕ) (h : n ≤ cfg0.N) (hz : n = 0) : kept m c n h = Pipeline.ΦA spec0 c := by
  subst hz; rfl
theorem kept_succ (c : Dev nD) (t : Fin cfg0.N) : kept m c (t.val + 1) t.isLt = keptAfter m c t := rfl
theorem kept_pos (c : Dev nD) (n : ℕ) (h : n ≤ cfg0.N) (hz : n ≠ 0) :
    kept m c n h = keptAfter m c ⟨n - 1, by omega⟩ := by
  cases n with
  | zero => exact absurd rfl hz
  | succ n => rfl

/-- The proof data: the arrays as the region finds them, each input's block in place, the output's block as `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem kept_castSucc (c : Dev nD) (t : Fin cfg0.N) :
    (dats m 0 c).Φ t.castSucc = kept m c t.val (Nat.le_of_lt t.isLt) := by
  dsimp only [dats]; exact Pipeline.Dat.Φ_castSucc (kept m c) t
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)))
def bodyPost (c : Dev nD) (t : Fin cfg0.N) : sProp 𝕄 :=
  iprop((dats m 0 c).Φ t.succ ∗ (dats m 0 c).owesAt () t.succ ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = kept m c (t.val + 1) t.isLt from rfl, kept_succ, kept_castSucc]
  unfold keptAfter outAt
  by_cases h0 : t.val % 4 = 0
  · by_cases hz : t.val = 0
    · rw [kept_zero m c _ _ hz, keep_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ ((startCond_iff t).mpr h0) (X0_0 m c t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [kept_pos m c _ _ hz]; unfold keptAfter
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ ((startCond_iff t).mpr h0) (X0_0 m c t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [kept_pos m c _ _ hz]; unfold keptAfter
    rw [keys_prev m c t h0, vals_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((startCond_iff t).mp h)) (X0_0 m c t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem kept_in (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

theorem kept_out (c : Dev nD) : (dats m 0 c).Φ (Fin.last cfg0.N) ⊢ Pipeline.ΦA spec0 c := by
  have hN : cfg0.N = 128 := N_0
  rw [show (dats m 0 c).Φ (Fin.last cfg0.N) = kept m c (Fin.last cfg0.N).val (Nat.le_of_lt_succ (Fin.last cfg0.N).isLt) from rfl,
    kept_pos m c _ _ (by rw [Fin.val_last]; omega), keep_eq]
  iintro ⟨⟨HS0, HS1⟩, Hg⟩
  isplitl [HS0 HS1]
  · isplitl [HS0]
    · iexists _; iexact HS0
    iexists _; iexact HS1
  iexact Hg

set_option backward.isDefEq.respectTransparency.types false in
/-- The run from any memory: it ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := kept_in m) (hout := kept_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GqaIdeal.Gen

end
-- ==== Proof.DiffIdealCond.lean ====
module

public import proofs.«01_k».proof.Proof.Gen.DiffIdeal.Frame
public import proofs.«01_k».proof.Proof.Gen.DiffIdeal.Skeleton
public import proofs.«01_k».proof.Proof.Gen.DiffIdeal.Points
public import proofs.«01_k».proof.Proof.Gen.DiffIdeal.Launch
public import Idealize.ShloMosaic.Lib.Claim

@[expose] public section

set_option maxRecDepth 16384

noncomputable section

namespace Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body fills its scratch: the innermost grid coordinate is zero. -/
abbrev startCond (i : grid0.Coords) : Prop := (Scalar.cmpi .ne (Scalar.extui (Scalar.cmpi .eq (BitVec.ofNat 32 (i 2).val) 0#32)) 0#32) = 1#1

/-- It holds at every fourth point. -/
theorem startCond_iff : ∀ t : Fin cfg0.N, startCond (grid0.coords t) ↔ t.val % 4 = 0 :=
  (fun t => by
    have ht : t.val < 256 := Nat.lt_of_lt_of_eq t.isLt N_0
    have e2 : (grid0.coords t 2).val = t.val / 1 % 4 := Pipeline.Grid.coords_val t 2 (by decide) rfl
    simp only [startCond, e2]
    word_cmp
   : ∀ t : Fin grid0.N, startCond (grid0.coords t) ↔ t.val % 4 = 0)

/-- Window 0's staging memref at point `t`. -/
abbrev stg0 (t : Fin cfg0.N) : Memref sig .tc .vmem S1x512x256 .bf16 := win0_0.stage (cfg0.slots t 0)
abbrev whole0 (t : Fin cfg0.N) : (stg0 t).IsWhole := hstage0_0 ((cfg0.slots t 0).cast nbuf0_0)
/-- Window 1's staging memref at point `t`. -/
abbrev stg1 (t : Fin cfg0.N) : Memref sig .tc .vmem S1x2304x256 .bf16 := win0_1.stage (cfg0.slots t 1)
abbrev whole1 (t : Fin cfg0.N) : (stg1 t).IsWhole := hstage0_1 ((cfg0.slots t 1).cast nbuf0_1)
/-- Window 2's staging memref at point `t`. -/
abbrev stg2 (t : Fin cfg0.N) : Memref sig .tc .vmem S1x2304x256 .bf16 := win0_2.stage (cfg0.slots t 2)
abbrev whole2 (t : Fin cfg0.N) : (stg2 t).IsWhole := hstage0_2 ((cfg0.slots t 2).cast nbuf0_2)
/-- Window 3's staging memref at point `t`. -/
abbrev stg3 (t : Fin cfg0.N) : Memref sig .tc .vmem S4x64 .f32 := win0_3.stage (cfg0.slots t 3)
abbrev whole3 (t : Fin cfg0.N) : (stg3 t).IsWhole := hstage0_3 ((cfg0.slots t 3).cast nbuf0_3)
/-- Window 4's staging memref at point `t`. -/
abbrev stg4 (t : Fin cfg0.N) : Memref sig .tc .vmem S1x128 .f32 := win0_4.stage (cfg0.slots t 4)
abbrev whole4 (t : Fin cfg0.N) : (stg4 t).IsWhole := hstage0_4 ((cfg0.slots t 4).cast nbuf0_4)
/-- Window 5's staging memref at point `t`. -/
abbrev stg5 (t : Fin cfg0.N) : Memref sig .tc .vmem S1x512x256 .bf16 := win0_5.stage (cfg0.slots t 5)
abbrev whole5 (t : Fin cfg0.N) : (stg5 t).IsWhole := hstage0_5 ((cfg0.slots t 5).cast nbuf0_5)

/-- The scratch of the values with a column of ones, and the scratch of the largest squared key. -/
abbrev scrV : Memref sig .tc .vmem S2x2304x256 .bf16 := Memref.whole cc0_scratch0
abbrev scrK : Memref sig .tc .vmem S2x8x128 .f32 := Memref.whole cc0_scratch1
abbrev outView : View sig .tc .vmem S1x512x256 .bf16 := (Memref.whole cc0_stg5_0 : Memref sig .tc .vmem S1x512x256 .bf16).view

/-- What the pipeline keeps beside the windows: the two scratch buffers and the generator register. -/
theorem keep_eq (c : Dev nD) :
    (Pipeline.ΦA spec0 c : sProp 𝕄)
      = iprop(iprop((∃ d, owns (c : Thread nD τ) scrV fullShare d) ∗ (∃ d, owns (c : Thread nD τ) scrK fullShare d)) ∗ (∃ r, prngReg c r)) := by
  unfold Pipeline.ΦA; rw [scopedRest0_eq]; simp only [scrV, scrK, owns_whole]; try rfl

end Cert.DiffIdeal.Gen

end
-- ==== Proof.DiffIdealBody.lean ====
module

public import proofs.«01_k».proof.Proof.DiffIdealCond

@[expose] public section

set_option maxRecDepth 16384

noncomputable section

namespace Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What one run of the body computes, as functions of the contents of its buffers. -/

def d1_store (x2 : Vec F S1x2304x256 .bf16) :=
  (k0_pay2 (View.ld (Val := Elt F) (S := S1x2304x256) (e' := .bf16) x2 (Rect.unit (s := S1x2304x256) ![0, 0, 0] S1x2304x128.size inb_S1x2304x256_S1x2304x128_0_0_0)))
def d2_store  :=
  (k0_pay3 (F := F))
def d3_store (x1 : Vec F S1x2304x256 .bf16) :=
  (k0_pay4 (View.ld (Val := Elt F) (S := S1x2304x256) (e' := .bf16) x1 (Rect.unit (s := S1x2304x256) ![0, 0, 0] S1x2304x128.size inb_S1x2304x256_S1x2304x128_0_0_0)))
def d4_store (x2 : Vec F S1x2304x256 .bf16) :=
  (k0_pay5 (View.ld (Val := Elt F) (S := S1x2304x256) (e' := .bf16) x2 (Rect.unit (s := S1x2304x256) ![0, 0, 128] S1x2304x128.size inb_S1x2304x256_S1x2304x128_0_0_128)))
def d5_v150  :=
  (k0_pay6 (F := F))
def d6_store  :=
  (k0_pay24 (d5_v150 (F := F)))
def d7_store (x1 : Vec F S1x2304x256 .bf16) :=
  (k0_pay25 (View.ld (Val := Elt F) (S := S1x2304x256) (e' := .bf16) x1 (Rect.unit (s := S1x2304x256) ![0, 0, 128] S1x2304x128.size inb_S1x2304x256_S1x2304x128_0_0_128)))
def d8_v11 (x0 : Vec F S1x512x256 .bf16) :=
  k0_pay27 (View.ld (Val := Elt F) (S := S1x512x256) (e' := .bf16) x0 (Rect.unit (s := S1x512x256) ![0, 0, 0] S1x512x128.size inb_S1x512x256_S1x512x128_0_0_0))
def d9_v16 (x0 : Vec F S1x512x256 .bf16) :=
  k0_pay28 (View.ld (Val := Elt F) (S := S1x512x256) (e' := .bf16) x0 (Rect.unit (s := S1x512x256) ![0, 0, 0] S1x512x128.size inb_S1x512x256_S1x512x128_0_0_0))
def d10_v18 (x1 : Vec F S1x2304x256 .bf16) :=
  k0_pay29 (View.ld (Val := Elt F) (S := S1x2304x256) (e' := .bf16) x1 (Rect.unit (s := S1x2304x256) ![0, 0, 0] S1x2304x128.size inb_S1x2304x256_S1x2304x128_0_0_0))
def d11_v20 (xs0 : Vec F S2x2304x256 .bf16) :=
  k0_pay30 (View.ld (Val := Elt F) (S := S2x2304x256) (e' := .bf16) xs0 (Rect.unit (s := S2x2304x256) ![0, 0, 0] S1x2304x256.size inb_S2x2304x256_S1x2304x256_0_0_0))
def d12_v22 (xs1 : Vec F S2x8x128 .f32) :=
  k0_pay31 (View.ld (Val := Elt F) (S := S2x8x128) (e' := .f32) xs1 (Rect.unit (s := S2x8x128) ![0, 0, 0] S1x1x1.size inb_S2x8x128_S1x1x1_0_0_0))
def d13_v25 (x0 : Vec F S1x512x256 .bf16) :=
  k0_pay32 (View.ld (Val := Elt F) (S := S1x512x256) (e' := .bf16) x0 (Rect.unit (s := S1x512x256) ![0, 0, 128] S1x512x128.size inb_S1x512x256_S1x512x128_0_0_128))
def d14_v31 (x0 : Vec F S1x512x256 .bf16) :=
  k0_pay33 (View.ld (Val := Elt F) (S := S1x512x256) (e' := .bf16) x0 (Rect.unit (s := S1x512x256) ![0, 0, 128] S1x512x128.size inb_S1x512x256_S1x512x128_0_0_128))
def d15_v36 (x0 : Vec F S1x512x256 .bf16) :=
  k0_pay34 (d13_v25 x0) (iota .tc S512x128 32 [1] iota_S512x128_d1_w32) 64#32
def d16_v38 (x1 : Vec F S1x2304x256 .bf16) :=
  k0_pay35 (View.ld (Val := Elt F) (S := S1x2304x256) (e' := .bf16) x1 (Rect.unit (s := S1x2304x256) ![0, 0, 128] S1x2304x128.size inb_S1x2304x256_S1x2304x128_0_0_128))
def d17_v40 (xs0 : Vec F S2x2304x256 .bf16) :=
  k0_pay36 (View.ld (Val := Elt F) (S := S2x2304x256) (e' := .bf16) xs0 (Rect.unit (s := S2x2304x256) ![1, 0, 0] S1x2304x256.size inb_S2x2304x256_S1x2304x256_1_0_0))
def d18_v42 (xs1 : Vec F S2x8x128 .f32) :=
  k0_pay37 (View.ld (Val := Elt F) (S := S2x8x128) (e' := .f32) xs1 (Rect.unit (s := S2x8x128) ![1, 0, 0] S1x1x1.size inb_S2x8x128_S1x1x1_1_0_0))
def d19_v54 (x0 : Vec F S1x512x256 .bf16) (x1 : Vec F S1x2304x256 .bf16) (xs1 : Vec F S2x8x128 .f32) :=
  k0_pay38 (d8_v11 x0) (d10_v18 x1) (d12_v22 xs1)
def d20_v66 (x0 : Vec F S1x512x256 .bf16) (x1 : Vec F S1x2304x256 .bf16) (xs1 : Vec F S2x8x128 .f32) :=
  k0_pay39 (d9_v16 x0) (d10_v18 x1) (d12_v22 xs1)
def d21_v67 (x0 : Vec F S1x512x256 .bf16) (x1 : Vec F S1x2304x256 .bf16) :=
  k0_pay40 (d14_v31 x0) (View.ld (Val := Elt F) (S := S1x2304x256) (e' := .bf16) x1 (Rect.unit (s := S1x2304x256) ![0, 0, 128] S1x2304x128.size inb_S1x2304x256_S1x2304x128_0_0_128))
def d22_v73 (x0 : Vec F S1x512x256 .bf16) (xs1 : Vec F S2x8x128 .f32) :=
  k0_pay41 (d14_v31 x0) (View.ld (Val := Elt F) (S := S2x8x128) (e' := .f32) xs1 (Rect.unit (s := S2x8x128) ![1, 0, 0] S1x1x1.size inb_S2x8x128_S1x1x1_1_0_0))
def d23_a (x0 : Vec F S1x512x256 .bf16) (x1 : Vec F S1x2304x256 .bf16) (xs0 : Vec F S2x2304x256 .bf16) (xs1 : Vec F S2x8x128 .f32) :=
  (k0_pay46 (d11_v20 xs0) (d19_v54 x0 x1 xs1))
def d24_a (x0 : Vec F S1x512x256 .bf16) (x1 : Vec F S1x2304x256 .bf16) (xs0 : Vec F S2x2304x256 .bf16) (xs1 : Vec F S2x8x128 .f32) :=
  (k0_pay47 (d11_v20 xs0) (d19_v54 x0 x1 xs1))
def d25_a (x0 : Vec F S1x512x256 .bf16) (x1 : Vec F S1x2304x256 .bf16) (xs0 : Vec F S2x2304x256 .bf16) (xs1 : Vec F S2x8x128 .f32) :=
  (k0_pay48 (d11_v20 xs0) (d20_v66 x0 x1 xs1))
def d26_a (x0 : Vec F S1x512x256 .bf16) (x1 : Vec F S1x2304x256 .bf16) (xs0 : Vec F S2x2304x256 .bf16) (xs1 : Vec F S2x8x128 .f32) :=
  (k0_pay49 (d11_v20 xs0) (d20_v66 x0 x1 xs1))
def d27_a (x0 : Vec F S1x512x256 .bf16) (x1 : Vec F S1x2304x256 .bf16) (xs0 : Vec F S2x2304x256 .bf16) (xs1 : Vec F S2x8x128 .f32) :=
  (k0_pay50 (d17_v40 xs0) (d21_v67 x0 x1) (d22_v73 x0 xs1))
def d28_a (x0 : Vec F S1x512x256 .bf16) (x1 : Vec F S1x2304x256 .bf16) (xs0 : Vec F S2x2304x256 .bf16) (xs1 : Vec F S2x8x128 .f32) :=
  (k0_pay51 (d17_v40 xs0) (d21_v67 x0 x1) (d22_v73 x0 xs1))
def d29_store (x0 : Vec F S1x512x256 .bf16) (x1 : Vec F S1x2304x256 .bf16) (x3 : Vec F S4x64 .f32) (x4 : Vec F S1x128 .f32) (xs0 : Vec F S2x2304x256 .bf16) (xs1 : Vec F S2x8x128 .f32) :=
  (k0_pay7 (d23_a x0 x1 xs0 xs1) (d24_a x0 x1 xs0 xs1) (d25_a x0 x1 xs0 xs1) (d26_a x0 x1 xs0 xs1) (View.ld (Val := Elt F) (S := S4x64) (e' := .f32) x3 (Rect.unit (s := S4x64) ![0, 0] S4x64.size inb_S4x64_S4x64_0_0)) (View.ld (Val := Elt F) (S := S1x128) (e' := .f32) x4 (Rect.unit (s := S1x128) ![0, 0] S1x128.size inb_S1x128_S1x128_0_0)))
def d30_v168 (x0 : Vec F S1x512x256 .bf16) (x1 : Vec F S1x2304x256 .bf16) (xs0 : Vec F S2x2304x256 .bf16) (xs1 : Vec F S2x8x128 .f32) :=
  (k0_pay8 (d27_a x0 x1 xs0 xs1) (d28_a x0 x1 xs0 xs1))
def d31_store (x0 : Vec F S1x512x256 .bf16) (x1 : Vec F S1x2304x256 .bf16) (x3 : Vec F S4x64 .f32) (x4 : Vec F S1x128 .f32) (xs0 : Vec F S2x2304x256 .bf16) (xs1 : Vec F S2x8x128 .f32) :=
  (k0_pay54 (d15_v36 x0) (d16_v38 x1) (d17_v40 xs0) (d18_v42 xs1) (d30_v168 x0 x1 xs0 xs1) (View.ld (Val := Elt F) (S := S4x64) (e' := .f32) x3 (Rect.unit (s := S4x64) ![0, 0] S4x64.size inb_S4x64_S4x64_0_0)) (View.ld (Val := Elt F) (S := S1x128) (e' := .f32) x4 (Rect.unit (s := S1x128) ![0, 0] S1x128.size inb_S1x128_S1x128_0_0)))
def d32_v153 (x0 : Vec F S1x512x256 .bf16) (x1 : Vec F S1x2304x256 .bf16) (xs0 : Vec F S2x2304x256 .bf16) :=
  k0_pay12 (View.ld (Val := Elt F) (S := S1x512x256) (e' := .bf16) x0 (Rect.unit (s := S1x512x256) ![0, 0, 0] S1x512x128.size inb_S1x512x256_S1x512x128_0_0_0)) (View.ld (Val := Elt F) (S := S1x2304x256) (e' := .bf16) x1 (Rect.unit (s := S1x2304x256) ![0, 0, 0] S1x2304x128.size inb_S1x2304x256_S1x2304x128_0_0_0)) (View.ld (Val := Elt F) (S := S2x2304x256) (e' := .bf16) xs0 (Rect.unit (s := S2x2304x256) ![0, 0, 0] S1x2304x256.size inb_S2x2304x256_S1x2304x256_0_0_0))
def d33_v162 (x0 : Vec F S1x512x256 .bf16) (x1 : Vec F S1x2304x256 .bf16) (xs0 : Vec F S2x2304x256 .bf16) :=
  k0_pay14 (View.ld (Val := Elt F) (S := S1x512x256) (e' := .bf16) x0 (Rect.unit (s := S1x512x256) ![0, 0, 0] S1x512x128.size inb_S1x512x256_S1x512x128_0_0_0)) (View.ld (Val := Elt F) (S := S1x2304x256) (e' := .bf16) x1 (Rect.unit (s := S1x2304x256) ![0, 0, 0] S1x2304x128.size inb_S1x2304x256_S1x2304x128_0_0_0)) (View.ld (Val := Elt F) (S := S2x2304x256) (e' := .bf16) xs0 (Rect.unit (s := S2x2304x256) ![0, 0, 0] S1x2304x256.size inb_S2x2304x256_S1x2304x256_0_0_0))
def d34_v164 (x0 : Vec F S1x512x256 .bf16) (x1 : Vec F S1x2304x256 .bf16) (xs0 : Vec F S2x2304x256 .bf16) :=
  k0_pay15 (View.ld (Val := Elt F) (S := S1x512x256) (e' := .bf16) x0 (Rect.unit (s := S1x512x256) ![0, 0, 0] S1x512x128.size inb_S1x512x256_S1x512x128_0_0_0)) (View.ld (Val := Elt F) (S := S1x2304x256) (e' := .bf16) x1 (Rect.unit (s := S1x2304x256) ![0, 0, 0] S1x2304x128.size inb_S1x2304x256_S1x2304x128_0_0_0)) (View.ld (Val := Elt F) (S := S2x2304x256) (e' := .bf16) xs0 (Rect.unit (s := S2x2304x256) ![0, 0, 0] S1x2304x256.size inb_S2x2304x256_S1x2304x256_0_0_0))
def d35_store (x0 : Vec F S1x512x256 .bf16) (x1 : Vec F S1x2304x256 .bf16) (x3 : Vec F S4x64 .f32) (x4 : Vec F S1x128 .f32) (xs0 : Vec F S2x2304x256 .bf16) :=
  (k0_pay16 (d32_v153 x0 x1 xs0) (d33_v162 x0 x1 xs0) (d34_v164 x0 x1 xs0) (View.ld (Val := Elt F) (S := S4x64) (e' := .f32) x3 (Rect.unit (s := S4x64) ![0, 0] S4x64.size inb_S4x64_S4x64_0_0)) (View.ld (Val := Elt F) (S := S1x128) (e' := .f32) x4 (Rect.unit (s := S1x128) ![0, 0] S1x128.size inb_S1x128_S1x128_0_0)))
def d36_v206 (x0 : Vec F S1x512x256 .bf16) :=
  (k0_pay17 (View.ld (Val := Elt F) (S := S1x512x256) (e' := .bf16) x0 (Rect.unit (s := S1x512x256) ![0, 0, 128] S1x512x128.size inb_S1x512x256_S1x512x128_0_0_128)))
def d37_v234 (x0 : Vec F S1x512x256 .bf16) (x1 : Vec F S1x2304x256 .bf16) (xs0 : Vec F S2x2304x256 .bf16) :=
  k0_pay21 (d36_v206 x0) (View.ld (Val := Elt F) (S := S1x2304x256) (e' := .bf16) x1 (Rect.unit (s := S1x2304x256) ![0, 0, 128] S1x2304x128.size inb_S1x2304x256_S1x2304x128_0_0_128)) (View.ld (Val := Elt F) (S := S2x2304x256) (e' := .bf16) xs0 (Rect.unit (s := S2x2304x256) ![1, 0, 0] S1x2304x256.size inb_S2x2304x256_S1x2304x256_1_0_0))
def d38_v246 (x0 : Vec F S1x512x256 .bf16) (x1 : Vec F S1x2304x256 .bf16) (xs0 : Vec F S2x2304x256 .bf16) :=
  k0_pay22 (d36_v206 x0) (View.ld (Val := Elt F) (S := S1x2304x256) (e' := .bf16) x1 (Rect.unit (s := S1x2304x256) ![0, 0, 128] S1x2304x128.size inb_S1x2304x256_S1x2304x128_0_0_128)) (View.ld (Val := Elt F) (S := S2x2304x256) (e' := .bf16) xs0 (Rect.unit (s := S2x2304x256) ![1, 0, 0] S1x2304x256.size inb_S2x2304x256_S1x2304x256_1_0_0))
def d39_v247 (x3 : Vec F S4x64 .f32) :=
  (View.ld (Val := Elt F) (S := S4x64) (e' := .f32) x3 (Rect.unit (s := S4x64) ![0, 0] S4x64.size inb_S4x64_S4x64_0_0))
def d40_v248 (x3 : Vec F S4x64 .f32) :=
  k0_pay23 (View.ld (Val := Elt F) (S := S4x64) (e' := .f32) x3 (Rect.unit (s := S4x64) ![0, 0] S4x64.size inb_S4x64_S4x64_0_0))
def d41_store (x0 : Vec F S1x512x256 .bf16) (x1 : Vec F S1x2304x256 .bf16) (x3 : Vec F S4x64 .f32) (x4 : Vec F S1x128 .f32) (xs0 : Vec F S2x2304x256 .bf16) :=
  (k0_pay1 (d37_v234 x0 x1 xs0) (d38_v246 x0 x1 xs0) (d39_v247 x3) (d40_v248 x3) (View.ld (Val := Elt F) (S := S1x128) (e' := .f32) x4 (Rect.unit (s := S1x128) ![0, 0] S1x128.size inb_S1x128_S1x128_0_0)))

/-- The pieces the start of a run writes into the two scratch buffers. -/
def valPieces (x2 : Vec F S1x2304x256 .bf16) : List (View.Piece (Elt F) S2x2304x256 .bf16) :=
  [⟨(Rect.unit (s := S2x2304x256) ![1, 0, 128] S1x2304x128.size inb_S2x2304x256_S1x2304x128_1_0_128), (d6_store (F := F))⟩,
    ⟨(Rect.unit (s := S2x2304x256) ![1, 0, 0] S1x2304x128.size inb_S2x2304x256_S1x2304x128_1_0_0), (d4_store x2)⟩,
    ⟨(Rect.unit (s := S2x2304x256) ![0, 0, 128] S1x2304x128.size inb_S2x2304x256_S1x2304x128_0_0_128), (d2_store (F := F))⟩,
    ⟨(Rect.unit (s := S2x2304x256) ![0, 0, 0] S1x2304x128.size inb_S2x2304x256_S1x2304x128_0_0_0), (d1_store x2)⟩]
def keyPieces (x1 : Vec F S1x2304x256 .bf16) : List (View.Piece (Elt F) S2x8x128 .f32) :=
  [⟨(Rect.unit (s := S2x8x128) ![1, 0, 0] S1x8x128.size inb_S2x8x128_S1x8x128_1_0_0), (d7_store x1)⟩,
    ⟨(Rect.unit (s := S2x8x128) ![0, 0, 0] S1x8x128.size inb_S2x8x128_S1x8x128_0_0_0), (d3_store x1)⟩]
def valScr (x2 : Vec F S1x2304x256 .bf16) : Vec F S2x2304x256 .bf16 := View.canon (valPieces x2)
def keyScr (x1 : Vec F S1x2304x256 .bf16) : Vec F S2x8x128 .f32 := View.canon (keyPieces x1)

/-- Whether every denominator is large enough for the bound shift. -/
def gate (x0 : Vec F S1x512x256 .bf16) (x1 : Vec F S1x2304x256 .bf16) (x3 : Vec F S4x64 .f32) (x4 : Vec F S1x128 .f32) (xs0 : Vec F S2x2304x256 .bf16) (xs1 : Vec F S2x8x128 .f32) : BitVec 1 := Scalar.cmpf .oge (k0_pay53 (d11_v20 xs0) (d15_v36 x0) (d16_v38 x1) (d17_v40 xs0) (d18_v42 xs1) (d19_v54 x0 x1 xs1) (d20_v66 x0 x1 xs1) (d21_v67 x0 x1) (d22_v73 x0 xs1)) (Scalar.ofBits .f32 0x13800000#32)

/-- The output's pieces where the bound shift is precise, and where it is not. -/
def sharpPieces (x0 : Vec F S1x512x256 .bf16) (x1 : Vec F S1x2304x256 .bf16) (x3 : Vec F S4x64 .f32) (x4 : Vec F S1x128 .f32) (xs0 : Vec F S2x2304x256 .bf16) (xs1 : Vec F S2x8x128 .f32) : List (View.Piece (Elt F) S1x512x256 .bf16) :=
  [⟨(Rect.unit (s := S1x512x256) ![0, 0, 128] S1x512x128.size inb_S1x512x256_S1x512x128_0_0_128), (d31_store x0 x1 x3 x4 xs0 xs1)⟩,
    ⟨(Rect.unit (s := S1x512x256) ![0, 0, 0] S1x512x128.size inb_S1x512x256_S1x512x128_0_0_0), (d29_store x0 x1 x3 x4 xs0 xs1)⟩]
def maxPieces (x0 : Vec F S1x512x256 .bf16) (x1 : Vec F S1x2304x256 .bf16) (x3 : Vec F S4x64 .f32) (x4 : Vec F S1x128 .f32) (xs0 : Vec F S2x2304x256 .bf16) (xs1 : Vec F S2x8x128 .f32) : List (View.Piece (Elt F) S1x512x256 .bf16) :=
  [⟨(Rect.unit (s := S1x512x256) ![0, 0, 128] S1x512x128.size inb_S1x512x256_S1x512x128_0_0_128), (d41_store x0 x1 x3 x4 xs0)⟩,
    ⟨(Rect.unit (s := S1x512x256) ![0, 0, 0] S1x512x128.size inb_S1x512x256_S1x512x128_0_0_0), (d35_store x0 x1 x3 x4 xs0)⟩]
def outBlk (x0 : Vec F S1x512x256 .bf16) (x1 : Vec F S1x2304x256 .bf16) (x3 : Vec F S4x64 .f32) (x4 : Vec F S1x128 .f32) (xs0 : Vec F S2x2304x256 .bf16) (xs1 : Vec F S2x8x128 .f32) : Vec F S1x512x256 .bf16 :=
  if gate x0 x1 x3 x4 xs0 xs1 = 1#1 then View.canon (sharpPieces x0 x1 x3 x4 xs0 xs1) else View.canon (maxPieces x0 x1 x3 x4 xs0 xs1)

theorem valPieces_cover (x2 : Vec F S1x2304x256 .bf16) (y : S2x2304x256.Idx) : ∃ p ∈ valPieces x2, y ∈ p.1.set :=
  View.cover_of_tiledL (valPieces x2) S1x2304x128.size (by sl_kernel_rfl) y
theorem keyPieces_cover (x1 : Vec F S1x2304x256 .bf16) (y : S2x8x128.Idx) : ∃ p ∈ keyPieces x1, y ∈ p.1.set :=
  View.cover_of_tiledL (keyPieces x1) S1x8x128.size (by sl_kernel_rfl) y
theorem sharpPieces_cover (x0 : Vec F S1x512x256 .bf16) (x1 : Vec F S1x2304x256 .bf16) (x3 : Vec F S4x64 .f32) (x4 : Vec F S1x128 .f32) (xs0 : Vec F S2x2304x256 .bf16) (xs1 : Vec F S2x8x128 .f32) (y : S1x512x256.Idx) : ∃ p ∈ sharpPieces x0 x1 x3 x4 xs0 xs1, y ∈ p.1.set :=
  View.cover_of_tiledL (sharpPieces x0 x1 x3 x4 xs0 xs1) S1x512x128.size (by sl_kernel_rfl) y
theorem maxPieces_cover (x0 : Vec F S1x512x256 .bf16) (x1 : Vec F S1x2304x256 .bf16) (x3 : Vec F S4x64 .f32) (x4 : Vec F S1x128 .f32) (xs0 : Vec F S2x2304x256 .bf16) (xs1 : Vec F S2x8x128 .f32) (y : S1x512x256.Idx) : ∃ p ∈ maxPieces x0 x1 x3 x4 xs0 xs1, y ∈ p.1.set :=
  View.cover_of_tiledL (maxPieces x0 x1 x3 x4 xs0 xs1) S1x512x128.size (by sl_kernel_rfl) y

/-- The two branches of the body are told apart by one bit. -/
theorem bit_ne (b : BitVec 1) : Scalar.cmpi .ne (Scalar.extui b) 0#32 = 1#1 ↔ b = 1#1 := by
  revert b; decide
theorem bit_xor (b : BitVec 1) : Scalar.cmpi .ne (Scalar.extui (Scalar.xori b 1#1)) 0#32 = 1#1 ↔ ¬ b = 1#1 := by
  revert b; decide

/-- What is read of the output block after the two branches, whichever was taken. -/
theorem read_branches (v : View sig .tc .vmem S1x512x256 .bf16) (f : v.ty.Contents (Elt F)) (b : BitVec 1)
    (Lp Lm : List (View.Piece (Elt F) S1x512x256 .bf16)) (hp : ∀ y, ∃ p ∈ Lp, y ∈ p.1.set) (hm : ∀ y, ∃ p ∈ Lm, y ∈ p.1.set) :
    v.read (Elt F) (if hc : Scalar.cmpi .ne (Scalar.extui (Scalar.xori b 1#1)) 0#32 = 1#1 then
        v.writes (Elt F) (if hc : Scalar.cmpi .ne (Scalar.extui b) 0#32 = 1#1 then v.writes (Elt F) f Lp else f) Lm
      else if hc : Scalar.cmpi .ne (Scalar.extui b) 0#32 = 1#1 then v.writes (Elt F) f Lp else f)
      = if b = 1#1 then View.canon Lp else View.canon Lm := by
  by_cases hb : b = 1#1
  · rw [dif_neg (fun h => (bit_xor b).mp h hb), dif_pos ((bit_ne b).mpr hb), if_pos hb]
    exact View.read_writes_eq_canon v f Lp hp
  · rw [dif_pos ((bit_xor b).mpr hb), dif_neg (fun h => hb ((bit_ne b).mp h)), if_neg hb]
    exact View.read_writes_eq_canon v f Lm hm

end Cert.DiffIdeal.Gen

end
-- ==== Proof.DiffIdealRun.lean ====
module

public import proofs.«01_k».proof.Proof.DiffIdealBody

@[expose] public section

set_option maxRecDepth 16384

noncomputable section

namespace Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A run at the start of a row of query tiles: it fills the scratch, then writes its output block. -/
theorem runA (c : Dev nD) (i : grid0.Coords) (arg3 : Memref sig .tc .vmem S1x512x256 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x256 .bf16) (harg8 : arg8.IsWhole) (arg9 : Memref sig .tc .vmem S2x2304x256 .bf16) (harg9 : arg9.IsWhole) (arg10 : Memref sig .tc .vmem S2x8x128 .f32) (harg10 : arg10.IsWhole) (hc0 : startCond i)
    (x0 : Vec F S1x512x256 .bf16) (x1 : Vec F S1x2304x256 .bf16) (x2 : Vec F S1x2304x256 .bf16) (x3 : Vec F S4x64 .f32) (x4 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk x0 x1 x3 x4 (valScr x2) (keyScr x1)) ∗ owns (c : Thread nD τ) arg9 fullShare (valScr x2) ∗ owns (c : Thread nD τ) arg10 fullShare (keyScr x1)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  subst hf0 hf1 hf2 hf3 hf4
  sl_exec (disch := first | sl_exact hc0)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  have e9 : (arg9.view.read (Elt F) (arg9.view.writes (Elt F) arg9.view.junk (valPieces (arg5.view.read (Elt F) f2)))) = valScr (arg5.view.read (Elt F) f2) := View.read_writes_junk_eq_canon _ _
  have e10 : (arg10.view.read (Elt F) (arg10.view.writes (Elt F) arg10.view.junk (keyPieces (arg4.view.read (Elt F) f1)))) = keyScr (arg4.view.read (Elt F) f1) := View.read_writes_junk_eq_canon _ _
  isplitl [H5]
  · iexists _; isplitr; rotate_left
    · iexact H5
    · ipureintro
      rw [← e9, ← e10]
      exact read_branches arg8.view f5 (gate (arg3.view.read (Elt F) f0) (arg4.view.read (Elt F) f1) (arg6.view.read (Elt F) f3) (arg7.view.read (Elt F) f4) (arg9.view.read (Elt F) (arg9.view.writes (Elt F) arg9.view.junk (valPieces (arg5.view.read (Elt F) f2)))) (arg10.view.read (Elt F) (arg10.view.writes (Elt F) arg10.view.junk (keyPieces (arg4.view.read (Elt F) f1))))) (sharpPieces (arg3.view.read (Elt F) f0) (arg4.view.read (Elt F) f1) (arg6.view.read (Elt F) f3) (arg7.view.read (Elt F) f4) (arg9.view.read (Elt F) (arg9.view.writes (Elt F) arg9.view.junk (valPieces (arg5.view.read (Elt F) f2)))) (arg10.view.read (Elt F) (arg10.view.writes (Elt F) arg10.view.junk (keyPieces (arg4.view.read (Elt F) f1))))) (maxPieces (arg3.view.read (Elt F) f0) (arg4.view.read (Elt F) f1) (arg6.view.read (Elt F) f3) (arg7.view.read (Elt F) f4) (arg9.view.read (Elt F) (arg9.view.writes (Elt F) arg9.view.junk (valPieces (arg5.view.read (Elt F) f2)))) (arg10.view.read (Elt F) (arg10.view.writes (Elt F) arg10.view.junk (keyPieces (arg4.view.read (Elt F) f1))))) (sharpPieces_cover _ _ _ _ _ _) (maxPieces_cover _ _ _ _ _ _)
  isplitl [HS0]
  · iexists _; isplitr; rotate_left
    · iexact HS0
    · ipureintro; exact View.read_writes_eq_canon arg9.view fs0 (valPieces (arg5.view.read (Elt F) f2)) (valPieces_cover _)
  iexists _; isplitr; rotate_left
  · iexact HS1
  · ipureintro; exact View.read_writes_eq_canon arg10.view fs1 (keyPieces (arg4.view.read (Elt F) f1)) (keyPieces_cover _)

set_option maxHeartbeats 1000000 in
/-- A run later in a row: the scratch stays, and the output block is written. -/
theorem runB (c : Dev nD) (i : grid0.Coords) (arg3 : Memref sig .tc .vmem S1x512x256 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x256 .bf16) (harg8 : arg8.IsWhole) (arg9 : Memref sig .tc .vmem S2x2304x256 .bf16) (harg9 : arg9.IsWhole) (arg10 : Memref sig .tc .vmem S2x8x128 .f32) (harg10 : arg10.IsWhole) (hc0 : ¬startCond i)
    (x0 : Vec F S1x512x256 .bf16) (x1 : Vec F S1x2304x256 .bf16) (x2 : Vec F S1x2304x256 .bf16) (x3 : Vec F S4x64 .f32) (x4 : Vec F S1x128 .f32) (xs0 : Vec F S2x2304x256 .bf16) (xs1 : Vec F S2x8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk x0 x1 x3 x4 xs0 xs1) ∗ owns (c : Thread nD τ) arg9 fullShare xs0 ∗ owns (c : Thread nD τ) arg10 fullShare xs1) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  subst hf0 hf1 hf2 hf3 hf4 hfs0 hfs1
  sl_exec (disch := first | sl_exact hc0)
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; rotate_left
    · iexact H5
    · ipureintro
      exact read_branches arg8.view f5 (gate (arg3.view.read (Elt F) f0) (arg4.view.read (Elt F) f1) (arg6.view.read (Elt F) f3) (arg7.view.read (Elt F) f4) (arg9.view.read (Elt F) fs0) (arg10.view.read (Elt F) fs1)) (sharpPieces (arg3.view.read (Elt F) f0) (arg4.view.read (Elt F) f1) (arg6.view.read (Elt F) f3) (arg7.view.read (Elt F) f4) (arg9.view.read (Elt F) fs0) (arg10.view.read (Elt F) fs1)) (maxPieces (arg3.view.read (Elt F) f0) (arg4.view.read (Elt F) f1) (arg6.view.read (Elt F) f3) (arg7.view.read (Elt F) f4) (arg9.view.read (Elt F) fs0) (arg10.view.read (Elt F) fs1)) (sharpPieces_cover _ _ _ _ _ _) (maxPieces_cover _ _ _ _ _ _)
  isplitl [HS0]
  · iexists _; isplitr; · ipureintro; exact rfl
    iexact HS0
  iexists _; isplitr; · ipureintro; exact rfl
  iexact HS1

end Cert.DiffIdeal.Gen

end
-- ==== Proof.DiffIdealFrame.lean ====
module

public import proofs.«01_k».proof.Proof.DiffIdealRun
public import Idealize.ShloMosaic.Lib.Pipeline.ValueKit

@[expose] public section

set_option maxRecDepth 16384

noncomputable section

namespace Cert.DiffIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The frame of the program: the scratch holds, through a row of query tiles, the values and the largest squared key
of the row's blocks, so that what every point writes is a function of that point's blocks alone. -/

/-- The block each window stands at, at point `t`. -/
theorem idx0 : ∀ t : Fin cfg0.N, win0_0.index t = ![t.val / 16, t.val % 4, 0 + t.val / 4 % 4] := (by decide +kernel : ∀ t : Fin grid0.N, _)
theorem idx1 : ∀ t : Fin cfg0.N, win0_1.index t = ![t.val / 16, 0, 4 + t.val / 4 % 4] := (by decide +kernel : ∀ t : Fin grid0.N, _)
theorem idx2 : ∀ t : Fin cfg0.N, win0_2.index t = ![t.val / 16, 0, 8 + t.val / 4 % 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 16, t.val % 4, t.val / 4 % 4] := (by decide +kernel : ∀ t : Fin grid0.N, _)

/-- Within a row of query tiles the blocks of keys and of values do not move. -/
theorem keys_prev (c : Dev nD) (t : Fin cfg0.N) (h : ¬ t.val % 4 = 0) (h' : t.val - 1 < cfg0.N) :
    (iblk m c 1 ⟨t.val - 1, h'⟩ : Vec F S1x2304x256 .bf16) = iblk m c 1 t := by
  refine funext fun (y : S1x2304x256.Idx) => ?_
  blk_ext [iblk, V, idx1 ⟨t.val - 1, h'⟩, idx1 t]
theorem vals_prev (c : Dev nD) (t : Fin cfg0.N) (h : ¬ t.val % 4 = 0) (h' : t.val - 1 < cfg0.N) :
    (iblk m c 2 ⟨t.val - 1, h'⟩ : Vec F S1x2304x256 .bf16) = iblk m c 2 t := by
  refine funext fun (y : S1x2304x256.Idx) => ?_
  blk_ext [iblk, V, idx2 ⟨t.val - 1, h'⟩, idx2 t]

/-- What the body leaves in its output block at point `t`. -/
def outAt (c : Dev nD) (t : Fin cfg0.N) : Vec F S1x512x256 .bf16 :=
  outBlk (X0_0 m c t) (iblk m c 1 t) (iblk m c 3 t) (iblk m c 4 t) (valScr (iblk m c 2 t)) (keyScr (iblk m c 1 t))

/-- The scratch and the generator register once point `t` is done. -/
abbrev keptAfter (c : Dev nD) (t : Fin cfg0.N) : sProp 𝕄 :=
  iprop(iprop(owns (c : Thread nD τ) scrV fullShare (valScr (iblk m c 2 t)) ∗ owns (c : Thread nD τ) scrK fullShare (keyScr (iblk m c 1 t))) ∗ (∃ r, prngReg c r))

/-- What holds beside the windows before point `n`. -/
def kept (c : Dev nD) : (n : ℕ) → n ≤ cfg0.N → sProp 𝕄
  | 0, _ => Pipeline.ΦA spec0 c
  | n + 1, hn => keptAfter m c ⟨n, hn⟩

theorem kept_zero (c : Dev nD) (n : ℕ) (h : n ≤ cfg0.N) (hz : n = 0) : kept m c n h = Pipeline.ΦA spec0 c := by
  subst hz; rfl
theorem kept_succ (c : Dev nD) (t : Fin cfg0.N) : kept m c (t.val + 1) t.isLt = keptAfter m c t := rfl
theorem kept_pos (c : Dev nD) (n : ℕ) (h : n ≤ cfg0.N) (hz : n ≠ 0) :
    kept m c n h = keptAfter m c ⟨n - 1, by omega⟩ := by
  cases n with
  | zero => exact absurd rfl hz
  | succ n => rfl

/-- The proof data: the arrays as the region finds them, each input's block in place, the output's block as `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem kept_castSucc (c : Dev nD) (t : Fin cfg0.N) :
    (dats m 0 c).Φ t.castSucc = kept m c t.val (Nat.le_of_lt t.isLt) := by
  dsimp only [dats]; exact Pipeline.Dat.Φ_castSucc (kept m c) t
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)))
def bodyPost (c : Dev nD) (t : Fin cfg0.N) : sProp 𝕄 :=
  iprop((dats m 0 c).Φ t.succ ∗ (dats m 0 c).owesAt () t.succ ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = kept m c (t.val + 1) t.isLt from rfl, kept_succ, kept_castSucc]
  unfold keptAfter outAt
  by_cases h0 : t.val % 4 = 0
  · by_cases hz : t.val = 0
    · rw [kept_zero m c _ _ hz, keep_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ ((startCond_iff t).mpr h0) (X0_0 m c t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [kept_pos m c _ _ hz]; unfold keptAfter
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ ((startCond_iff t).mpr h0) (X0_0 m c t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [kept_pos m c _ _ hz]; unfold keptAfter
    rw [keys_prev m c t h0, vals_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((startCond_iff t).mp h)) (X0_0 m c t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem kept_in (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

theorem kept_out (c : Dev nD) : (dats m 0 c).Φ (Fin.last cfg0.N) ⊢ Pipeline.ΦA spec0 c := by
  have hN : cfg0.N = 256 := N_0
  rw [show (dats m 0 c).Φ (Fin.last cfg0.N) = kept m c (Fin.last cfg0.N).val (Nat.le_of_lt_succ (Fin.last cfg0.N).isLt) from rfl,
    kept_pos m c _ _ (by rw [Fin.val_last]; omega), keep_eq]
  iintro ⟨⟨HS0, HS1⟩, Hg⟩
  isplitl [HS0 HS1]
  · isplitl [HS0]
    · iexists _; iexact HS0
    iexists _; iexact HS1
  iexact Hg

set_option backward.isDefEq.respectTransparency.types false in
/-- The run from any memory: it ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := kept_in m) (hout := kept_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.DiffIdeal.Gen

end
-- ==== Proof.Soft.lean ====
module
public import Idealize.ShloMosaic.Lib.Pipeline.ValueKit
public import Idealize.ShloMosaic.Lib.IdealHost
public import Mathlib.Data.EReal.Operations
@[expose] public section
set_option maxRecDepth 16384
noncomputable section
open Idealize.ShloMosaic Idealize.ShloMosaic.TcCoe Idealize.SL.Sem
open scoped BigOperators
namespace Cert.Soft

/-! Softmax attention over real scores, whatever real the scores are shifted by. -/

/-- The attention of real scores over real values, in powers of two. -/
def att {n : ℕ} (s v : Fin n → ℝ) : ℝ := (∑ k, (2 : ℝ) ^ (s k) * v k) / ∑ k, (2 : ℝ) ^ (s k)

theorem coe_sum {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

theorem coe_dot {n : ℕ} (f g : Fin n → ℝ) : ∑ k, (f k : EReal) * (g k : EReal) = ((∑ k, f k * g k : ℝ) : EReal) := by
  rw [← coe_sum]; exact Finset.sum_congr rfl fun k _ => (EReal.coe_mul _ _).symm

theorem exp2_coe (r : ℝ) : (FloatOps.exp2 (F := Ideal) (φ := .f32) (r : EReal) : EReal) = (((2 : ℝ) ^ r : ℝ) : EReal) := rfl
theorem exp_coe (r : ℝ) : Ideal.exp (r : EReal) = ((Real.exp r : ℝ) : EReal) := rfl
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]
theorem sqrt_coe (r : ℝ) (h : 0 ≤ r) : Ideal.sqrt (r : EReal) = ((Real.sqrt r : ℝ) : EReal) := by
  show (if r < 0 then (⊥ : EReal) else _) = _
  rw [if_neg (not_lt.mpr h)]
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by
  simp [Ideal.ofBits, Ideal.ieee]
theorem log_two : Ideal.log (Ideal.ofBits .f32 0x40000000#32) = ((Real.log 2 : ℝ) : EReal) := by
  rw [ofBits_two]
  show (if (2 : ℝ) ≤ 0 then (⊥ : EReal) else _) = _
  rw [if_neg (by norm_num)]

theorem pow_sum_pos {n : ℕ} [NeZero n] (s : Fin n → ℝ) : 0 < ∑ k, (2 : ℝ) ^ (s k) :=
  Finset.sum_pos (fun k _ => Real.rpow_pos_of_pos (by norm_num) _) ⟨0, Finset.mem_univ _⟩

theorem att_shift {n : ℕ} (s v : Fin n → ℝ) (c : ℝ) :
    (∑ k, (2 : ℝ) ^ (s k - c) * v k) / ∑ k, (2 : ℝ) ^ (s k - c) = att s v := by
  have h2 : ∀ k, (2 : ℝ) ^ (s k - c) = (2 : ℝ) ^ (s k) * (2 : ℝ) ^ (-c) := fun k => by
    rw [sub_eq_add_neg, Real.rpow_add (by norm_num)]
  have hc : (2 : ℝ) ^ (-c) ≠ 0 := (Real.rpow_pos_of_pos (by norm_num) _).ne'
  unfold att
  simp only [h2]
  rw [← Finset.sum_mul, Finset.sum_congr rfl (fun k _ => mul_right_comm _ _ (v k)), ← Finset.sum_mul, mul_div_mul_right _ _ hc]

/-- The kernel's quotient: the scores shifted by any real, the values and the ones summed against the same weights. -/
theorem att_of_shift {n : ℕ} [NeZero n] (S V O : Fin n → EReal) (C : EReal) (s v : Fin n → ℝ)
    (hS : ∀ k, S k = s k) (hV : ∀ k, V k = v k) (hO : ∀ k, O k = 1) (hC : ∃ c : ℝ, C = c) :
    Ideal.div (∑ k, FloatOps.exp2 (F := Ideal) (φ := .f32) (S k - C) * V k) (∑ k, FloatOps.exp2 (F := Ideal) (φ := .f32) (S k - C) * O k) = (att s v : EReal) := by
  obtain ⟨c, rfl⟩ := hC
  have e : ∀ k, FloatOps.exp2 (F := Ideal) (φ := .f32) (S k - (c : EReal)) = (((2 : ℝ) ^ (s k - c) : ℝ) : EReal) := fun k => by
    rw [hS, ← EReal.coe_sub]; exact exp2_coe _
  simp only [e, hV, hO, mul_one]
  rw [coe_dot, coe_sum, div_coe _ _ (pow_sum_pos fun k => s k - c).ne', att_shift]

/-- The weight of a key. -/
def wt {n : ℕ} (s : Fin n → ℝ) (k : Fin n) : ℝ := (2 : ℝ) ^ (s k) / ∑ k, (2 : ℝ) ^ (s k)

theorem att_eq_wt {n : ℕ} (s v : Fin n → ℝ) : att s v = ∑ k, wt s k * v k := by
  unfold att wt
  rw [Finset.sum_div]
  exact Finset.sum_congr rfl fun k _ => by rw [div_mul_eq_mul_div]

/-- The reference's weight: the exponential of the scores times the logarithm of two, less any real, normalised. -/
theorem wt_of_softmax {n : ℕ} [NeZero n] (S : Fin n → EReal) (C : EReal) (s : Fin n → ℝ)
    (hS : ∀ k, S k = ((s k * Real.log 2 : ℝ) : EReal)) (hC : ∃ c : ℝ, C = c) (k : Fin n) :
    Ideal.div (Ideal.exp (S k - C)) (∑ j, Ideal.exp (S j - C)) = (wt s k : EReal) := by
  obtain ⟨c, rfl⟩ := hC
  have e : ∀ k, Ideal.exp (S k - (c : EReal)) = (((2 : ℝ) ^ (s k) * Real.exp (-c) : ℝ) : EReal) := fun k => by
    rw [hS, ← EReal.coe_sub, exp_coe, sub_eq_add_neg, Real.exp_add, Real.rpow_def_of_pos (by norm_num : (0:ℝ) < 2), mul_comm (Real.log 2)]
  simp only [e]
  rw [coe_sum, ← Finset.sum_mul, div_coe _ _ (mul_pos (pow_sum_pos s) (Real.exp_pos _)).ne', mul_div_mul_right _ _ (Real.exp_pos _).ne']
  rfl

theorem fold_max_coe {n : ℕ} (t : Finset (Fin n)) (f : Fin n → ℝ) (ht : t.Nonempty) :
    ∃ c : ℝ, t.fold max (⊥ : EReal) (fun k => (f k : EReal)) = c ∧ ∃ k ∈ t, c = f k := by
  induction t using Finset.induction_on with
  | empty => exact absurd ht (by simp)
  | insert a t ha ih =>
    rw [Finset.fold_insert ha]
    by_cases h : t.Nonempty
    · obtain ⟨c, hc, k, hk, e⟩ := ih h
      rw [hc, ← EReal.coe_strictMono.monotone.map_max]
      rcases max_choice (f a) c with h' | h'
      · exact ⟨_, rfl, a, Finset.mem_insert_self _ _, h'⟩
      · exact ⟨_, rfl, k, Finset.mem_insert_of_mem hk, by rw [h', e]⟩
    · rw [Finset.not_nonempty_iff_eq_empty.mp h]
      exact ⟨f a, by simp, a, Finset.mem_insert_self _ _, rfl⟩

/-- The largest of real scores is real. -/
theorem max_real {n : ℕ} [NeZero n] (S : Fin n → EReal) (s : Fin n → ℝ) (hS : ∀ k, S k = s k) :
    ∃ c : ℝ, Finset.univ.fold max (Ideal.ofBits .f32 0xFF800000#32) S = c ∧ ∃ k, c = s k := by
  rw [ofBits_bot, show S = fun k => (s k : EReal) from funext hS]
  obtain ⟨c, hc, k, _, e⟩ := fold_max_coe Finset.univ s ⟨0, Finset.mem_univ _⟩
  exact ⟨c, hc, k, e⟩

/-- The bound the scores are shifted by is real: the root of a sum of squares times the largest of sums of squares. -/
theorem bound_real {d n : ℕ} [NeZero n] (q : Fin d → ℝ) (K : Fin n → EReal) (kk : Fin n → Fin d → ℝ)
    (hK : ∀ k, K k = ((∑ x, kk k x * kk k x : ℝ) : EReal)) (b : EReal) (hb : ∃ β : ℝ, b = β) :
    ∃ c : ℝ, b * Ideal.sqrt ((∑ x, (q x : EReal) * (q x : EReal)) * Finset.univ.fold max (Ideal.ofBits .f32 0xFF800000#32) K) = c := by
  obtain ⟨β, rfl⟩ := hb
  obtain ⟨m, hm, k, e⟩ := max_real K _ hK
  rw [hm, coe_dot, ← EReal.coe_mul, sqrt_coe, ← EReal.coe_mul]
  · exact ⟨_, rfl⟩
  · rw [e]
    exact mul_nonneg (Finset.sum_nonneg fun x _ => mul_self_nonneg _) (Finset.sum_nonneg fun x _ => mul_self_nonneg _)

theorem slack_real : ∃ β : ℝ, Ideal.ofBits .f32 0x3F828F5C#32 = β := by
  simp only [Ideal.ofBits, Ideal.ieee]
  exact ⟨_, by simp [-EReal.coe_mul]; rfl⟩

/-- An entry of absolute value below the infinity is real. -/
theorem real_of_abs (x : EReal) (h : max x (-x) < ⊤) : ∃ r : ℝ, x = r := by
  induction x with
  | bot => simp at h
  | top => simp at h
  | coe r => exact ⟨r, rfl⟩

end Cert.Soft
-- ==== Proof.GqaIdealRows.lean ====
module
public import proofs.«01_k».proof.Proof.GqaIdealFrame
public import proofs.«01_k».proof.Proof.Soft
@[expose] public section
set_option maxRecDepth 16384
noncomputable section
open Idealize.ShloMosaic Idealize.ShloMosaic.TcCoe Idealize.SL.Sem
open Idealize.ShloMosaic.Pipeline (Dat)
open scoped BigOperators
namespace Cert.GqaIdeal.Gen
open Cert.GqaIdeal Cert.Soft
/-! What the body stores, over real blocks: the attention of each query row, head by head. -/

/-- The scratch of values: the values, and ones beside them. -/
theorem valScr_val (x2 : Vec Ideal S1x2304x128 .bf16) (j : Fin 2304) (d : Fin 128) :
    valScr x2 (ix3 0 j ⟨d.val, by omega⟩) = x2 (ix3 0 j d) := by
  unfold valScr valPieces
  canon_tiles x h
  · exfalso; simp at h2; omega
  · idx_vars x
    pointwise [d1_store, k0_pay13]
    blk_ext
theorem valScr_one (x2 : Vec Ideal S1x2304x128 .bf16) (j : Fin 2304) :
    valScr x2 (ix3 0 j 128) = (1 : EReal) := by
  unfold valScr valPieces
  canon_tiles x h
  · pointwise [d2_store, k0_pay14]
  · exfalso; simp at h2; omega
/-- The scratch of the largest squared key. -/
theorem keyScr_val (x1 : Vec Ideal S1x2304x128 .bf16) (a : Fin 8) (b : Fin 128) :
    keyScr x1 (ix3 0 a b) = Finset.univ.fold max (Ideal.ofBits .f32 0xFF800000#32) (fun j : Fin 2304 => ∑ d : Fin 128, (x1 (ix3 0 j d) : EReal) * x1 (ix3 0 j d)) := by
  unfold keyScr keyPieces
  canon_tiles x h
  pointwise [d3_store, k0_pay15]

/-- One row of one head. -/
def attRow (q : Fin 512 → Fin 512 → ℝ) (k v : Fin 2304 → Fin 128 → ℝ) (r l : Fin 512) : ℝ :=
  att (fun j => ∑ d : Fin 128, q r ⟨l.val / 128 * 128 + d.val, by omega⟩ * k j d) (fun j => v j ⟨l.val % 128, by omega⟩)

section
variable (x0 : Vec Ideal S1x512x512 .bf16) (x1 : Vec Ideal S1x2304x128 .bf16) (xs0 : Vec Ideal S1x2304x256 .bf16) (xs1 : Vec Ideal S1x8x128 .f32)
  (q : Fin 512 → Fin 512 → ℝ) (k v : Fin 2304 → Fin 128 → ℝ)
  (h0 : ∀ r l, x0 (ix3 0 r l) = ((q r l : ℝ) : EReal)) (h1 : ∀ j d, x1 (ix3 0 j d) = ((k j d : ℝ) : EReal))
  (hv : ∀ j (d : Fin 128), xs0 (ix3 0 j ⟨d.val, by omega⟩) = ((v j d : ℝ) : EReal)) (ho : ∀ j, xs0 (ix3 0 j 128) = (1 : EReal))
  (hm : xs1 (ix3 0 0 0) = Finset.univ.fold max (Ideal.ofBits .f32 0xFF800000#32) (fun j : Fin 2304 => ∑ d : Fin 128, (x1 (ix3 0 j d) : EReal) * x1 (ix3 0 j d)))
include h0 h1 hv ho

include hm in
theorem d31_store_att (r : Fin 512) (d : Fin 128) (l : Fin 512) (hl : l.val = 0 + d.val) :
    d31_store x0 x1 xs0 xs1 (ix3 0 r d) = ((attRow q k v r l : ℝ) : EReal) := by
  pointwise [d31_store, d23_v96, d20_v46, d7_v10, k0_pay19, d5_v6, k0_pay17, d4_v4, k0_pay16, k0_pay32, d6_v8, k0_pay18, k0_pay39, k0_pay34, d22_v95, k0_pay38, k0_pay2]
  have e1 : l.val / 128 * 128 = 0 := by omega
  have e2 : l.val % 128 = d.val := by omega
  have hq : ∀ e : Fin 128, q r ⟨l.val / 128 * 128 + e.val, by omega⟩ = q r ⟨e.val, by omega⟩ := fun e =>
    congrArg (q r) (Fin.ext (by simp only [e1, Nat.zero_add]))
  have hS : ∀ j : Fin 2304, ∑ e : Fin 128, (x0 (ix3 0 r ⟨e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · rw [hm]; simp only [h0]
    exact bound_real (fun e : Fin 128 => q r ⟨e.val, by omega⟩) _ k (fun j => by rw [← coe_dot]; exact Finset.sum_congr rfl fun e _ => by rw [h1]) _ slack_real

theorem d35_store_att (r : Fin 512) (d : Fin 128) (l : Fin 512) (hl : l.val = 0 + d.val) :
    d35_store x0 x1 xs0 (ix3 0 r d) = ((attRow q k v r l : ℝ) : EReal) := by
  pointwise [d35_store, k0_pay7]
  have e1 : l.val / 128 * 128 = 0 := by omega
  have e2 : l.val % 128 = d.val := by omega
  have hq : ∀ e : Fin 128, q r ⟨l.val / 128 * 128 + e.val, by omega⟩ = q r ⟨e.val, by omega⟩ := fun e =>
    congrArg (q r) (Fin.ext (by simp only [e1, Nat.zero_add]))
  have hS : ∀ j : Fin 2304, ∑ e : Fin 128, (x0 (ix3 0 r ⟨e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · obtain ⟨c, hc, _⟩ := max_real _ _ hS
    exact ⟨c, hc⟩

include hm in
theorem d32_store_att (r : Fin 512) (d : Fin 128) (l : Fin 512) (hl : l.val = 128 + d.val) :
    d32_store x0 x1 xs0 xs1 (ix3 0 r d) = ((attRow q k v r l : ℝ) : EReal) := by
  pointwise [d32_store, d25_v98, d21_v58, d11_v18, k0_pay23, d9_v14, k0_pay21, d8_v12, k0_pay20, k0_pay33, d10_v16, k0_pay22, k0_pay41, k0_pay35, d24_v97, k0_pay40, k0_pay3]
  have e1 : l.val / 128 * 128 = 128 := by omega
  have e2 : l.val % 128 = d.val := by omega
  have hq : ∀ e : Fin 128, q r ⟨l.val / 128 * 128 + e.val, by omega⟩ = q r ⟨128 + e.val, by omega⟩ := fun e =>
    congrArg (q r) (Fin.ext (by simp only [e1]))
  have hS : ∀ j : Fin 2304, ∑ e : Fin 128, (x0 (ix3 0 r ⟨128 + e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · rw [hm]; simp only [h0]
    exact bound_real (fun e : Fin 128 => q r ⟨128 + e.val, by omega⟩) _ k (fun j => by rw [← coe_dot]; exact Finset.sum_congr rfl fun e _ => by rw [h1]) _ slack_real

theorem d38_store_att (r : Fin 512) (d : Fin 128) (l : Fin 512) (hl : l.val = 128 + d.val) :
    d38_store x0 x1 xs0 (ix3 0 r d) = ((attRow q k v r l : ℝ) : EReal) := by
  pointwise [d38_store, d37_v148, k0_pay9, d36_v143, k0_pay8, k0_pay10]
  have e1 : l.val / 128 * 128 = 128 := by omega
  have e2 : l.val % 128 = d.val := by omega
  have hq : ∀ e : Fin 128, q r ⟨l.val / 128 * 128 + e.val, by omega⟩ = q r ⟨128 + e.val, by omega⟩ := fun e =>
    congrArg (q r) (Fin.ext (by simp only [e1]))
  have hS : ∀ j : Fin 2304, ∑ e : Fin 128, (x0 (ix3 0 r ⟨128 + e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · obtain ⟨c, hc, _⟩ := max_real _ _ hS
    exact ⟨c, hc⟩

include hm in
theorem d33_store_att (r : Fin 512) (d : Fin 128) (l : Fin 512) (hl : l.val = 256 + d.val) :
    d33_store x0 x1 xs0 xs1 (ix3 0 r d) = ((attRow q k v r l : ℝ) : EReal) := by
  pointwise [d33_store, d27_v100, d15_v26, k0_pay27, d14_v24, k0_pay26, d13_v22, k0_pay25, d12_v20, k0_pay24, k0_pay43, k0_pay36, d26_v99, k0_pay42, k0_pay4]
  have e1 : l.val / 128 * 128 = 256 := by omega
  have e2 : l.val % 128 = d.val := by omega
  have hq : ∀ e : Fin 128, q r ⟨l.val / 128 * 128 + e.val, by omega⟩ = q r ⟨256 + e.val, by omega⟩ := fun e =>
    congrArg (q r) (Fin.ext (by simp only [e1]))
  have hS : ∀ j : Fin 2304, ∑ e : Fin 128, (x0 (ix3 0 r ⟨256 + e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · rw [hm]; simp only [h0]
    exact bound_real (fun e : Fin 128 => q r ⟨256 + e.val, by omega⟩) _ k (fun j => by rw [← coe_dot]; exact Finset.sum_congr rfl fun e _ => by rw [h1]) _ slack_real

theorem d39_store_att (r : Fin 512) (d : Fin 128) (l : Fin 512) (hl : l.val = 256 + d.val) :
    d39_store x0 x1 xs0 (ix3 0 r d) = ((attRow q k v r l : ℝ) : EReal) := by
  pointwise [d39_store, k0_pay11]
  have e1 : l.val / 128 * 128 = 256 := by omega
  have e2 : l.val % 128 = d.val := by omega
  have hq : ∀ e : Fin 128, q r ⟨l.val / 128 * 128 + e.val, by omega⟩ = q r ⟨256 + e.val, by omega⟩ := fun e =>
    congrArg (q r) (Fin.ext (by simp only [e1]))
  have hS : ∀ j : Fin 2304, ∑ e : Fin 128, (x0 (ix3 0 r ⟨256 + e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · obtain ⟨c, hc, _⟩ := max_real _ _ hS
    exact ⟨c, hc⟩

include hm in
theorem d34_store_att (r : Fin 512) (d : Fin 128) (l : Fin 512) (hl : l.val = 384 + d.val) :
    d34_store x0 x1 xs0 xs1 (ix3 0 r d) = ((attRow q k v r l : ℝ) : EReal) := by
  pointwise [d34_store, d29_v102, d19_v34, k0_pay31, d18_v32, k0_pay30, d17_v30, k0_pay29, d16_v28, k0_pay28, k0_pay45, k0_pay37, d28_v101, k0_pay44, k0_pay5]
  have e1 : l.val / 128 * 128 = 384 := by omega
  have e2 : l.val % 128 = d.val := by omega
  have hq : ∀ e : Fin 128, q r ⟨l.val / 128 * 128 + e.val, by omega⟩ = q r ⟨384 + e.val, by omega⟩ := fun e =>
    congrArg (q r) (Fin.ext (by simp only [e1]))
  have hS : ∀ j : Fin 2304, ∑ e : Fin 128, (x0 (ix3 0 r ⟨384 + e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · rw [hm]; simp only [h0]
    exact bound_real (fun e : Fin 128 => q r ⟨384 + e.val, by omega⟩) _ k (fun j => by rw [← coe_dot]; exact Finset.sum_congr rfl fun e _ => by rw [h1]) _ slack_real

theorem d41_store_att (r : Fin 512) (d : Fin 128) (l : Fin 512) (hl : l.val = 384 + d.val) :
    d41_store x0 x1 xs0 (ix3 0 r d) = ((attRow q k v r l : ℝ) : EReal) := by
  pointwise [d41_store, d40_v183, k0_pay12, k0_pay6]
  have e1 : l.val / 128 * 128 = 384 := by omega
  have e2 : l.val % 128 = d.val := by omega
  have hq : ∀ e : Fin 128, q r ⟨l.val / 128 * 128 + e.val, by omega⟩ = q r ⟨384 + e.val, by omega⟩ := fun e =>
    congrArg (q r) (Fin.ext (by simp only [e1]))
  have hS : ∀ j : Fin 2304, ∑ e : Fin 128, (x0 (ix3 0 r ⟨384 + e.val, by omega⟩) : EReal) * x1 (ix3 0 j e)
      = ((∑ e : Fin 128, q r ⟨l.val / 128 * 128 + e.val, by omega⟩ * k j e : ℝ) : EReal) := fun j => by
    rw [← coe_dot]
    exact Finset.sum_congr rfl fun e _ => by rw [h0, h1, hq]
  unfold attRow
  refine att_of_shift _ _ _ _ _ _ hS (fun j => (hv j d).trans ?_) (fun j => ho j) ?_
  · exact congrArg (fun e => ((v j e : ℝ) : EReal)) (Fin.ext e2.symm)
  · obtain ⟨c, hc, _⟩ := max_real _ _ hS
    exact ⟨c, hc⟩
end

/-- The output block over real blocks. -/
theorem outBlk_att (x0 : Vec Ideal S1x512x512 .bf16) (x1 x2 : Vec Ideal S1x2304x128 .bf16) (x3 : Vec Ideal S4x64 .f32) (x4 : Vec Ideal S1x128 .f32)
    (q : Fin 512 → Fin 512 → ℝ) (k v : Fin 2304 → Fin 128 → ℝ)
    (h0 : ∀ r l, x0 (ix3 0 r l) = ((q r l : ℝ) : EReal)) (h1 : ∀ j d, x1 (ix3 0 j d) = ((k j d : ℝ) : EReal))
    (h2 : ∀ j d, x2 (ix3 0 j d) = ((v j d : ℝ) : EReal)) (r l : Fin 512) :
    outBlk x0 x1 x3 x4 (valScr x2) (keyScr x1) (ix3 0 r l) = ((attRow q k v r l : ℝ) : EReal) := by
  have hv : ∀ j (d : Fin 128), valScr x2 (ix3 0 j ⟨d.val, by omega⟩) = ((v j d : ℝ) : EReal) := fun j d => (valScr_val x2 j d).trans (h2 j d)
  have ho := valScr_one x2
  have hm := keyScr_val x1 0 0
  unfold outBlk
  by_cases hg : gate x0 x1 x3 x4 (valScr x2) (keyScr x1) = 1#1
  · rw [if_pos hg]
    generalize valScr x2 = xs0 at *
    generalize keyScr x1 = xs1 at *
    unfold sharpPieces
    canon_tiles z hz
    all_goals idx_vars z
    all_goals (try obtain rfl : z0 = 0 := Subsingleton.elim _ _)
    all_goals obtain rfl : r = z1 := Fin.ext hz1
    · exact d34_store_att x0 x1 xs0 xs1 q k v h0 h1 hv ho hm r z2 l (by omega)
    · exact d33_store_att x0 x1 xs0 xs1 q k v h0 h1 hv ho hm r z2 l (by omega)
    · exact d32_store_att x0 x1 xs0 xs1 q k v h0 h1 hv ho hm r z2 l (by omega)
    · exact d31_store_att x0 x1 xs0 xs1 q k v h0 h1 hv ho hm r z2 l (by omega)
  · rw [if_neg hg]
    generalize valScr x2 = xs0 at *
    generalize keyScr x1 = xs1 at *
    unfold maxPieces
    canon_tiles z hz
    all_goals idx_vars z
    all_goals (try obtain rfl : z0 = 0 := Subsingleton.elim _ _)
    all_goals obtain rfl : r = z1 := Fin.ext hz1
    · exact d41_store_att x0 x1 xs0 q k v h0 h1 hv ho r z2 l (by omega)
    · exact d39_store_att x0 x1 xs0 q k v h0 h1 hv ho r z2 l (by omega)
    · exact d38_store_att x0 x1 xs0 q k v h0 h1 hv ho r z2 l (by omega)
    · exact d35_store_att x0 x1 xs0 q k v h0 h1 hv ho r z2 l (by omega)

end Cert.GqaIdeal.Gen
-- ==== Proof.RowMax.lean ====
module
public import Idealize.ShloMosaic.Lib.Pipeline.ValueKit
@[expose] public section
set_option maxRecDepth 16384
noncomputable section
open Idealize.ShloMosaic Idealize.ShloMosaic.TcCoe Idealize.SL.Sem
namespace Cert.Soft

/-- The host's largest element along the last axis, read at an index. -/
theorem hostMax5 {n0 n1 n2 n3 n4 : ℕ} {u : Shape} (h : (⟨5, ![n0, n1, n2, n3, n4]⟩ : Shape).ReducesTo [4] ⟨4, ![n0, n1, n2, n3]⟩) (hu : 0 < u.numel)
    (v : FVec Ideal ⟨5, ![n0, n1, n2, n3, n4]⟩ .f32) (init : FVec Ideal u .f32) (a : Fin n0) (b : Fin n1) (c : Fin n2) (d : Fin n3) :
    Host.reduce FloatOps.maximumf v init h hu (ix4 a b c d) = Finset.univ.fold max (init (Shape.Idx.first hu)) fun k : Fin n4 => v (ix5 a b c d k) := by
  pointwise
theorem hostMax4 {n0 n1 n2 n3 : ℕ} {u : Shape} (h : (⟨4, ![n0, n1, n2, n3]⟩ : Shape).ReducesTo [3] ⟨3, ![n0, n1, n2]⟩) (hu : 0 < u.numel)
    (v : FVec Ideal ⟨4, ![n0, n1, n2, n3]⟩ .f32) (init : FVec Ideal u .f32) (a : Fin n0) (b : Fin n1) (c : Fin n2) :
    Host.reduce FloatOps.maximumf v init h hu (ix3 a b c) = Finset.univ.fold max (init (Shape.Idx.first hu)) fun k : Fin n3 => v (ix4 a b c k) := by
  pointwise
end Cert.Soft
-- ==== Proof.GqaRefRows.lean ====
module
public import proofs.«01_k».proof.Proof.Gen.GqaRefIdeal.Run
public import Idealize.ShloMosaic.Lib.Pipeline.ValueKit
public import proofs.«01_k».proof.Proof.Soft
public import proofs.«01_k».proof.Proof.RowMax
@[expose] public section
set_option maxRecDepth 16384
noncomputable section
open Idealize.ShloMosaic Idealize.ShloMosaic.TcCoe Idealize.SL.Sem
namespace Cert.GqaRefIdeal.Value
open Cert.GqaRefIdeal Cert.GqaRefIdeal.Gen Cert.Soft
open scoped BigOperators
/-! The reference over real arguments: the attention of each query, head by head. -/
/-- The queries, the keys and the values of the reference, by head. -/
def refQ (X : FVec Ideal S16x2304x7680 .bf16) : FVec Ideal S16x2x4x2048x128 .f32 := transpose S16x2x4x2048x128 [0, 2, 3, 1, 4] (shapeCast _ (extractStridedSlice S16x2048x1024 ![0, 0, 6144] (extf .f32 X bitsLt_bf16_f32) slices_S16x2304x7680_S16x2048x1024_0_0_6144) shapeCasts_S16x2048x1024_S16x2048x2x4x128) transposes_S16x2048x2x4x128_S16x2x4x2048x128_0_2_3_1_4
def refK (X : FVec Ideal S16x2304x7680 .bf16) : FVec Ideal S16x2x2304x128 .f32 := transpose S16x2x2304x128 [0, 2, 1, 3] (shapeCast _ (extractStridedSlice S16x2304x256 ![0, 0, 7168] (extf .f32 X bitsLt_bf16_f32) slices_S16x2304x7680_S16x2304x256_0_0_7168) shapeCasts_S16x2304x256_S16x2304x2x128) transposes_S16x2304x2x128_S16x2x2304x128_0_2_1_3
def refV (X : FVec Ideal S16x2304x7680 .bf16) : FVec Ideal S16x2x2304x128 .f32 := transpose S16x2x2304x128 [0, 2, 1, 3] (shapeCast _ (extractStridedSlice S16x2304x256 ![0, 0, 7424] (extf .f32 X bitsLt_bf16_f32) slices_S16x2304x7680_S16x2304x256_0_0_7424) shapeCasts_S16x2304x256_S16x2304x2x128) transposes_S16x2304x2x128_S16x2x2304x128_0_2_1_3
/-- The scores, their weights and the attention of the reference. -/
def refS (Q : FVec Ideal S16x2x4x2048x128 .f32) (K : FVec Ideal S16x2x2304x128 .f32) : FVec Ideal S16x2x4x2048x2304 .f32 := mulf (Host.dotGeneral dot_S16x2x4x2048x128_S16x2x2304x128_S16x2x4x2048x2304_4_3_23_2_01_01 none Q K) (broadcastInDim S16x2x4x2048x2304 ![] bcast_S_S16x2x4x2048x2304 (Host.log (constant S_ .f32 0x40000000#32)))
def refMax (S : FVec Ideal S16x2x4x2048x2304 .f32) : FVec Ideal S16x2x4x2048 .f32 := Host.reduce FloatOps.maximumf S (constant S_ .f32 0xFF800000#32) reducesTo_S16x2x4x2048x2304_S16x2x4x2048_d4 h_S_
def refEM (S : FVec Ideal S16x2x4x2048x2304 .f32) (M : FVec Ideal S16x2x4x2048 .f32) : FVec Ideal S16x2x4x2048x2304 .f32 := Host.exp (subf S (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) M))))
def refE (S : FVec Ideal S16x2x4x2048x2304 .f32) : FVec Ideal S16x2x4x2048x2304 .f32 := refEM S (refMax S)
def refO (E : FVec Ideal S16x2x4x2048x2304 .f32) (W : FVec Ideal S16x2x2304x128 .f32) : FVec Ideal S16x2x4x2048x128 .f32 := Host.dotGeneral dot_S16x2x4x2048x2304_S16x2x2304x128_S16x2x4x2048x128_4_2_23_3_01_01 none (Host.divf E (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd E (constant S_ .f32 0x00000000#32) reducesTo_S16x2x4x2048x2304_S16x2x4x2048_d4 h_S_)))) W
/-- The heads merged. -/
def refM (O : FVec Ideal S16x2x4x2048x128 .f32) : FVec Ideal S16x2048x1024 .bf16 := truncf .bf16 (shapeCast S16x2048x1024 (transpose S16x2048x8x128 [0, 2, 1, 3] (shapeCast S16x8x2048x128 O shapeCasts_S16x2x4x2048x128_S16x8x2048x128) transposes_S16x8x2048x128_S16x2048x8x128_0_2_1_3) shapeCasts_S16x2048x8x128_S16x2048x1024) bitsLt_bf16_f32

theorem res_eq (m) (c) : res_main_v29 (F := Ideal) m c = refM (refO (refE (refS (refQ (m ((c.tc : Thread nD τ).loc main_arg0))) (refK (m ((c.tc : Thread nD τ).loc main_arg0))))) (refV (m ((c.tc : Thread nD τ).loc main_arg0)))) := rfl

theorem refMax_at (S : FVec Ideal S16x2x4x2048x2304 .f32) (b : Fin 16) (g : Fin 2) (h : Fin 4) (r : Fin 2048) :
    refMax S (ix4 b g h r) = Finset.univ.fold max ((constant S_ .f32 0xFF800000#32 : FVec Ideal S_ .f32) (Shape.Idx.first h_S_)) fun k : Fin 2304 => S (ix5 b g h r k) := by
  unfold refMax
  exact hostMax5 (n0 := 16) (n1 := 2) (n2 := 4) (n3 := 2048) (n4 := 2304) reducesTo_S16x2x4x2048x2304_S16x2x4x2048_d4 h_S_ S (constant S_ .f32 0xFF800000#32) b g h r
theorem init_at (i : S_.Idx) : (constant S_ .f32 0xFF800000#32 : FVec Ideal S_ .f32) i = Ideal.ofBits .f32 0xFF800000#32 := by
  pointwise
theorem refQ_at (X) (b : Fin 16) (g : Fin 2) (h : Fin 4) (r : Fin 2048) (d : Fin 128) :
    refQ X (ix5 b g h r d) = X (ix3 b ⟨r.val, by omega⟩ ⟨6144 + (g.val * 512 + h.val * 128 + d.val), by omega⟩) := by
  pointwise [refQ]
theorem refK_at (X) (b : Fin 16) (g : Fin 2) (j : Fin 2304) (d : Fin 128) :
    refK X (ix4 b g j d) = X (ix3 b j ⟨7168 + (g.val * 128 + d.val), by omega⟩) := by
  pointwise [refK]
theorem refV_at (X) (b : Fin 16) (g : Fin 2) (j : Fin 2304) (d : Fin 128) :
    refV X (ix4 b g j d) = X (ix3 b j ⟨7424 + (g.val * 128 + d.val), by omega⟩) := by
  pointwise [refV]
theorem refS_at (Q K) (b : Fin 16) (g : Fin 2) (h : Fin 4) (r : Fin 2048) (j : Fin 2304) :
    refS Q K (ix5 b g h r j) = (∑ x : Fin 128, (Q (ix5 b g h r x) : EReal) * K (ix4 b g j x)) * Ideal.log (Ideal.ofBits .f32 0x40000000#32) := by
  pointwise [refS]
theorem refEM_at (S M) (b : Fin 16) (g : Fin 2) (h : Fin 4) (r : Fin 2048) (j : Fin 2304) :
    refEM S M (ix5 b g h r j) = Ideal.exp (S (ix5 b g h r j) - max (Ideal.ofBits .f32 0xFF800000#32) (M (ix4 b g h r))) := by
  pointwise [refEM]
theorem refE_at (S) (b : Fin 16) (g : Fin 2) (h : Fin 4) (r : Fin 2048) (j : Fin 2304) :
    refE S (ix5 b g h r j) = Ideal.exp (S (ix5 b g h r j) - max (Ideal.ofBits .f32 0xFF800000#32) (refMax S (ix4 b g h r))) := by
  exact refEM_at S (refMax S) b g h r j
theorem refO_at (E W) (b : Fin 16) (g : Fin 2) (h : Fin 4) (r : Fin 2048) (d : Fin 128) :
    refO E W (ix5 b g h r d) = ∑ j : Fin 2304, Ideal.div (E (ix5 b g h r j)) (∑ j' : Fin 2304, (E (ix5 b g h r j') : EReal)) * W (ix4 b g j d) := by
  pointwise [refO]
theorem refM_at (O) (b : Fin 16) (r : Fin 2048) (l : Fin 1024) :
    refM O (ix3 b r l) = O (ix5 b ⟨l.val / 128 / 4, by omega⟩ ⟨l.val / 128 % 4, by omega⟩ r ⟨l.val % 128, by omega⟩) := by
  pointwise [refM]

/-- The weights over real scores. -/
theorem refE_wt (S : FVec Ideal S16x2x4x2048x2304 .f32) (b : Fin 16) (g : Fin 2) (h : Fin 4) (r : Fin 2048) (s : Fin 2304 → ℝ)
    (hS : ∀ j, S (ix5 b g h r j) = ((s j * Real.log 2 : ℝ) : EReal)) (j : Fin 2304) :
    Ideal.div (refE S (ix5 b g h r j)) (∑ j' : Fin 2304, (refE S (ix5 b g h r j') : EReal)) = ((wt s j : ℝ) : EReal) := by
  simp only [refE_at]
  refine wt_of_softmax (fun j => S (ix5 b g h r j)) _ s hS ?_ j
  obtain ⟨c, hc, _⟩ := max_real (fun j => S (ix5 b g h r j)) _ hS
  refine ⟨c, ?_⟩
  rw [refMax_at, init_at]
  rw [ofBits_bot] at hc ⊢
  rw [max_eq_right bot_le]
  exact hc

/-- One entry of the result: the head its column belongs to, the key and value heads shared by four query heads. -/
def attEntry (x : Fin 16 → Fin 2304 → Fin 7680 → ℝ) (b : Fin 16) (r : Fin 2048) (l : Fin 1024) : ℝ :=
  att (fun j : Fin 2304 => ∑ d : Fin 128, x b ⟨r.val, by omega⟩ ⟨6144 + (l.val / 128 / 4 * 512 + l.val / 128 % 4 * 128 + d.val), by omega⟩ * x b j ⟨7168 + (l.val / 128 / 4 * 128 + d.val), by omega⟩)
    (fun j => x b j ⟨7424 + (l.val / 128 / 4 * 128 + l.val % 128), by omega⟩)

theorem res_at (X : FVec Ideal S16x2304x7680 .bf16) (x : Fin 16 → Fin 2304 → Fin 7680 → ℝ) (hx : ∀ b j l, X (ix3 b j l) = ((x b j l : ℝ) : EReal))
    (b : Fin 16) (r : Fin 2048) (l : Fin 1024) :
    refM (refO (refE (refS (refQ X) (refK X))) (refV X)) (ix3 b r l) = ((attEntry x b r l : ℝ) : EReal) := by
  rw [refM_at, refO_at]
  unfold attEntry
  rw [att_eq_wt, ← coe_dot]
  refine Finset.sum_congr rfl fun k _ => ?_
  rw [refV_at, hx]
  refine congrArg (· * _) (refE_wt _ _ _ _ _ _ (fun j => ?_) k)
  rw [refS_at, log_two, EReal.coe_mul, ← coe_dot]
  refine congrArg (· * _) (Finset.sum_congr rfl fun d _ => ?_)
  rw [refQ_at, refK_at, hx, hx]
end Cert.GqaRefIdeal.Value
-- ==== Proof.GqaIdealValue.lean ====
module
public import proofs.«01_k».proof.Proof.GqaIdealFrame
public import proofs.«01_k».proof.Proof.GqaIdealRows
public import proofs.«01_k».proof.Proof.GqaRefRows
@[expose] public section
set_option maxRecDepth 16384
noncomputable section
open Idealize.ShloMosaic Idealize.ShloMosaic.TcCoe Idealize.SL.Sem
namespace Cert.GqaIdeal.Value
open Cert.GqaIdeal Cert.GqaIdeal.Gen Cert.Soft Cert.GqaRefIdeal.Value
open scoped BigOperators
/-! The result array of the grouped attention, over real arguments. -/

variable (m : (ℓ : Loc nD τ sig) → Buf (Elt Ideal) ℓ) (c : Dev nD)
variable (x : Fin 16 → Fin 2304 → Fin 7680 → ℝ)
variable (hx : ∀ b j l, (m ((c.tc : Thread nD τ).loc main_arg0) : FVec Ideal S16x2304x7680 .bf16) (ix3 b j l) = ((x b j l : ℝ) : EReal))

theorem N_eq : cfg0.N = 128 := by decide +kernel

def qb (t : Fin cfg0.N) (r : Fin 512) (l : Fin 512) : ℝ := x ⟨t.val / 8, by have := lt_of_lt_of_eq t.isLt N_eq; omega⟩ ⟨t.val % 4 * 512 + r.val, by omega⟩ ⟨(12 + t.val / 4 % 2) * 512 + l.val, by omega⟩
def kb (t : Fin cfg0.N) (j : Fin 2304) (d : Fin 128) : ℝ := x ⟨t.val / 8, by have := lt_of_lt_of_eq t.isLt N_eq; omega⟩ j ⟨(56 + t.val / 4 % 2) * 128 + d.val, by omega⟩
def vb (t : Fin cfg0.N) (j : Fin 2304) (d : Fin 128) : ℝ := x ⟨t.val / 8, by have := lt_of_lt_of_eq t.isLt N_eq; omega⟩ j ⟨(58 + t.val / 4 % 2) * 128 + d.val, by omega⟩

include hx
theorem q_at (t : Fin cfg0.N) (r : Fin 512) (l : Fin 512) : (X0_0 m c t : Vec Ideal S1x512x512 .bf16) (ix3 (0 : Fin 1) r l) = ((qb x t r l : ℝ) : EReal) := by
  unfold qb
  rw [← hx]
  show (cfg0.win 0).fill (cfg0.grid.coords t) dflt0_0 (iblk m c 0 t) (ix3 (0 : Fin 1) r l) = _
  unfold Pipeline.Window.fill
  rw [dif_pos (moved0_0 t _)]
  blk_ext [iblk, V, idx0 t]

theorem k_at (t : Fin cfg0.N) (j : Fin 2304) (d : Fin 128) : (iblk m c 1 t : Vec Ideal S1x2304x128 .bf16) (ix3 (0 : Fin 1) j d) = ((kb x t j d : ℝ) : EReal) := by
  unfold kb
  rw [← hx]
  blk_ext [iblk, V, idx1 t]

theorem v_at (t : Fin cfg0.N) (j : Fin 2304) (d : Fin 128) : (iblk m c 2 t : Vec Ideal S1x2304x128 .bf16) (ix3 (0 : Fin 1) j d) = ((vb x t j d : ℝ) : EReal) := by
  unfold vb
  rw [← hx]
  blk_ext [iblk, V, idx2 t]

omit hx in
/-- The rows a point computes are the rows of the result its block is written to. -/
theorem row_eq (t : Fin cfg0.N) (r : Fin 512) (l : Fin 512) (b : Fin 16) (r' : Fin 2048) (l' : Fin 1024)
    (hb : b.val = t.val / 8) (hr : r'.val = t.val % 4 * 512 + r.val) (hl : l'.val = t.val / 4 % 2 * 512 + l.val) :
    attRow (qb x t) (kb x t) (vb x t) r l = attEntry x b r' l' := by
  unfold attRow attEntry qb kb vb
  have hbb : b = ⟨t.val / 8, by have := lt_of_lt_of_eq t.isLt N_eq; omega⟩ := Fin.ext hb
  rw [hbb]
  congr 1
  · funext j
    refine Finset.sum_congr rfl fun d _ => ?_
    congr 1
    · congr 1
      · exact Fin.ext hr.symm
      · refine Fin.ext ?_
        show (12 + t.val / 4 % 2) * 512 + (l.val / 128 * 128 + d.val) = 6144 + (l'.val / 128 / 4 * 512 + l'.val / 128 % 4 * 128 + d.val)
        omega
    · congr 1
      refine Fin.ext ?_
      show (56 + t.val / 4 % 2) * 128 + d.val = 7168 + (l'.val / 128 / 4 * 128 + d.val)
      omega
  · funext j
    congr 1
    refine Fin.ext ?_
    show (58 + t.val / 4 % 2) * 128 + l.val % 128 = 7424 + (l'.val / 128 / 4 * 128 + l'.val % 128)
    omega

theorem final : (dats m 0 c).arrAt 5 (cfgs 0).N = fun i : S16x2048x1024.Idx => ((attEntry x (i 0) (i 1) (i 2) : ℝ) : EReal) := by
  refine (dats m 0 c).arrAt_eq_of_covers 5 _ (by decide +kernel) fun t hf y => ?_
  blk_simp
  rw [after0_5]
  idx_vars y
  obtain rfl : y0 = 0 := Subsingleton.elim _ _
  have hN := lt_of_lt_of_eq t.isLt N_eq
  have he : ((View.whole main_v1).slice (win0_5.rect t)).emb (ix3 (0 : Fin 1) y1 y2)
      = ix3 (⟨t.val / 8, by omega⟩ : Fin 16) (⟨t.val % 4 * 512 + y1.val, by omega⟩ : Fin 2048) (⟨t.val / 4 % 2 * 512 + y2.val, by omega⟩ : Fin 1024) := by
    blk_ext [idx5 t]
  rw [he]
  exact (outBlk_att _ _ _ _ _ _ _ _ (q_at m c x hx t) (k_at m c x hx t) (v_at m c x hx t) y1 y2).trans
    (congrArg (fun r : ℝ => (r : EReal)) (row_eq x t y1 y2 _ _ _ rfl rfl rfl))
end Cert.GqaIdeal.Value
-- ==== Proof.FinitePre.lean ====
module
public import proofs.«01_k».proof.Defs
public import proofs.«01_k».proof.Proof.Gen.Pre_finite_p
public import proofs.«01_k».proof.Proof.Gen.Pre_finite
public import proofs.«01_k».proof.Proof.Soft
public import Idealize.ShloMosaic.Lib.Pipeline.ValueKit
public import Idealize.ShloMosaic.Lib.ReduceAll
@[expose] public section
set_option maxRecDepth 16384
noncomputable section
open Idealize.ShloMosaic Idealize.ShloMosaic.TcCoe Idealize.SL.Sem
namespace Cert.FinitePre
open Cert.Soft
/-! What the preconditions say of the arguments: every entry is a real number. -/

theorem ofBits_top : Ideal.ofBits .f32 0x7F800000#32 = ⊤ := by
  simp [Ideal.ofBits, Ideal.ieee]

theorem real_of_cmp (x : EReal) (h : Ideal.cmp .olt (max x (-x)) (Ideal.ofBits .f32 0x7F800000#32) = 1#1) : ∃ r : ℝ, x = (r : EReal) := by
  rw [ofBits_top] at h
  refine real_of_abs x ?_
  by_contra hn
  simp [Ideal.cmp, hn] at h

/-- The projections are real. -/
theorem real_p (X : FVec Ideal Cert.Pre_finite_p.S16x2304x7680 .bf16) (l : FVec Ideal Cert.Pre_finite_p.S4x64 .f32) (g : FVec Ideal Cert.Pre_finite_p.S128 .f32)
    (h : Cert.Pre_finite_p.fn (F := Ideal) X l g = fun _ => 1#1) (i : Cert.Pre_finite_p.S16x2304x7680.Idx) : ∃ r : ℝ, X i = (r : EReal) := by
  have : Subsingleton Cert.Pre_finite_p.S_.Idx := ⟨fun a b => funext fun d => d.elim0⟩
  have e := Host.reduce_andi_all _ _ _ _ (Shape.Idx.first Cert.Pre_finite_p.Facts.h_S_) (congrFun h (Shape.Idx.first Cert.Pre_finite_p.Facts.h_S_)) i
  exact real_of_cmp (X i) e

/-- The projections and the parameters of lam are real. -/
theorem real_p_lam (X : FVec Ideal Cert.Pre_finite.S16x2304x7680 .bf16) (l : FVec Ideal Cert.Pre_finite.S4x64 .f32) (g : FVec Ideal Cert.Pre_finite.S128 .f32)
    (h : Cert.Pre_finite.fn (F := Ideal) X l g = fun _ => 1#1) :
    (∀ i, ∃ r : ℝ, X i = (r : EReal)) ∧ ∀ i, ∃ r : ℝ, l i = (r : EReal) := by
  have : Subsingleton Cert.Pre_finite.S_.Idx := ⟨fun a b => funext fun d => d.elim0⟩
  obtain ⟨e1, e2⟩ := IntOp.andi_eq_one.1 (congrFun h (Shape.Idx.first Cert.Pre_finite.Facts.h_S_))
  exact ⟨fun i => real_of_cmp (X i) (Host.reduce_andi_all _ _ _ _ _ e1 i), fun i => real_of_cmp (l i) (Host.reduce_andi_all _ _ _ _ _ e2 i)⟩
end Cert.FinitePre
-- ==== Proof.GqaClaim.lean ====
module
public import proofs.«01_k».proof.Proof.GqaIdealValue
public import proofs.«01_k».proof.Proof.FinitePre
public import Idealize.ShloMosaic.Lib.Claim
@[expose] public section
set_option maxRecDepth 16384
noncomputable section
open Idealize.ShloMosaic Idealize.ShloMosaic.TcCoe Idealize.SL.Sem
namespace Cert.GqaClaim
open Cert.GqaIdeal.Value Cert.GqaRefIdeal.Value Cert.Soft
/-! The grouped attention of the kernel and of the reference agree. -/

theorem algebraic : Cert.algebraic_GqaIdeal_GqaRefIdeal_pre_finite_p := by
  pair_intro
  · run_from Cert.GqaIdeal.Gen.run_main m g
  · run_from Cert.GqaRefIdeal.Value.run m' g'
    have hr : ∀ b j l, ∃ r : ℝ, (m ((c.tc : Thread Cert.GqaIdeal.nD Cert.GqaIdeal.τ).loc Cert.GqaIdeal.main_arg0)) (ix3 (b : Fin 16) (j : Fin 2304) (l : Fin 7680)) = (r : EReal) :=
      fun b j l => Cert.FinitePre.real_p _ _ _ (hpre c) (ix3 b j l)
    choose x hx using hr
    rw [res_eq, (hagree c).1]
    refine Eq.trans ?_ (final m c x hx).symm
    funext i
    idx_vars i
    exact res_at _ x hx i0 i1 i2
end Cert.GqaClaim
-- ==== Proof.Heads.lean ====
module
public import proofs.«01_k».proof.Proof.Soft
public import Idealize.ShloMosaic.Lib.Pipeline.ValueKit
@[expose] public section
set_option maxRecDepth 16384
noncomputable section
open Idealize.ShloMosaic Idealize.ShloMosaic.TcCoe Idealize.SL.Sem
open scoped BigOperators
namespace Cert.Soft
/-! One head of the kernel over real operands, and the difference of two attentions with its gain. -/

/-- The scores shifted by their bound give the attention. -/
theorem att_of_bound {n p : ℕ} [NeZero n] (Q : Fin p → EReal) (K : Fin n → Fin p → EReal) (V O : Fin n → EReal) (M : EReal)
    (q : Fin p → ℝ) (k : Fin n → Fin p → ℝ) (v : Fin n → ℝ)
    (hQ : ∀ d, Q d = q d) (hK : ∀ j d, K j d = k j d) (hV : ∀ j, V j = v j) (hO : ∀ j, O j = 1)
    (hM : M = Finset.univ.fold max (Ideal.ofBits .f32 0xFF800000#32) (fun j => ∑ d, K j d * K j d)) :
    Ideal.div (∑ j, FloatOps.exp2 (F := Ideal) (φ := .f32) (∑ d, Q d * K j d - Ideal.ofBits .f32 0x3F828F5C#32 * Ideal.sqrt ((∑ d, Q d * Q d) * M)) * V j)
      (∑ j, FloatOps.exp2 (F := Ideal) (φ := .f32) (∑ d, Q d * K j d - Ideal.ofBits .f32 0x3F828F5C#32 * Ideal.sqrt ((∑ d, Q d * Q d) * M)) * O j)
      = ((att (fun j => ∑ d, q d * k j d) v : ℝ) : EReal) := by
  obtain rfl : Q = fun d => (q d : EReal) := funext hQ
  obtain rfl : K = fun j d => (k j d : EReal) := funext fun j => funext (hK j)
  subst hM
  refine att_of_shift (fun j => ∑ d, (q d : EReal) * (k j d : EReal)) V O _ _ _ (fun j => coe_dot _ _) hV hO ?_
  exact bound_real q _ k (fun j => coe_dot _ _) _ slack_real

/-- The scores shifted by their largest give the attention. -/
theorem att_of_max {n p : ℕ} [NeZero n] (S : Fin n → EReal) (V O : Fin n → EReal)
    (q : Fin p → ℝ) (k : Fin n → Fin p → ℝ) (v : Fin n → ℝ)
    (hS : ∀ j, S j = ((∑ d, q d * k j d : ℝ) : EReal)) (hV : ∀ j, V j = v j) (hO : ∀ j, O j = 1) :
    Ideal.div (∑ j, FloatOps.exp2 (F := Ideal) (φ := .f32) (S j - Finset.univ.fold max (Ideal.ofBits .f32 0xFF800000#32) S) * V j)
      (∑ j, FloatOps.exp2 (F := Ideal) (φ := .f32) (S j - Finset.univ.fold max (Ideal.ofBits .f32 0xFF800000#32) S) * O j)
      = ((att (fun j => ∑ d, q d * k j d) v : ℝ) : EReal) := by
  obtain ⟨c, hc, _⟩ := max_real S _ hS
  exact att_of_shift S V O _ _ v hS hV hO ⟨c, hc⟩

/-- A row of queries cut to its lower or to its upper half. -/
def low (q : Fin 128 → ℝ) (d : Fin 128) : ℝ := if d.val < 64 then q d else 0
def high (q : Fin 128 → ℝ) (d : Fin 128) : ℝ := if d.val < 64 then 0 else q d

theorem slt_lane (d : Fin 128) : IntOp.cmpi .slt (BitVec.ofNat 32 d.val) 64#32 = BitVec.ofBool (decide (d.val < 64)) := by
  revert d; decide +kernel
theorem sge_lane (d : Fin 128) : IntOp.cmpi .sge (BitVec.ofNat 32 d.val) 64#32 = BitVec.ofBool (decide (¬ d.val < 64)) := by
  revert d; decide +kernel
theorem select_low (q : Fin 128 → ℝ) (d : Fin 128) :
    Scalar.select (IntOp.cmpi .slt (BitVec.ofNat 32 d.val) 64#32) ((q d : ℝ) : EReal) (0 : EReal) = ((low q d : ℝ) : EReal) := by
  rw [slt_lane]; unfold low
  by_cases h : d.val < 64 <;> simp [h, Scalar.select]
theorem select_high (q : Fin 128 → ℝ) (d : Fin 128) :
    Scalar.select (IntOp.cmpi .sge (BitVec.ofNat 32 d.val) 64#32) ((q d : ℝ) : EReal) (0 : EReal) = ((high q d : ℝ) : EReal) := by
  rw [sge_lane]; unfold high
  by_cases h : d.val < 64 <;> simp [h, Scalar.select]
theorem select_low_mul (q k : Fin 128 → ℝ) (d : Fin 128) :
    Scalar.select (IntOp.cmpi .slt (BitVec.ofNat 32 d.val) 64#32) ((q d : EReal) * (k d : EReal)) (0 : EReal) = (((low q d) * k d : ℝ) : EReal) := by
  rw [slt_lane]; unfold low
  by_cases h : d.val < 64 <;> simp [h, Scalar.select]
theorem select_high_mul (q k : Fin 128 → ℝ) (d : Fin 128) :
    Scalar.select (IntOp.cmpi .sge (BitVec.ofNat 32 d.val) 64#32) ((q d : EReal) * (k d : EReal)) (0 : EReal) = (((high q d) * k d : ℝ) : EReal) := by
  rw [sge_lane]; unfold high
  by_cases h : d.val < 64 <;> simp [h, Scalar.select]

theorem sum_halves (f : Fin 128 → ℝ) : ∑ d, f d = ∑ d : Fin 64, f ⟨d.val, by omega⟩ + ∑ d : Fin 64, f ⟨64 + d.val, by omega⟩ :=
  Fin.sum_univ_add (a := 64) (b := 64) f
theorem sum_low (q k : Fin 128 → ℝ) : ∑ d, low q d * k d = ∑ d : Fin 64, q ⟨d.val, by omega⟩ * k ⟨d.val, by omega⟩ := by
  rw [sum_halves]
  simp [low]
theorem sum_high (q k : Fin 128 → ℝ) : ∑ d, high q d * k d = ∑ d : Fin 64, q ⟨64 + d.val, by omega⟩ * k ⟨64 + d.val, by omega⟩ := by
  rw [sum_halves]
  simp [high]

/-- The factor of the second attention. -/
def lamE (l : Fin 4 → Fin 64 → EReal) : EReal :=
  Ideal.exp (∑ x, l 0 x * l 1 x) - Ideal.exp (∑ x, l 2 x * l 3 x) + Ideal.ofBits .f32 1052116297#32
theorem lam_init_real : ∃ β : ℝ, Ideal.ofBits .f32 1052116297#32 = β := by
  simp only [Ideal.ofBits, Ideal.ieee]
  exact ⟨_, by simp [-EReal.coe_mul]; rfl⟩
theorem lam_real (l : Fin 4 → Fin 64 → EReal) (h : ∀ a x, ∃ r : ℝ, l a x = r) : ∃ r : ℝ, lamE l = r := by
  choose r hr using h
  obtain ⟨β, hβ⟩ := lam_init_real
  unfold lamE
  simp only [hr, hβ]
  rw [coe_dot, coe_dot, exp_coe, exp_coe, ← EReal.coe_sub, ← EReal.coe_add]
  exact ⟨_, rfl⟩

/-- A row over the root of the mean of its squares, with its gain. -/
def gained (o : Fin 128 → EReal) (g : EReal) (d : Fin 128) : EReal :=
  o d * Ideal.rsqrt (Ideal.div (∑ x, o x * o x) (Ideal.ofBits .f32 1124073472#32) + Ideal.ofBits .f32 897988541#32) * g * Ideal.ofBits .f32 1059388764#32

/-- The difference of two attentions. -/
def diffAtt {n : ℕ} (q : Fin 128 → ℝ) (k v : Fin n → Fin 128 → ℝ) (lam : ℝ) (d : Fin 128) : ℝ :=
  att (fun j => ∑ e, low q e * k j e) (fun j => v j d) - lam * att (fun j => ∑ e, high q e * k j e) (fun j => v j d)
end Cert.Soft
-- ==== Proof.DiffIdealRows.lean ====
module
public import proofs.«01_k».proof.Proof.DiffIdealFrame
public import proofs.«01_k».proof.Proof.Heads
@[expose] public section
set_option maxRecDepth 16384
noncomputable section
open Idealize.ShloMosaic Idealize.ShloMosaic.TcCoe Idealize.SL.Sem
open Idealize.ShloMosaic.Pipeline (Dat)
open scoped BigOperators
namespace Cert.DiffIdeal.Gen
open Cert.DiffIdeal Cert.Soft
/-! What the body stores, over real blocks: the difference of two attentions of each query row, with its gain. -/

/-- The lanes of a head. -/
def lane (h : Fin 2) (d : Fin 128) : Fin 256 :=
  match h with
  | 0 => ⟨d.val, by omega⟩
  | 1 => ⟨128 + d.val, by omega⟩

/-- The scratch of values: the values of a head, and ones beside them. -/
theorem valScr_val (x2 : Vec Ideal S1x2304x256 .bf16) (h : Fin 2) (j : Fin 2304) (d : Fin 128) :
    valScr x2 (ix3 h j ⟨d.val, by omega⟩) = x2 (ix3 0 j (lane h d)) := by
  unfold valScr valPieces
  obtain rfl | rfl : h = 0 ∨ h = 1 := by omega
  all_goals canon_tiles z hz
  all_goals first
    | (exfalso; simp at hz0; done)
    | (exfalso; simp at hz2; omega)
    | (exfalso; simp at hz0; omega)
    | (idx_vars z
       pointwise [d1_store, k0_pay2, d4_store, k0_pay5, lane]
       blk_ext)
theorem valScr_one (x2 : Vec Ideal S1x2304x256 .bf16) (h : Fin 2) (j : Fin 2304) :
    valScr x2 (ix3 h j 128) = (1 : EReal) := by
  unfold valScr valPieces
  obtain rfl | rfl : h = 0 ∨ h = 1 := by omega
  all_goals canon_tiles z hz
  all_goals first
    | (exfalso; simp at hz0; done)
    | (exfalso; simp at hz2; omega)
    | (exfalso; simp at hz0; omega)
    | (idx_vars z
       pointwise [d2_store, k0_pay3, d6_store, d5_v150, k0_pay6, k0_pay24])

/-- The largest squared key of a head. -/
def keyMax (h : Fin 2) (x1 : Vec Ideal S1x2304x256 .bf16) : EReal :=
  Finset.univ.fold max (Ideal.ofBits .f32 0xFF800000#32) (fun j : Fin 2304 => ∑ d : Fin 128, (x1 (ix3 0 j (lane h d)) : EReal) * x1 (ix3 0 j (lane h d)))
theorem keyScr_val (x1 : Vec Ideal S1x2304x256 .bf16) (h : Fin 2) : keyScr x1 (ix3 h 0 0) = keyMax h x1 := by
  unfold keyScr keyPieces keyMax
  obtain rfl | rfl : h = 0 ∨ h = 1 := by omega
  all_goals canon_tiles z hz
  all_goals first
    | (exfalso; simp at hz0; done)
    | (exfalso; simp at hz0; omega)
    | (idx_vars z
       pointwise [d3_store, k0_pay4, d7_store, k0_pay25, lane])

/-- The blocks of a head are real. -/
structure Head (h : Fin 2) (x0 : Vec Ideal S1x512x256 .bf16) (x1 : Vec Ideal S1x2304x256 .bf16) (xs0 : Vec Ideal S2x2304x256 .bf16)
    (q : Fin 512 → Fin 128 → ℝ) (k v : Fin 2304 → Fin 128 → ℝ) : Prop where
  q_at : ∀ r d, x0 (ix3 0 r (lane h d)) = ((q r d : ℝ) : EReal)
  k_at : ∀ j d, x1 (ix3 0 j (lane h d)) = ((k j d : ℝ) : EReal)
  v_at : ∀ j (d : Fin 128), xs0 (ix3 h j ⟨d.val, by omega⟩) = ((v j d : ℝ) : EReal)
  one_at : ∀ j, xs0 (ix3 h j 128) = (1 : EReal)

section
variable {h : Fin 2} {x0 : Vec Ideal S1x512x256 .bf16} {x1 : Vec Ideal S1x2304x256 .bf16} {x3 : Vec Ideal S4x64 .f32} {x4 : Vec Ideal S1x128 .f32} {xs0 : Vec Ideal S2x2304x256 .bf16} {xs1 : Vec Ideal S2x8x128 .f32} {q : Fin 512 → Fin 128 → ℝ} {k v : Fin 2304 → Fin 128 → ℝ}

/-- Half a row of queries against the keys of its head, shifted by the bound. -/
theorem Head.bound (H : Head h x0 x1 xs0 q k v) (hm : xs1 (ix3 h 0 0) = keyMax h x1) (Q : Fin 128 → EReal) (w : Fin 128 → ℝ) (hQ : ∀ e, Q e = w e) (d : Fin 128) :
    Ideal.div (∑ j, FloatOps.exp2 (F := Ideal) (φ := .f32) (∑ e, Q e * x1 (ix3 0 j (lane h e)) - Ideal.ofBits .f32 0x3F828F5C#32 * Ideal.sqrt ((∑ e, Q e * Q e) * xs1 (ix3 h 0 0))) * xs0 (ix3 h j ⟨d.val, by omega⟩))
      (∑ j, FloatOps.exp2 (F := Ideal) (φ := .f32) (∑ e, Q e * x1 (ix3 0 j (lane h e)) - Ideal.ofBits .f32 0x3F828F5C#32 * Ideal.sqrt ((∑ e, Q e * Q e) * xs1 (ix3 h 0 0))) * xs0 (ix3 h j 128))
      = ((att (fun j => ∑ e, w e * k j e) (fun j => v j d) : ℝ) : EReal) :=
  att_of_bound Q (fun j e => x1 (ix3 0 j (lane h e))) _ _ _ w k (fun j => v j d) hQ H.k_at (fun j => H.v_at j d) H.one_at hm

theorem d8_v11_at (H : Head 0 x0 x1 xs0 q k v) (r : Fin 512) (d : Fin 128) : d8_v11 x0 (ix2 r d) = ((low (q r) d : ℝ) : EReal) := by
  pointwise [d8_v11, k0_pay27, k0_pay26]
  exact (congrArg (Scalar.select _ · _) (H.q_at r d)).trans (select_low (q r) d)
theorem d9_v16_at (H : Head 0 x0 x1 xs0 q k v) (r : Fin 512) (d : Fin 128) : d9_v16 x0 (ix2 r d) = ((high (q r) d : ℝ) : EReal) := by
  pointwise [d9_v16, k0_pay28, k0_pay26]
  exact (congrArg (Scalar.select _ · _) (H.q_at r d)).trans (select_high (q r) d)
theorem d14_v31_at (H : Head 1 x0 x1 xs0 q k v) (r : Fin 512) (d : Fin 128) : d14_v31 x0 (ix2 r d) = ((low (q r) d : ℝ) : EReal) := by
  pointwise [d14_v31, k0_pay33, k0_pay32]
  exact (congrArg (Scalar.select _ · _) (H.q_at r d)).trans (select_low (q r) d)
theorem d15_v36_at (H : Head 1 x0 x1 xs0 q k v) (r : Fin 512) (d : Fin 128) : d15_v36 x0 (ix2 r d) = ((high (q r) d : ℝ) : EReal) := by
  pointwise [d15_v36, d13_v25, k0_pay32, k0_pay34]
  exact (congrArg (Scalar.select _ · _) (H.q_at r d)).trans (select_high (q r) d)

theorem bound0_low (H : Head 0 x0 x1 xs0 q k v) (hm : xs1 (ix3 0 0 0) = keyMax 0 x1) (r : Fin 512) (d : Fin 128) :
    Ideal.div (d23_a x0 x1 xs0 xs1 (ix2 r d)) (d24_a x0 x1 xs0 xs1 (ix2 r (0 : Fin 1))) = ((att (fun j => ∑ e, low (q r) e * k j e) (fun j => v j d) : ℝ) : EReal) := by
  pointwise [d23_a, d24_a, d19_v54, d12_v22, k0_pay31, d10_v18, k0_pay29, k0_pay38, d11_v20, k0_pay30, k0_pay46, k0_pay42, k0_pay47]
  exact H.bound hm _ _ (d8_v11_at H r) d
theorem bound0_high (H : Head 0 x0 x1 xs0 q k v) (hm : xs1 (ix3 0 0 0) = keyMax 0 x1) (r : Fin 512) (d : Fin 128) :
    Ideal.div (d25_a x0 x1 xs0 xs1 (ix2 r d)) (d26_a x0 x1 xs0 xs1 (ix2 r (0 : Fin 1))) = ((att (fun j => ∑ e, high (q r) e * k j e) (fun j => v j d) : ℝ) : EReal) := by
  pointwise [d25_a, d26_a, d20_v66, d12_v22, k0_pay31, d10_v18, k0_pay29, k0_pay39, d11_v20, k0_pay30, k0_pay48, k0_pay43, k0_pay49]
  exact H.bound hm _ _ (d9_v16_at H r) d
theorem bound1_low (H : Head 1 x0 x1 xs0 q k v) (hm : xs1 (ix3 1 0 0) = keyMax 1 x1) (r : Fin 512) (d : Fin 128) :
    Ideal.div (d27_a x0 x1 xs0 xs1 (ix2 r d)) (d28_a x0 x1 xs0 xs1 (ix2 r (0 : Fin 1))) = ((att (fun j => ∑ e, low (q r) e * k j e) (fun j => v j d) : ℝ) : EReal) := by
  pointwise [d27_a, d28_a, d22_v73, k0_pay41, k0_pay37, d21_v67, k0_pay40, k0_pay35, d17_v40, k0_pay36, k0_pay50, k0_pay44, k0_pay51]
  exact H.bound hm _ _ (d14_v31_at H r) d
theorem bound1_high (H : Head 1 x0 x1 xs0 q k v) (hm : xs1 (ix3 1 0 0) = keyMax 1 x1) (r : Fin 512) (d : Fin 128) :
    Ideal.div (k0_pay45 (d15_v36 x0) (d16_v38 x1) (d17_v40 xs0) (d18_v42 xs1) (ix2 r (⟨d.val, by omega⟩ : Fin 256))) (k0_pay52 (d15_v36 x0) (d16_v38 x1) (d17_v40 xs0) (d18_v42 xs1) (ix2 r (0 : Fin 1)))
      = ((att (fun j => ∑ e, high (q r) e * k j e) (fun j => v j d) : ℝ) : EReal) := by
  pointwise [k0_pay45, k0_pay52, d16_v38, k0_pay35, d17_v40, k0_pay36, d18_v42, k0_pay37]
  exact H.bound hm _ _ (d15_v36_at H r) d

/-- The same, shifted by the largest score. -/
theorem Head.max (H : Head h x0 x1 xs0 q k v) (S : Fin 2304 → EReal) (w : Fin 128 → ℝ) (hS : ∀ j, S j = ((∑ e, w e * k j e : ℝ) : EReal)) (d : Fin 128) :
    Ideal.div (∑ j, FloatOps.exp2 (F := Ideal) (φ := .f32) (S j - Finset.univ.fold max (Ideal.ofBits .f32 0xFF800000#32) S) * xs0 (ix3 h j ⟨d.val, by omega⟩))
      (∑ j, FloatOps.exp2 (F := Ideal) (φ := .f32) (S j - Finset.univ.fold max (Ideal.ofBits .f32 0xFF800000#32) S) * xs0 (ix3 h j 128))
      = ((att (fun j => ∑ e, w e * k j e) (fun j => v j d) : ℝ) : EReal) :=
  att_of_max S _ _ w k (fun j => v j d) hS (fun j => H.v_at j d) H.one_at
theorem Head.low_score (H : Head h x0 x1 xs0 q k v) (r : Fin 512) (j : Fin 2304) :
    ∑ e : Fin 128, Scalar.select (IntOp.cmpi .slt (BitVec.ofNat 32 e.val) 64#32) ((x0 (ix3 0 r (lane h e)) : EReal) * x1 (ix3 0 j (lane h e))) (0 : EReal) = ((∑ e, low (q r) e * k j e : ℝ) : EReal) := by
  rw [← coe_sum]
  refine Finset.sum_congr rfl fun e _ => ?_
  rw [H.q_at, H.k_at]
  exact select_low_mul (q r) (k j) e
theorem Head.high_score (H : Head h x0 x1 xs0 q k v) (r : Fin 512) (j : Fin 2304) :
    ∑ e : Fin 128, Scalar.select (IntOp.cmpi .sge (BitVec.ofNat 32 e.val) 64#32) ((x0 (ix3 0 r (lane h e)) : EReal) * x1 (ix3 0 j (lane h e))) (0 : EReal) = ((∑ e, high (q r) e * k j e : ℝ) : EReal) := by
  rw [← coe_sum]
  refine Finset.sum_congr rfl fun e _ => ?_
  rw [H.q_at, H.k_at]
  exact select_high_mul (q r) (k j) e

theorem max0_low (H : Head 0 x0 x1 xs0 q k v) (r : Fin 512) (d : Fin 128) :
    d32_v153 x0 x1 xs0 (ix2 r d) = ((att (fun j => ∑ e, low (q r) e * k j e) (fun j => v j d) : ℝ) : EReal) := by
  pointwise [d32_v153, k0_pay12, k0_pay11, k0_pay10, k0_pay9]
  exact H.max _ _ (H.low_score r) d
theorem max0_high (H : Head 0 x0 x1 xs0 q k v) (r : Fin 512) (d : Fin 128) :
    Ideal.div (d33_v162 x0 x1 xs0 (ix2 r d)) (d34_v164 x0 x1 xs0 (ix2 r d)) = ((att (fun j => ∑ e, high (q r) e * k j e) (fun j => v j d) : ℝ) : EReal) := by
  pointwise [d33_v162, d34_v164, k0_pay14, k0_pay13, k0_pay11, k0_pay10, k0_pay9, k0_pay15]
  exact H.max _ _ (H.high_score r) d
theorem max1_low (H : Head 1 x0 x1 xs0 q k v) (r : Fin 512) (d : Fin 128) :
    d37_v234 x0 x1 xs0 (ix2 r d) = ((att (fun j => ∑ e, low (q r) e * k j e) (fun j => v j d) : ℝ) : EReal) := by
  pointwise [d37_v234, d36_v206, k0_pay17, k0_pay21, k0_pay20, k0_pay19, k0_pay18]
  exact H.max _ _ (H.low_score r) d
theorem max1_high (H : Head 1 x0 x1 xs0 q k v) (r : Fin 512) (d : Fin 128) :
    d38_v246 x0 x1 xs0 (ix2 r d) = ((att (fun j => ∑ e, high (q r) e * k j e) (fun j => v j d) : ℝ) : EReal) := by
  pointwise [d38_v246, d36_v206, k0_pay17, k0_pay22, k0_pay20, k0_pay19, k0_pay18]
  exact H.max _ _ (H.high_score r) d

/-- A row of one head of the block. -/
def diffRow (x3 : Vec Ideal S4x64 .f32) (x4 : Vec Ideal S1x128 .f32) (A B : Fin 128 → EReal) (d : Fin 128) : EReal :=
  gained (fun e => A e - lamE (fun a x => x3 (ix2 a x)) * B e) (x4 (ix2 0 d)) d

theorem d29_store_row (r : Fin 512) (d : Fin 128) : d29_store x0 x1 x3 x4 xs0 xs1 (ix3 (0 : Fin 1) r d)
    = diffRow x3 x4 (fun d => Ideal.div (d23_a x0 x1 xs0 xs1 (ix2 r d)) (d24_a x0 x1 xs0 xs1 (ix2 r (0 : Fin 1)))) (fun d => Ideal.div (d25_a x0 x1 xs0 xs1 (ix2 r d)) (d26_a x0 x1 xs0 xs1 (ix2 r (0 : Fin 1)))) d := by
  pointwise [d29_store, k0_pay7, diffRow, gained, lamE]
theorem d31_store_row (r : Fin 512) (d : Fin 128) : d31_store x0 x1 x3 x4 xs0 xs1 (ix3 (0 : Fin 1) r d)
    = diffRow x3 x4 (fun d => Ideal.div (d27_a x0 x1 xs0 xs1 (ix2 r d)) (d28_a x0 x1 xs0 xs1 (ix2 r (0 : Fin 1)))) (fun d => Ideal.div (k0_pay45 (d15_v36 x0) (d16_v38 x1) (d17_v40 xs0) (d18_v42 xs1) (ix2 r (⟨d.val, by omega⟩ : Fin 256))) (k0_pay52 (d15_v36 x0) (d16_v38 x1) (d17_v40 xs0) (d18_v42 xs1) (ix2 r (0 : Fin 1)))) d := by
  pointwise [d31_store, k0_pay54, d30_v168, k0_pay8, diffRow, gained, lamE]
theorem d35_store_row (r : Fin 512) (d : Fin 128) : d35_store x0 x1 x3 x4 xs0 (ix3 (0 : Fin 1) r d)
    = diffRow x3 x4 (fun d => d32_v153 x0 x1 xs0 (ix2 r d)) (fun d => Ideal.div (d33_v162 x0 x1 xs0 (ix2 r d)) (d34_v164 x0 x1 xs0 (ix2 r d))) d := by
  pointwise [d35_store, k0_pay16, diffRow, gained, lamE]
theorem d41_store_row (r : Fin 512) (d : Fin 128) : d41_store x0 x1 x3 x4 xs0 (ix3 (0 : Fin 1) r d)
    = diffRow x3 x4 (fun d => d37_v234 x0 x1 xs0 (ix2 r d)) (fun d => d38_v246 x0 x1 xs0 (ix2 r d)) d := by
  pointwise [d41_store, k0_pay1, d40_v248, k0_pay23, d39_v247, diffRow, gained, lamE]

theorem diffRow_att (lam : ℝ) (hl : lamE (fun a x => x3 (ix2 a x)) = (lam : EReal)) {A B : Fin 128 → EReal} {r : Fin 512}
    (hA : ∀ d, A d = ((att (fun j => ∑ e, low (q r) e * k j e) (fun j => v j d) : ℝ) : EReal))
    (hB : ∀ d, B d = ((att (fun j => ∑ e, high (q r) e * k j e) (fun j => v j d) : ℝ) : EReal)) (d : Fin 128) :
    diffRow x3 x4 A B d = gained (fun e => ((diffAtt (q r) k v lam e : ℝ) : EReal)) (x4 (ix2 0 d)) d := by
  unfold diffRow
  congr 1
  funext e
  rw [hA, hB, hl, ← EReal.coe_mul, ← EReal.coe_sub]
  rfl
end

/-- A row of the block the body writes. -/
theorem outBlk_diff (x0 : Vec Ideal S1x512x256 .bf16) (x1 x2 : Vec Ideal S1x2304x256 .bf16) (x3 : Vec Ideal S4x64 .f32) (x4 : Vec Ideal S1x128 .f32)
    (h : Fin 2) (q : Fin 512 → Fin 128 → ℝ) (k v : Fin 2304 → Fin 128 → ℝ) (h0 : ∀ r d, x0 (ix3 0 r (lane h d)) = ((q r d : ℝ) : EReal))
    (h1 : ∀ j d, x1 (ix3 0 j (lane h d)) = ((k j d : ℝ) : EReal)) (h2 : ∀ j d, x2 (ix3 0 j (lane h d)) = ((v j d : ℝ) : EReal))
    (lam : ℝ) (hl : lamE (fun a x => x3 (ix2 a x)) = (lam : EReal)) (r : Fin 512) (d : Fin 128) :
    outBlk x0 x1 x3 x4 (valScr x2) (keyScr x1) (ix3 0 r (lane h d)) = gained (fun e => ((diffAtt (q r) k v lam e : ℝ) : EReal)) (x4 (ix2 0 d)) d := by
  have H : Head h x0 x1 (valScr x2) q k v := ⟨h0, h1, fun j d => (valScr_val x2 h j d).trans (h2 j d), valScr_one x2 h⟩
  have hm := keyScr_val x1 h
  unfold outBlk
  generalize valScr x2 = xs0 at *
  generalize keyScr x1 = xs1 at *
  split_ifs
  · unfold sharpPieces
    obtain rfl | rfl : h = 0 ∨ h = 1 := by omega
    · refine Eq.trans ?_ ((d29_store_row r d).trans (diffRow_att (x3 := x3) (x4 := x4) lam hl (bound0_low H hm r) (bound0_high H hm r) d))
      canon_tiles z hz
      all_goals first
        | (exfalso; simp [lane] at hz2; omega)
        | (idx_vars z
           obtain rfl : z0 = 0 := Subsingleton.elim _ _
           obtain rfl : r = z1 := Fin.ext hz1
           obtain rfl : d = z2 := Fin.ext (by simpa [lane] using hz2)
           rfl)
    · refine Eq.trans ?_ ((d31_store_row r d).trans (diffRow_att (x3 := x3) (x4 := x4) lam hl (bound1_low H hm r) (bound1_high H hm r) d))
      canon_tiles z hz
      all_goals first
        | (exfalso; simp [lane] at hz2; omega)
        | (idx_vars z
           obtain rfl : z0 = 0 := Subsingleton.elim _ _
           obtain rfl : r = z1 := Fin.ext hz1
           obtain rfl : d = z2 := Fin.ext (by simpa [lane] using hz2)
           rfl)
  · unfold maxPieces
    obtain rfl | rfl : h = 0 ∨ h = 1 := by omega
    · refine Eq.trans ?_ ((d35_store_row r d).trans (diffRow_att (x3 := x3) (x4 := x4) lam hl (max0_low H r) (max0_high H r) d))
      canon_tiles z hz
      all_goals first
        | (exfalso; simp [lane] at hz2; omega)
        | (idx_vars z
           obtain rfl : z0 = 0 := Subsingleton.elim _ _
           obtain rfl : r = z1 := Fin.ext hz1
           obtain rfl : d = z2 := Fin.ext (by simpa [lane] using hz2)
           rfl)
    · refine Eq.trans ?_ ((d41_store_row r d).trans (diffRow_att (x3 := x3) (x4 := x4) lam hl (max1_low H r) (max1_high H r) d))
      canon_tiles z hz
      all_goals first
        | (exfalso; simp [lane] at hz2; omega)
        | (idx_vars z
           obtain rfl : z0 = 0 := Subsingleton.elim _ _
           obtain rfl : r = z1 := Fin.ext hz1
           obtain rfl : d = z2 := Fin.ext (by simpa [lane] using hz2)
           rfl)
end Cert.DiffIdeal.Gen
-- ==== Proof.DiffRefRows.lean ====
module
public import proofs.«01_k».proof.Proof.Gen.DiffRefIdeal.Run
public import Idealize.ShloMosaic.Lib.Pipeline.ValueKit
public import proofs.«01_k».proof.Proof.Heads
public import proofs.«01_k».proof.Proof.RowMax
@[expose] public section
set_option maxRecDepth 16384
noncomputable section
open Idealize.ShloMosaic Idealize.ShloMosaic.TcCoe Idealize.SL.Sem
namespace Cert.DiffRefIdeal.Value
open Cert.DiffRefIdeal Cert.DiffRefIdeal.Gen Cert.Soft
open scoped BigOperators
/-! The reference over real arguments: the difference of two attentions of each query, head by head, with its gain. -/
/-- The two halves of the queries and of the keys, and the values, by head. -/
def refQs (X : FVec Ideal S16x2304x7680 .bf16) : FVec Ideal S2x16x8x2048x64 .f32 := transpose S2x16x8x2048x64 [3, 0, 2, 1, 4] (shapeCast _ (extractStridedSlice S16x2048x1024 ![0, 0, 0] (extf .f32 X bitsLt_bf16_f32) slices_S16x2304x7680_S16x2048x1024_0_0_0) shapeCasts_S16x2048x1024_S16x2048x8x2x64) transposes_S16x2048x8x2x64_S2x16x8x2048x64_3_0_2_1_4
def refKs (X : FVec Ideal S16x2304x7680 .bf16) : FVec Ideal S2x16x8x2304x64 .f32 := transpose S2x16x8x2304x64 [3, 0, 2, 1, 4] (shapeCast _ (extractStridedSlice S16x2304x1024 ![0, 0, 1024] (extf .f32 X bitsLt_bf16_f32) slices_S16x2304x7680_S16x2304x1024_0_0_1024) shapeCasts_S16x2304x1024_S16x2304x8x2x64) transposes_S16x2304x8x2x64_S2x16x8x2304x64_3_0_2_1_4
def refQ0 (Q : FVec Ideal S2x16x8x2048x64 .f32) : FVec Ideal S16x8x2048x64 .f32 := shapeCast _ (extractStridedSlice S1x16x8x2048x64 ![0, 0, 0, 0, 0] Q slices_S2x16x8x2048x64_S1x16x8x2048x64_0_0_0_0_0) shapeCasts_S1x16x8x2048x64_S16x8x2048x64
def refQ1 (Q : FVec Ideal S2x16x8x2048x64 .f32) : FVec Ideal S16x8x2048x64 .f32 := shapeCast _ (extractStridedSlice S1x16x8x2048x64 ![1, 0, 0, 0, 0] Q slices_S2x16x8x2048x64_S1x16x8x2048x64_1_0_0_0_0) shapeCasts_S1x16x8x2048x64_S16x8x2048x64
def refK0 (K : FVec Ideal S2x16x8x2304x64 .f32) : FVec Ideal S16x8x2304x64 .f32 := shapeCast _ (extractStridedSlice S1x16x8x2304x64 ![0, 0, 0, 0, 0] K slices_S2x16x8x2304x64_S1x16x8x2304x64_0_0_0_0_0) shapeCasts_S1x16x8x2304x64_S16x8x2304x64
def refK1 (K : FVec Ideal S2x16x8x2304x64 .f32) : FVec Ideal S16x8x2304x64 .f32 := shapeCast _ (extractStridedSlice S1x16x8x2304x64 ![1, 0, 0, 0, 0] K slices_S2x16x8x2304x64_S1x16x8x2304x64_1_0_0_0_0) shapeCasts_S1x16x8x2304x64_S16x8x2304x64
def refV (X : FVec Ideal S16x2304x7680 .bf16) : FVec Ideal S16x8x2304x128 .f32 := transpose S16x8x2304x128 [0, 2, 1, 3] (shapeCast _ (extractStridedSlice S16x2304x1024 ![0, 0, 2048] (extf .f32 X bitsLt_bf16_f32) slices_S16x2304x7680_S16x2304x1024_0_0_2048) shapeCasts_S16x2304x1024_S16x2304x8x128) transposes_S16x2304x8x128_S16x8x2304x128_0_2_1_3
/-- The scores of a half and the weights it gives. -/
def refS (Q : FVec Ideal S16x8x2048x64 .f32) (K : FVec Ideal S16x8x2304x64 .f32) : FVec Ideal S16x8x2048x2304 .f32 := mulf (Host.dotGeneral dot_S16x8x2048x64_S16x8x2304x64_S16x8x2048x2304_3_3_2_2_01_01 none Q K) (broadcastInDim S16x8x2048x2304 ![] bcast_S_S16x8x2048x2304 (Host.log (constant S_ .f32 0x40000000#32)))
def refMax (S : FVec Ideal S16x8x2048x2304 .f32) : FVec Ideal S16x8x2048 .f32 := Host.reduce FloatOps.maximumf S (constant S_ .f32 0xFF800000#32) reducesTo_S16x8x2048x2304_S16x8x2048_d3 h_S_
def refEM (S : FVec Ideal S16x8x2048x2304 .f32) (M : FVec Ideal S16x8x2048 .f32) : FVec Ideal S16x8x2048x2304 .f32 := Host.exp (subf S (broadcastInDim S16x8x2048x2304 ![0, 1, 2, 3] bcast_S16x8x2048x1_S16x8x2048x2304_0_1_2_3 (broadcastInDim S16x8x2048x1 ![0, 1, 2] bcast_S16x8x2048_S16x8x2048x1_0_1_2 (maximumf (broadcastInDim S16x8x2048 ![] bcast_S_S16x8x2048 (constant S_ .f32 0xFF800000#32)) M))))
def refP (E : FVec Ideal S16x8x2048x2304 .f32) : FVec Ideal S16x8x2048x2304 .f32 := Host.divf E (broadcastInDim S16x8x2048x2304 ![0, 1, 2, 3] bcast_S16x8x2048x1_S16x8x2048x2304_0_1_2_3 (broadcastInDim S16x8x2048x1 ![0, 1, 2] bcast_S16x8x2048_S16x8x2048x1_0_1_2 (Host.reduceAdd E (constant S_ .f32 0x00000000#32) reducesTo_S16x8x2048x2304_S16x8x2048_d3 h_S_)))
def refW (S : FVec Ideal S16x8x2048x2304 .f32) : FVec Ideal S16x8x2048x2304 .f32 := refP (refEM S (refMax S))
/-- The factor of the second attention. -/
def refL (L : FVec Ideal S4x64 .f32) : FVec Ideal S_ .f32 := addf (subf (Host.exp (Host.reduceAdd (mulf (shapeCast _ (extractStridedSlice S1x64 ![0, 0] L slices_S4x64_S1x64_0_0) shapeCasts_S1x64_S64) (shapeCast _ (extractStridedSlice S1x64 ![1, 0] L slices_S4x64_S1x64_1_0) shapeCasts_S1x64_S64)) (constant S_ .f32 0x00000000#32) reducesTo_S64_S_d0 h_S_)) (Host.exp (Host.reduceAdd (mulf (shapeCast _ (extractStridedSlice S1x64 ![2, 0] L slices_S4x64_S1x64_2_0) shapeCasts_S1x64_S64) (shapeCast _ (extractStridedSlice S1x64 ![3, 0] L slices_S4x64_S1x64_3_0) shapeCasts_S1x64_S64)) (constant S_ .f32 0x00000000#32) reducesTo_S64_S_d0 h_S_))) (constant S_ .f32 0x3EB60549#32)
/-- The difference of the two attentions. -/
def refO (P0 P1 : FVec Ideal S16x8x2048x2304 .f32) (l : FVec Ideal S_ .f32) (W : FVec Ideal S16x8x2304x128 .f32) : FVec Ideal S16x8x2048x128 .f32 := Host.dotGeneral dot_S16x8x2048x2304_S16x8x2304x128_S16x8x2048x128_3_2_2_3_01_01 none (subf P0 (mulf (broadcastInDim S16x8x2048x2304 ![] bcast_S_S16x8x2048x2304 l) P1)) W
/-- Its gain, with the heads merged. -/
def refM (O : FVec Ideal S16x8x2048x128 .f32) (G : FVec Ideal S128 .f32) : FVec Ideal S16x2048x1024 .bf16 := truncf .bf16 (shapeCast _ (transpose S16x2048x8x128 [0, 2, 1, 3] (mulf (mulf (mulf O (broadcastInDim S16x8x2048x128 ![0, 1, 2, 3] bcast_S16x8x2048x1_S16x8x2048x128_0_1_2_3 (Host.rsqrt (addf (Host.divf (broadcastInDim S16x8x2048x1 ![0, 1, 2] bcast_S16x8x2048_S16x8x2048x1_0_1_2 (Host.reduceAdd (mulf O O) (constant S_ .f32 0x00000000#32) reducesTo_S16x8x2048x128_S16x8x2048_d3 h_S_)) (broadcastInDim S16x8x2048x1 ![] bcast_S_S16x8x2048x1 (constant S_ .f32 0x43000000#32))) (broadcastInDim S16x8x2048x1 ![] bcast_S_S16x8x2048x1 (constant S_ .f32 0x358637BD#32)))))) (broadcastInDim S16x8x2048x128 ![0, 1, 2, 3] bcast_S1x1x1x128_S16x8x2048x128_0_1_2_3 (broadcastInDim S1x1x1x128 ![3] bcast_S128_S1x1x1x128_3 G))) (broadcastInDim S16x8x2048x128 ![] bcast_S_S16x8x2048x128 (constant S_ .f32 0x3F24FD5C#32))) transposes_S16x8x2048x128_S16x2048x8x128_0_2_1_3) shapeCasts_S16x2048x8x128_S16x2048x1024) bitsLt_bf16_f32

/-- The whole reference. -/
def refAll (X : FVec Ideal S16x2304x7680 .bf16) (L : FVec Ideal S4x64 .f32) (G : FVec Ideal S128 .f32) : FVec Ideal S16x2048x1024 .bf16 :=
  refM (refO (refW (refS (refQ0 (refQs X)) (refK0 (refKs X)))) (refW (refS (refQ1 (refQs X)) (refK1 (refKs X)))) (refL L) (refV X)) G
theorem res_eq (m) (c) : res_main_v85 (F := Ideal) m c = refAll (m ((c.tc : Thread nD τ).loc main_arg0)) (m ((c.tc : Thread nD τ).loc main_arg1)) (m ((c.tc : Thread nD τ).loc main_arg2)) := rfl

theorem refMax_at (S : FVec Ideal S16x8x2048x2304 .f32) (b : Fin 16) (h : Fin 8) (r : Fin 2048) :
    refMax S (ix3 b h r) = Finset.univ.fold max ((constant S_ .f32 0xFF800000#32 : FVec Ideal S_ .f32) (Shape.Idx.first h_S_)) fun k : Fin 2304 => S (ix4 b h r k) := by
  unfold refMax
  exact hostMax4 (n0 := 16) (n1 := 8) (n2 := 2048) (n3 := 2304) reducesTo_S16x8x2048x2304_S16x8x2048_d3 h_S_ S (constant S_ .f32 0xFF800000#32) b h r
theorem init_at (i : S_.Idx) : (constant S_ .f32 0xFF800000#32 : FVec Ideal S_ .f32) i = Ideal.ofBits .f32 0xFF800000#32 := by
  pointwise
theorem refQ0_at (X) (b : Fin 16) (h : Fin 8) (r : Fin 2048) (d : Fin 64) :
    refQ0 (refQs X) (ix4 b h r d) = X (ix3 b ⟨r.val, by omega⟩ ⟨h.val * 128 + d.val, by omega⟩) := by
  pointwise [refQ0, refQs]
theorem refQ1_at (X) (b : Fin 16) (h : Fin 8) (r : Fin 2048) (d : Fin 64) :
    refQ1 (refQs X) (ix4 b h r d) = X (ix3 b ⟨r.val, by omega⟩ ⟨h.val * 128 + (64 + d.val), by omega⟩) := by
  pointwise [refQ1, refQs]
  simp only [Nat.add_assoc]
theorem refK0_at (X) (b : Fin 16) (h : Fin 8) (j : Fin 2304) (d : Fin 64) :
    refK0 (refKs X) (ix4 b h j d) = X (ix3 b j ⟨1024 + (h.val * 128 + d.val), by omega⟩) := by
  pointwise [refK0, refKs]
theorem refK1_at (X) (b : Fin 16) (h : Fin 8) (j : Fin 2304) (d : Fin 64) :
    refK1 (refKs X) (ix4 b h j d) = X (ix3 b j ⟨1024 + (h.val * 128 + (64 + d.val)), by omega⟩) := by
  pointwise [refK1, refKs]
  simp only [Nat.add_assoc]
theorem refV_at (X) (b : Fin 16) (h : Fin 8) (j : Fin 2304) (d : Fin 128) :
    refV X (ix4 b h j d) = X (ix3 b j ⟨2048 + (h.val * 128 + d.val), by omega⟩) := by
  pointwise [refV]
theorem refS_at (Q K) (b : Fin 16) (h : Fin 8) (r : Fin 2048) (j : Fin 2304) :
    refS Q K (ix4 b h r j) = (∑ x : Fin 64, (Q (ix4 b h r x) : EReal) * K (ix4 b h j x)) * Ideal.log (Ideal.ofBits .f32 0x40000000#32) := by
  pointwise [refS]
theorem refEM_at (S M) (b : Fin 16) (h : Fin 8) (r : Fin 2048) (j : Fin 2304) :
    refEM S M (ix4 b h r j) = Ideal.exp (S (ix4 b h r j) - max (Ideal.ofBits .f32 0xFF800000#32) (M (ix3 b h r))) := by
  pointwise [refEM]
theorem refP_at (E) (b : Fin 16) (h : Fin 8) (r : Fin 2048) (j : Fin 2304) :
    refP E (ix4 b h r j) = Ideal.div (E (ix4 b h r j)) (∑ j' : Fin 2304, (E (ix4 b h r j') : EReal)) := by
  pointwise [refP]
theorem refL_at (L) (i : S_.Idx) : refL L i = lamE fun a x => L (ix2 a x) := by
  pointwise [refL, lamE]
theorem refO_at (P0 P1 l W) (b : Fin 16) (h : Fin 8) (r : Fin 2048) (d : Fin 128) :
    refO P0 P1 l W (ix4 b h r d) = ∑ j : Fin 2304, ((P0 (ix4 b h r j) : EReal) - l ix0 * P1 (ix4 b h r j)) * W (ix4 b h j d) := by
  pointwise [refO]
theorem refM_at (O G) (b : Fin 16) (r : Fin 2048) (l : Fin 1024) :
    refM O G (ix3 b r l) = gained (fun d => O (ix4 b ⟨l.val / 128, by omega⟩ r d)) (G (ix1 ⟨l.val % 128, by omega⟩)) ⟨l.val % 128, by omega⟩ := by
  pointwise [refM, gained]

/-- The weights over real scores. -/
theorem refW_at (S : FVec Ideal S16x8x2048x2304 .f32) (b : Fin 16) (h : Fin 8) (r : Fin 2048) (s : Fin 2304 → ℝ)
    (hS : ∀ j, S (ix4 b h r j) = ((s j * Real.log 2 : ℝ) : EReal)) (j : Fin 2304) : refW S (ix4 b h r j) = ((wt s j : ℝ) : EReal) := by
  unfold refW
  simp only [refP_at, refEM_at]
  refine wt_of_softmax (fun j => S (ix4 b h r j)) _ s hS ?_ j
  obtain ⟨c, hc, _⟩ := max_real (fun j => S (ix4 b h r j)) _ hS
  refine ⟨c, ?_⟩
  rw [refMax_at, init_at]
  rw [ofBits_bot] at hc ⊢
  rw [max_eq_right bot_le]
  exact hc

/-- One entry of the result: the head its column belongs to. -/
def diffEntry (x : Fin 16 → Fin 2304 → Fin 7680 → ℝ) (lam : ℝ) (b : Fin 16) (r : Fin 2048) (h : Fin 8) (d : Fin 128) : ℝ :=
  diffAtt (fun e => x b ⟨r.val, by omega⟩ ⟨h.val * 128 + e.val, by omega⟩) (fun j e => x b j ⟨1024 + (h.val * 128 + e.val), by omega⟩)
    (fun (j : Fin 2304) e => x b j ⟨2048 + (h.val * 128 + e.val), by omega⟩) lam d

theorem res_at (X : FVec Ideal S16x2304x7680 .bf16) (L : FVec Ideal S4x64 .f32) (G : FVec Ideal S128 .f32) (x : Fin 16 → Fin 2304 → Fin 7680 → ℝ)
    (hx : ∀ b j l, X (ix3 b j l) = ((x b j l : ℝ) : EReal)) (lam : ℝ) (hl : lamE (fun a x => L (ix2 a x)) = (lam : EReal))
    (b : Fin 16) (r : Fin 2048) (l : Fin 1024) :
    refAll X L G (ix3 b r l) = gained (fun d => ((diffEntry x lam b r ⟨l.val / 128, by omega⟩ d : ℝ) : EReal)) (G (ix1 ⟨l.val % 128, by omega⟩)) ⟨l.val % 128, by omega⟩ := by
  unfold refAll
  rw [refM_at]
  congr 1
  funext d
  unfold diffEntry diffAtt
  rw [refO_at, att_eq_wt, att_eq_wt, Finset.mul_sum, ← Finset.sum_sub_distrib, ← coe_sum]
  refine Finset.sum_congr rfl fun k _ => ?_
  rw [refV_at, hx, refL_at, hl]
  rw [refW_at _ _ _ _ (fun j => ∑ e : Fin 64, x b ⟨r.val, by omega⟩ ⟨l.val / 128 * 128 + e.val, by omega⟩ * x b j ⟨1024 + (l.val / 128 * 128 + e.val), by omega⟩) (fun j => ?_) k,
    refW_at _ _ _ _ (fun j => ∑ e : Fin 64, x b ⟨r.val, by omega⟩ ⟨l.val / 128 * 128 + (64 + e.val), by omega⟩ * x b j ⟨1024 + (l.val / 128 * 128 + (64 + e.val)), by omega⟩) (fun j => ?_) k]
  · simp only [sum_low, sum_high]
    rw [← EReal.coe_mul, ← EReal.coe_sub, ← EReal.coe_mul]
    congr 1
    ring
  · rw [refS_at, log_two, EReal.coe_mul, ← coe_dot]
    refine congrArg (· * _) (Finset.sum_congr rfl fun d _ => ?_)
    rw [refQ1_at, refK1_at, hx, hx]
  · rw [refS_at, log_two, EReal.coe_mul, ← coe_dot]
    refine congrArg (· * _) (Finset.sum_congr rfl fun d _ => ?_)
    rw [refQ0_at, refK0_at, hx, hx]
end Cert.DiffRefIdeal.Value
-- ==== Proof.DiffIdealValue.lean ====
module
public import proofs.«01_k».proof.Proof.DiffIdealFrame
public import proofs.«01_k».proof.Proof.DiffIdealRows
public import proofs.«01_k».proof.Proof.DiffRefRows
public import Idealize.ShloMosaic.Lib.Claim
@[expose] public section
set_option maxRecDepth 16384
noncomputable section
open Idealize.ShloMosaic Idealize.ShloMosaic.TcCoe Idealize.SL.Sem
namespace Cert.DiffIdeal.Value
open Cert.DiffIdeal Cert.DiffIdeal.Gen Cert.Soft Cert.DiffRefIdeal.Value
open scoped BigOperators
/-! The result array of the differential attention, over real arguments. -/

variable (m : (ℓ : Loc nD τ sig) → Buf (Elt Ideal) ℓ) (c : Dev nD)
variable (x : Fin 16 → Fin 2304 → Fin 7680 → ℝ)
variable (hx : ∀ b j l, (m ((c.tc : Thread nD τ).loc main_arg0) : FVec Ideal S16x2304x7680 .bf16) (ix3 b j l) = ((x b j l : ℝ) : EReal))

theorem N_eq : cfg0.N = 256 := by decide +kernel

/-- The blocks of a point at a head of its pair. -/
def qb (t : Fin cfg0.N) (h : Fin 2) (r : Fin 512) (d : Fin 128) : ℝ := x ⟨t.val / 16, by have := lt_of_lt_of_eq t.isLt N_eq; omega⟩ ⟨t.val % 4 * 512 + r.val, by omega⟩ ⟨(0 + t.val / 4 % 4) * 256 + (lane h d).val, by omega⟩
def kb (t : Fin cfg0.N) (h : Fin 2) (j : Fin 2304) (d : Fin 128) : ℝ := x ⟨t.val / 16, by have := lt_of_lt_of_eq t.isLt N_eq; omega⟩ j ⟨(4 + t.val / 4 % 4) * 256 + (lane h d).val, by omega⟩
def vb (t : Fin cfg0.N) (h : Fin 2) (j : Fin 2304) (d : Fin 128) : ℝ := x ⟨t.val / 16, by have := lt_of_lt_of_eq t.isLt N_eq; omega⟩ j ⟨(8 + t.val / 4 % 4) * 256 + (lane h d).val, by omega⟩

include hx
theorem q_at (t : Fin cfg0.N) (h : Fin 2) (r : Fin 512) (d : Fin 128) : (X0_0 m c t : Vec Ideal S1x512x256 .bf16) (ix3 (0 : Fin 1) r (lane h d)) = ((qb x t h r d : ℝ) : EReal) := by
  unfold qb
  rw [← hx]
  show (cfg0.win 0).fill (cfg0.grid.coords t) dflt0_0 (iblk m c 0 t) (ix3 (0 : Fin 1) r (lane h d)) = _
  unfold Pipeline.Window.fill
  rw [dif_pos (moved0_0 t _)]
  blk_ext [iblk, V, idx0 t]

theorem k_at (t : Fin cfg0.N) (h : Fin 2) (j : Fin 2304) (d : Fin 128) : (iblk m c 1 t : Vec Ideal S1x2304x256 .bf16) (ix3 (0 : Fin 1) j (lane h d)) = ((kb x t h j d : ℝ) : EReal) := by
  unfold kb
  rw [← hx]
  blk_ext [iblk, V, idx1 t]

theorem v_at (t : Fin cfg0.N) (h : Fin 2) (j : Fin 2304) (d : Fin 128) : (iblk m c 2 t : Vec Ideal S1x2304x256 .bf16) (ix3 (0 : Fin 1) j (lane h d)) = ((vb x t h j d : ℝ) : EReal) := by
  unfold vb
  rw [← hx]
  blk_ext [iblk, V, idx2 t]

omit hx in
/-- The factors and the gains of a point are the arguments. -/
theorem l_at (t : Fin cfg0.N) (a : Fin 4) (y : Fin 64) : (iblk m c 3 t : Vec Ideal S4x64 .f32) (ix2 a y) = (m ((c.tc : Thread nD τ).loc main_arg1) : FVec Ideal S4x64 .f32) (ix2 a y) := by
  blk_ext [iblk, V, idx3 t]
omit hx in
theorem g_at (t : Fin cfg0.N) (d : Fin 128) : (iblk m c 4 t : Vec Ideal S1x128 .f32) (ix2 (0 : Fin 1) d) = (m ((c.tc : Thread nD τ).loc main_arg2) : FVec Ideal S128 .f32) (ix1 d) := by
  blk_simp [iblk, idx4 t]
  entry_read
  pointwise
  blk_ext [idx4 t]

omit hx in
/-- The rows a point computes are the rows of the result its block is written to. -/
theorem row_eq (t : Fin cfg0.N) (h : Fin 2) (r : Fin 512) (lam : ℝ) (d : Fin 128) (b : Fin 16) (r' : Fin 2048) (h' : Fin 8)
    (hb : b.val = t.val / 16) (hr : r'.val = t.val % 4 * 512 + r.val) (hh : h'.val = t.val / 4 % 4 * 2 + h.val) :
    diffAtt (qb x t h r) (kb x t h) (vb x t h) lam d = diffEntry x lam b r' h' d := by
  have hlane : ∀ e : Fin 128, (lane h e).val = h.val * 128 + e.val := fun e => by
    obtain rfl | rfl : h = 0 ∨ h = 1 := by omega
    all_goals simp [lane]
  unfold diffEntry qb kb vb
  have hbb : b = ⟨t.val / 16, by have := lt_of_lt_of_eq t.isLt N_eq; omega⟩ := Fin.ext hb
  rw [hbb]
  congr 1
  · funext e
    congr 1
    · exact Fin.ext hr.symm
    · refine Fin.ext ?_
      show (0 + t.val / 4 % 4) * 256 + (lane h e).val = h'.val * 128 + e.val
      rw [hlane]; omega
  · funext j e
    congr 1
    refine Fin.ext ?_
    show (4 + t.val / 4 % 4) * 256 + (lane h e).val = 1024 + (h'.val * 128 + e.val)
    rw [hlane]; omega
  · funext j e
    congr 1
    refine Fin.ext ?_
    show (8 + t.val / 4 % 4) * 256 + (lane h e).val = 2048 + (h'.val * 128 + e.val)
    rw [hlane]; omega

/-- One entry of the result. -/
def entry (lam : ℝ) (G : FVec Ideal S128 .f32) (b : Fin 16) (r : Fin 2048) (l : Fin 1024) : EReal :=
  gained (fun d => ((diffEntry x lam b r ⟨l.val / 128, by omega⟩ d : ℝ) : EReal)) (G (ix1 ⟨l.val % 128, by omega⟩)) ⟨l.val % 128, by omega⟩

theorem final (lam : ℝ) (hl : lamE (fun a y => (m ((c.tc : Thread nD τ).loc main_arg1) : FVec Ideal S4x64 .f32) (ix2 a y)) = (lam : EReal)) :
    (dats m 0 c).arrAt 5 (cfgs 0).N = fun i : S16x2048x1024.Idx => entry x lam (m ((c.tc : Thread nD τ).loc main_arg2)) (i 0) (i 1) (i 2) := by
  refine (dats m 0 c).arrAt_eq_of_covers 5 _ (by decide +kernel) fun t hf y => ?_
  blk_simp
  rw [after0_5]
  idx_vars y
  obtain rfl : y0 = 0 := Subsingleton.elim _ _
  have hN := lt_of_lt_of_eq t.isLt N_eq
  have he : ((View.whole main_v1).slice (win0_5.rect t)).emb (ix3 (0 : Fin 1) y1 y2)
      = ix3 (⟨t.val / 16, by omega⟩ : Fin 16) (⟨t.val % 4 * 512 + y1.val, by omega⟩ : Fin 2048) (⟨t.val / 4 % 4 * 256 + y2.val, by omega⟩ : Fin 1024) := by
    blk_ext [idx5 t]
  rw [he]
  obtain ⟨h, d, rfl⟩ : ∃ (h : Fin 2) (d : Fin 128), y2 = lane h d := by
    by_cases hy : y2.val < 128
    · exact ⟨0, ⟨y2.val, hy⟩, rfl⟩
    · exact ⟨1, ⟨y2.val - 128, by omega⟩, Fin.ext (by simp only [lane]; omega)⟩
  have hlane : (lane h d).val = h.val * 128 + d.val := by
    obtain rfl | rfl : h = 0 ∨ h = 1 := by omega
    all_goals simp [lane]
  refine (outBlk_diff _ _ _ _ _ h _ _ _ (q_at m c x hx t h) (k_at m c x hx t h) (v_at m c x hx t h) lam ((congrArg lamE (funext fun a => funext fun y => l_at m c t a y)).trans hl) y1 d).trans ?_
  rw [g_at]
  have hd : (⟨(t.val / 4 % 4 * 256 + (lane h d).val) % 128, by omega⟩ : Fin 128) = d := Fin.ext (by show _ % 128 = _; rw [hlane]; omega)
  show _ = entry x lam _ ⟨t.val / 16, by omega⟩ ⟨t.val % 4 * 512 + y1.val, by omega⟩ ⟨t.val / 4 % 4 * 256 + (lane h d).val, by omega⟩
  unfold entry
  simp only [hd]
  congr 1
  funext e
  exact congrArg (fun r : ℝ => (r : EReal)) (row_eq x t h y1 lam e _ _ _ rfl rfl (by show _ / 128 = _; rw [hlane]; omega))
end Cert.DiffIdeal.Value
-- ==== Proof.DiffClaim.lean ====
module
public import proofs.«01_k».proof.Proof.DiffIdealValue
public import proofs.«01_k».proof.Proof.FinitePre
public import Idealize.ShloMosaic.Lib.Claim
@[expose] public section
set_option maxRecDepth 16384
noncomputable section
open Idealize.ShloMosaic Idealize.ShloMosaic.TcCoe Idealize.SL.Sem
namespace Cert.DiffClaim
open Cert.DiffIdeal.Value Cert.DiffRefIdeal.Value Cert.Soft
/-! The differential attention of the kernel and of the reference agree. -/

theorem algebraic : Cert.algebraic_DiffIdeal_DiffRefIdeal_pre_finite := by
  pair_intro
  · run_from Cert.DiffIdeal.Gen.run_main m g
  · run_from Cert.DiffRefIdeal.Value.run m' g'
    have hp := Cert.FinitePre.real_p_lam _ _ _ (hpre c)
    have hr : ∀ b j l, ∃ r : ℝ, (m ((c.tc : Thread Cert.DiffIdeal.nD Cert.DiffIdeal.τ).loc Cert.DiffIdeal.main_arg0)) (ix3 (b : Fin 16) (j : Fin 2304) (l : Fin 7680)) = (r : EReal) :=
      fun b j l => hp.1 (ix3 b j l)
    choose x hx using hr
    obtain ⟨lam, hl⟩ := lam_real (fun a y => (m ((c.tc : Thread Cert.DiffIdeal.nD Cert.DiffIdeal.τ).loc Cert.DiffIdeal.main_arg1)) (ix2 (a : Fin 4) (y : Fin 64))) fun a y => hp.2 (ix2 a y)
    rw [res_eq, (hagree c).1, (hagree c).2.1, (hagree c).2.2]
    refine Eq.trans ?_ (final m c x hx lam hl).symm
    funext i
    idx_vars i
    exact res_at _ _ _ x hx lam hl i0 i1 i2
end Cert.DiffClaim
-- ==== Proof.MoeIdealBody.lean ====
module

public import proofs.«01_k».proof.Proof.Gen.MoeIdeal.Skeleton
public import proofs.«01_k».proof.Proof.Gen.MoeIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the experts' kernel: at the first slice of a tile's hidden width it clears the output block, and for a
tile in use it adds the slice's share. -/

/-- The two tables as the body is handed them, and one held at half a share. -/
abbrev tabE : Memref sig .tc .smem S93 .i32 := Memref.whole main_arg0
abbrev tabN : Memref sig .tc .smem S1 .i32 := Memref.whole main_arg1
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The number of tiles in use, as the body reads it. -/
def used (n : Vec F S1 .i32) : BitVec 32 := n (Shape.Idx.first (s := S1) (by decide))

/-- The block with a slice's share added. -/
def addSlice (x0 : Vec F S768x2048 .bf16) (x1 x2 : Vec F S1x2048x512 .bf16) (x3 : Vec F S1x512x2048 .bf16) (o : Vec F S768x2048 .f32) : Vec F S768x2048 .f32 :=
  k0_pay2 x0 x1 x2 o x3

/-- What a run leaves in the output block. -/
def outBlk (start live : Prop) [Decidable start] [Decidable live] (x0 : Vec F S768x2048 .bf16) (x1 x2 : Vec F S1x2048x512 .bf16) (x3 : Vec F S1x512x2048 .bf16) (o : Vec F S768x2048 .f32) : Vec F S768x2048 .f32 :=
  if live then addSlice x0 x1 x2 x3 (if start then k0_pay1 else o) else if start then k0_pay1 else o

set_option maxHeartbeats 1000000 in
theorem run (c : Dev nD) (i : grid0.Coords) (arg4 : Memref sig .tc .vmem S768x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S768x2048 .f32) (harg8 : arg8.IsWhole)
    (x0 : Vec F S768x2048 .bf16) (x1 x2 : Vec F S1x2048x512 .bf16) (x3 : Vec F S1x512x2048 .bf16) (te : TabBuf (F := F) c tabE) (nv : TabBuf (F := F) c tabN) (o : Vec F S768x2048 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare o ∗ tabPt c tabE te ∗ tabPt c tabN nv
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outBlk (k0_cond1 i = 1#1) (k0_cond2 i (used nv) = 1#1) x0 x1 x2 x3 o) ∗ tabPt c tabE te ∗ tabPt c tabN nv) -∗ K ⟨⟩))
      ⊢ wp frame (wpE (defs₀ (F := F)) Variants.none c none) E (cc0__moe_ffn_kernel i tabE (Memref.isWhole_whole _) tabN (Memref.isWhole_whole _) arg4 harg4 arg5 harg5 arg6 harg6 arg7 harg7 arg8 harg8) K := by
  simp only [cc0__moe_ffn_kernel_eq_skeleton]; unfold cc0__moe_ffn_kernel_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  subst hf0 hf1 hf2 hf3 hf4
  sl_exec
  sl_step
  iapply Hk
  isplitl [H0]; · iexists _; isplitr
                  swap; · iexact H0
                  ipureintro; rfl
  isplitl [H1]; · iexists _; isplitr
                  swap; · iexact H1
                  ipureintro; rfl
  isplitl [H2]; · iexists _; isplitr
                  swap; · iexact H2
                  ipureintro; rfl
  isplitl [H3]; · iexists _; isplitr
                  swap; · iexact H3
                  ipureintro; rfl
  isplitl [H4]
  · iexists _; isplitr
    swap; · iexact H4
    ipureintro
    have e : run.sl.r c nv = used nv := by
      unfold run.sl.r used
      exact congrFun (View.readAt_full tabN.view nv inb_S1_S1_0) _
    rw [e]
    have e14 : run.sl.v14 c i arg8 f4 = if k0_cond1 i = 1#1 then k0_pay1 else arg8.view.read (Elt F) f4 := by
      unfold run.sl.v14
      split
      · exact View.readAt_writes_full _ _ _ _ _ _
      · exact View.readAt_full _ _ _
    unfold outBlk addSlice
    split
    · rw [View.read_writes_full, e14]
      exact congr (congr (congr (congr (congrArg k0_pay2 (View.readAt_full _ _ _)) (View.readAt_full _ _ _)) (View.readAt_full _ _ _)) rfl) (View.readAt_full _ _ _)
    · split
      · exact View.read_writes_full _ _ _ _ _
      · rfl
  isplitl [HT0]; · iexact HT0
  iexact HT1

end Cert.MoeIdeal.Gen

end
-- ==== Proof.MoeIdealFrame.lean ====
module

public import proofs.«01_k».proof.Proof.MoeIdealBody
public import Idealize.ShloMosaic.Lib.Pipeline.TableIdle
public import Idealize.ShloMosaic.Lib.Pipeline.Kit

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as launched, the tables, the blocks -/

/-- The device's buffers when the region starts: `main` is the region alone, so they are as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables: a tile's expert, and the number of tiles in use. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The body's part of the tables, one table at a time. -/
theorem tables_split (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, of its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The body's conditions at a point -/

/-- The point starts its tile; the point's tile is in use. -/
abbrev start (i : grid0.Coords) : Prop := k0_cond1 i = 1#1
abbrev live (i : grid0.Coords) : Prop := k0_cond2 i (used (tbl m 1)) = 1#1

theorem start_iff (t : Fin grid0.N) : start (grid0.coords t) ↔ t.val % 11 = 0 := by
  have ht : t.val < 1023 := Nat.lt_of_lt_of_eq t.isLt N_0
  have e1 : (grid0.coords t 1).val = t.val / 1 % 11 := Pipeline.Grid.coords_val t 1 (by decide) rfl
  simp only [start, k0_cond1, e1]
  word_cmp

theorem flush_iff (a : (pcfg0 (F := F)).Adm) (t : Fin (cfg0 a).N) : ((cfg0 a).win 4).flush t = true ↔ t.val % 11 = 10 :=
  (Pipeline.Window.flushOf_reads cc0_transform_4 reads0_4 hreads0_4 0 (by decide) (by decide) (Pipeline.Window.sep_of_coord cc0_transform_4 0 0 (fun _ => rfl) (by decide)) (P := 11) (m := 10) (by decide) rfl t : Pipeline.Window.flushOf grid0 true cc0_transform_4 t = true ↔ t.val % 11 = 10)

theorem one_index (x y : S1.Idx) : x = y := funext fun (a : Fin 1) => by
  obtain rfl : a = 0 := Subsingleton.elim _ _
  have h1 : (x 0).val < 1 := (x 0).isLt
  have h2 : (y 0).val < 1 := (y 0).isLt
  exact Fin.ext (by omega)

theorem idle_iff (hO : Ok m) (t : Fin (cfgM m hO).N) : (cfgM m hO).idle 4 ((cfgM m hO).grid.coords t) = true ↔ ¬start (grid0.coords t) ∧ ¬live m (grid0.coords t) := by
  show (!(k0_cond1 (grid0.coords t) == 1#1) && !(k0_cond2 (grid0.coords t) ((tbl m).atD 1 ![0]) == 1#1)) = true ↔ _
  have e : (tbl m).atD 1 ![0] = used (tbl m 1) := by
    refine (dif_pos (by decide)).trans ?_
    unfold used
    exact congrArg (tbl m 1) (one_index _ _)
  rw [e]
  simp [start, live]

/-! ## What the output block holds after each point -/

/-- One point's step on the output block. -/
def stepBlk (hO : Ok m) (c : Dev nD) (t : Fin (cfgM m hO).N) (o : Vec F S768x2048 .f32) : Vec F S768x2048 .f32 :=
  outBlk (start (grid0.coords t)) (live m (grid0.coords t)) (iblk m hO c 0 t) (iblk m hO c 1 t) (iblk m hO c 2 t) (iblk m hO c 3 t) o

def acc (hO : Ok m) (c : Dev nD) : (n : ℕ) → n < (cfgM m hO).N → Vec F S768x2048 .f32
  | 0, hn => stepBlk m hO c ⟨0, hn⟩ k0_pay1
  | n + 1, hn => stepBlk m hO c ⟨n + 1, hn⟩ (acc hO c n (Nat.lt_of_succ_lt hn))

/-- At a tile's first point what the block held does not matter. -/
theorem stepBlk_start (hO : Ok m) (c : Dev nD) (t : Fin (cfgM m hO).N) (h : start (grid0.coords t)) (o o' : Vec F S768x2048 .f32) :
    stepBlk m hO c t o = stepBlk m hO c t o' := by
  unfold stepBlk outBlk; simp only [if_pos h]

theorem stepBlk_idle (hO : Ok m) (c : Dev nD) (t : Fin (cfgM m hO).N) (h : ¬start (grid0.coords t)) (h' : ¬live m (grid0.coords t)) (o : Vec F S768x2048 .f32) :
    stepBlk m hO c t o = o := by
  unfold stepBlk outBlk; simp only [if_neg h, if_neg h']

theorem acc_start (hO : Ok m) (c : Dev nD) (t : Fin (cfgM m hO).N) (h : t.val % 11 = 0) (o : Vec F S768x2048 .f32) :
    acc m hO c t.val t.isLt = stepBlk m hO c t o := by
  obtain ⟨n, hn⟩ := t
  cases n with
  | zero => exact stepBlk_start m hO c _ ((start_iff ⟨0, hn⟩).mpr h) _ _
  | succ n => exact stepBlk_start m hO c _ ((start_iff ⟨n + 1, hn⟩).mpr h) _ _

theorem acc_next (hO : Ok m) (c : Dev nD) (t : Fin (cfgM m hO).N) (h : t.val ≠ 0) :
    acc m hO c t.val t.isLt = stepBlk m hO c t (acc m hO c (t.val - 1) (Nat.lt_of_le_of_lt (Nat.sub_le _ _) t.isLt)) := by
  obtain ⟨n, hn⟩ := t
  cases n with
  | zero => exact absurd rfl h
  | succ n => rfl

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => acc m hO c t.val t.isLt
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = acc m hO c t.val t.isLt := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output's buffer is fresh exactly at a tile's first point. -/
theorem fresh_eq (hO : Ok m) : ∀ n, n ≤ (cfgM m hO).N → (cfgM m hO).fresh 4 n = decide (n % 11 = 0) :=
  (cfgM m hO).fresh_tab 4 (fun n => decide (n % 11 = 0)) rfl fun t => by
    have hf := flush_iff (adm m hO) t
    have hi := idle_iff m hO t
    have hs := start_iff t
    by_cases h10 : t.val % 11 = 10
    · rw [hf.mpr h10, Bool.true_or]; exact decide_eq_true (by omega)
    · rw [Bool.eq_false_iff.mpr fun h => h10 (hf.mp h), Bool.false_or]
      by_cases h0 : t.val % 11 = 0
      · rw [Bool.eq_false_iff.mpr fun h => (hi.mp h).1 (hs.mpr h0), Bool.false_and]; exact decide_eq_false (by omega)
      · rw [decide_eq_false h0, Bool.and_false]; exact decide_eq_false (by omega)

theorem before_4 (hO : Ok m) (c : Dev nD) (t : Fin (cfgM m hO).N) (h0 : ¬t.val % 11 = 0) (d) :
    (dats m hO 0 c).before 4 t d = acc m hO c (t.val - 1) (Nat.lt_of_le_of_lt (Nat.sub_le _ _) t.isLt) := by
  rw [(dats m hO 0 c).before_out_traj 4 rfl (fun _ _ => rfl) (fun t ht hi _ => by
    rw [after_4, after_4, acc_next m hO c t ht]
    obtain ⟨h1, h2⟩ := (idle_iff m hO t).mp hi
    exact stepBlk_idle m hO c t h1 h2 _) t.val t rfl d, fresh_eq m hO t.val (Nat.le_of_lt t.isLt), if_neg (by simpa using h0), after_4]

/-- A point's step takes what its buffer held to what the proof data state. -/
theorem step_before (hO : Ok m) (c : Dev nD) (t : Fin (cfgM m hO).N) (d) :
    stepBlk m hO c t ((dats m hO 0 c).before 4 t d) = acc m hO c t.val t.isLt := by
  by_cases h0 : t.val % 11 = 0
  · exact (acc_start m hO c t h0 _).symm
  · rw [before_4 m hO c t h0, ← acc_next m hO c t (fun h => h0 (by rw [h]))]

/-! ## The body obligation -/

abbrev st_0 (hO : Ok m) (t : Fin (cfgM m hO).N) : Memref sig .tc .vmem S768x2048 .bf16 := spec0_0.stage ((cfgM m hO).slots t 0)
abbrev st_1 (hO : Ok m) (t : Fin (cfgM m hO).N) : Memref sig .tc .vmem S1x2048x512 .bf16 := spec0_1.stage ((cfgM m hO).slots t 1)
abbrev st_2 (hO : Ok m) (t : Fin (cfgM m hO).N) : Memref sig .tc .vmem S1x2048x512 .bf16 := spec0_2.stage ((cfgM m hO).slots t 2)
abbrev st_3 (hO : Ok m) (t : Fin (cfgM m hO).N) : Memref sig .tc .vmem S1x512x2048 .bf16 := spec0_3.stage ((cfgM m hO).slots t 3)
abbrev st_4 (hO : Ok m) (t : Fin (cfgM m hO).N) : Memref sig .tc .vmem S768x2048 .f32 := spec0_4.stage ((cfgM m hO).slots t 4)

/-- The body at a point, on the staging buffers it is called with. -/
abbrev bodyAt (a : (pcfg0 (F := F)).Adm) (t : Fin (cfg0 a).N) : Prog (TpuEff nD τ sig (Elt F) Λ₀ .tc) PUnit :=
  cc0__moe_ffn_kernel (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- What the output's buffer is left at, idle or not. -/
theorem leaves_4 (hO : Ok m) (c : Dev nD) (t : Fin (cfgM m hO).N) (d) :
    (owns (c : Thread nD τ) (st_4 m hO t) fullShare (stepBlk m hO c t ((dats m hO 0 c).before 4 t d)) : sProp 𝕄) ⊢ (dats m hO 0 c).leavesExact 4 t := by
  by_cases hi : (cfgM m hO).idle 4 ((cfgM m hO).grid.coords t) = true
  · by_cases hf : ((cfgM m hO).win 4).flush t = true
    · have e : (dats m hO 0 c).leavesExact 4 t = owns (c : Thread nD τ) (st_4 m hO t) fullShare ((dats m hO 0 c).after 4 t) := by
        unfold Dat.leavesExact; rw [hi, hf]; rfl
      rw [e, after_4]; exact Entails.of_eq (congrArg (fun o => owns (c : Thread nD τ) (st_4 m hO t) fullShare o) (step_before m hO c t d))
    · rw [Dat.leavesExact_idle _ 4 t hi (Bool.eq_false_iff.mpr hf)]
      obtain ⟨h1, h2⟩ := (idle_iff m hO t).mp hi
      refine (Entails.of_eq (congrArg (fun o => owns (c : Thread nD τ) (st_4 m hO t) fullShare o) (stepBlk_idle m hO c t h1 h2 _))).trans ?_
      iintro H; iexists d; iexact H
  · have e : (dats m hO 0 c).leavesExact 4 t = owns (c : Thread nD τ) (st_4 m hO t) fullShare ((dats m hO 0 c).after 4 t) := by
      unfold Dat.leavesExact; rw [Bool.eq_false_iff.mpr hi]; rfl
    rw [e, after_4]; exact Entails.of_eq (congrArg (fun o => owns (c : Thread nD τ) (st_4 m hO t) fullShare o) (step_before m hO c t d))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t)
    ∗ (dats m hO 0 c).leavesExact 4 t)

set_option maxHeartbeats 800000 in
theorem body_sound (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3,
    show (dats m hO 0 c).Φ t.castSucc = iprop(Pipeline.ΦA spec0 c ∗ Pipeline.ΦT pre0 (tbl m) c) from rfl, tables_split]
  iintro ⟨⟨HΦ, ⟨HT0, HT1⟩⟩, Ho, ⟨%d0, H0⟩, ⟨%d1, H1⟩, ⟨%d2, H2⟩, ⟨%d3, H3⟩, ⟨%d4, H4⟩⟩
  iapply (run c (grid0.coords t) _ _ _ _ _ _ _ _ _ _ (iblk m hO c 0 t) (iblk m hO c 1 t) (iblk m hO c 2 t) (iblk m hO c 3 t) (tbl m 0) (tbl m 1) ((dats m hO 0 c).before 4 t d4) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iapply (leaves_4 m hO c t d4)
  iexact H4

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (body_sound m hO c t) rfl .rfl fun _ => .rfl

/-! ## The launch, and the arguments kept -/

set_option backward.isDefEq.respectTransparency.types false in
theorem launched (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- What a device's arguments hold at the end. -/
abbrev Kept (m' : (ℓ : Loc nD τ sig) → Buf (Elt F) ℓ) : Prop := ∀ c : Dev nD,
      m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)

theorem kept_of_post (hO : Ok m) (r) (h : Pipeline.FramePost (Pipeline.pin pcfgs fun _ => adm m hO) (dats m hO) 0 (V m) r) : Kept m r.2.mem := fun c =>
  ⟨(h c).2 main_arg0 (by decide : main_arg0 ∈ Pipeline.restRefs sig spec0),
   (h c).2 main_arg1 (by decide : main_arg1 ∈ Pipeline.restRefs sig spec0),
   ((h c).1 0).trans (((dats m hO 0 c).arrAt_in 0 rfl _).trans (A_eq m hO c 0)),
   ((h c).1 2).trans (((dats m hO 0 c).arrAt_in 2 rfl _).trans (A_eq m hO c 2)),
   ((h c).1 3).trans (((dats m hO 0 c).arrAt_in 3 rfl _).trans (A_eq m hO c 3))⟩

/-- Every run ends, with the arguments as launched and no semaphore held. -/
theorem frame (hO : Ok m) : θ_run defs (onTc (τ := τ) (main (F := F))) ⟨m, fun _ => 0, ρ⟩ (fun r => Kept m r.2.mem ∧ r.2.sem = fun _ => 0) :=
  (θ_run defs _ _).mono (fun r h => ⟨kept_of_post m hO r h.1, h.2⟩) (launched m ρ hO)

end Cert.MoeIdeal.Gen

end
-- ==== Proof.MoeIdealTables.lean ====
module

public import proofs.«01_k».proof.Proof.MoeIdealFrame
public import Idealize.ShloMosaic.Lib.Affine
public import Idealize.ShloMosaic.Lib.StableHlo.Predicate

@[expose] public section

set_option maxRecDepth 16384

noncomputable section

namespace Cert.MoeIdeal.Gen

open Idealize.ShloMosaic Idealize.ShloMosaic.TcCoe

variable {F : FTy → Type} [FloatOps F]
variable (m : (ℓ : Loc nD τ sig) → Buf (Elt F) ℓ)

/-! The blocks the tables name. -/

abbrev at93 (k : Fin 93) : S93.Idx := fun | ⟨0, _⟩ => k

/-- The number of tiles in use. -/
def nUsed : BitVec 32 := used (tbl m 1)

/-- A tile's expert. -/
def tileExp (k : Fin 93) : BitVec 32 := tbl m 0 (at93 k)

/-- The slice of the hidden width staged at a point: the point's own for a tile in use, else the last. -/
def slice (i : grid0.Coords) : ℕ := if live m i then (i 1).val else 10

theorem i0_lt (i : grid0.Coords) : (i 0).val < 93 := (i 0).isLt
theorem i1_lt (i : grid0.Coords) : (i 1).val < 11 := (i 1).isLt

theorem toNat_ofNat_small (n : ℕ) (h : n < 2 ^ 32) : (BitVec.ofNat 32 n).toNat = n := by
  rw [BitVec.toNat_ofNat]; exact Nat.mod_eq_of_lt h

theorem exp_read (i : grid0.Coords) :
    (tbl m).at 0 (Rect.unit (s := S93) ![(Scalar.indexCast (BitVec.ofNat 32 (i 0).val)).toNat] S1.size (k0_off1_inb i)) numel1_S1 = tileExp m (i 0) := by
  unfold tileExp Pipeline.Prefetch.Contents.at
  refine congrArg (tbl m 0) (funext fun (a : Fin 1) => ?_)
  obtain rfl : a = 0 := Subsingleton.elim _ _
  apply Fin.ext
  show (BitVec.ofNat 32 (i 0).val).toNat + 1 * 0 = (i 0).val
  rw [toNat_ofNat_small _ (by have := i0_lt i; omega)]; rfl

theorem used_read : (tbl m).at 1 (Rect.unit (s := S1) ![0] S1.size inb_S1_S1_0) numel1_S1 = nUsed m :=
  congrArg (tbl m 1) (one_index _ _)

theorem live_iff (i : grid0.Coords) : live m i ↔ Scalar.cmpi .slt (BitVec.ofNat 32 (i 0).val) (nUsed m) = 1#1 := by
  unfold live k0_cond2
  generalize hb : Scalar.cmpi .slt (BitVec.ofNat 32 (i 0).val) (nUsed m) = b
  show Scalar.cmpi .ne (Scalar.extui (Scalar.cmpi .slt (BitVec.ofNat 32 (i 0).val) (nUsed m))) 0#32 = 1#1 ↔ _
  rw [hb]; clear hb; revert b; decide

theorem slice_read (i : grid0.Coords) :
    Scalar.select (Scalar.cmpi .slt (BitVec.ofNat 32 (i 0).val) (nUsed m)) (BitVec.ofNat 32 (i 1).val) (10#32 : BitVec 32) = BitVec.ofNat 32 (slice m i) := by
  unfold slice Scalar.select
  by_cases h : live m i
  · rw [if_pos h]; exact if_pos ((live_iff m i).mp h)
  · rw [if_neg h]; exact if_neg (fun h' => h ((live_iff m i).mpr h'))

theorem slice_lt (i : grid0.Coords) : slice m i < 11 := by
  unfold slice; split
  · exact i1_lt i
  · decide

theorem slice_word (i : grid0.Coords) : (BitVec.ofNat 32 (slice m i)).toNat = slice m i :=
  toNat_ofNat_small _ (by have := slice_lt m i; omega)

theorem index_1 (i : grid0.Coords) : ix0 (tbl m) 1 i = ![(tileExp m (i 0)).toNat, 0, slice m i] := by
  show ![((tbl m).at 0 (Rect.unit (s := S93) ![(Scalar.indexCast (BitVec.ofNat 32 (i 0).val)).toNat] S1.size (k0_off1_inb i)) numel1_S1 : BitVec 32).toNat, (0#32 : BitVec 32).toNat,
    (Scalar.select (Scalar.cmpi .slt (BitVec.ofNat 32 (i 0).val) ((tbl m).at 1 (Rect.unit (s := S1) ![0] S1.size inb_S1_S1_0) numel1_S1)) (BitVec.ofNat 32 (i 1).val) (10#32 : BitVec 32)).toNat] = _
  rw [exp_read, used_read, slice_read, slice_word]; rfl

theorem index_2 (i : grid0.Coords) : ix0 (tbl m) 2 i = ![(tileExp m (i 0)).toNat, 0, 11 + slice m i] := by
  show ![((tbl m).at 0 (Rect.unit (s := S93) ![(Scalar.indexCast (BitVec.ofNat 32 (i 0).val)).toNat] S1.size (k0_off1_inb i)) numel1_S1 : BitVec 32).toNat, (0#32 : BitVec 32).toNat,
    (11#32 + Scalar.select (Scalar.cmpi .slt (BitVec.ofNat 32 (i 0).val) ((tbl m).at 1 (Rect.unit (s := S1) ![0] S1.size inb_S1_S1_0) numel1_S1)) (BitVec.ofNat 32 (i 1).val) (10#32 : BitVec 32)).toNat] = _
  rw [exp_read, used_read, slice_read, BitVec.toNat_add, slice_word,
    show ((11#32 : BitVec 32).toNat + slice m i) % 2 ^ 32 = 11 + slice m i from Nat.mod_eq_of_lt (by have := slice_lt m i; show 11 + slice m i < _; omega)]; rfl

theorem index_3 (i : grid0.Coords) : ix0 (tbl m) 3 i = ![(tileExp m (i 0)).toNat, slice m i, 0] := by
  show ![((tbl m).at 0 (Rect.unit (s := S93) ![(Scalar.indexCast (BitVec.ofNat 32 (i 0).val)).toNat] S1.size (k0_off1_inb i)) numel1_S1 : BitVec 32).toNat,
    (Scalar.select (Scalar.cmpi .slt (BitVec.ofNat 32 (i 0).val) ((tbl m).at 1 (Rect.unit (s := S1) ![0] S1.size inb_S1_S1_0) numel1_S1)) (BitVec.ofNat 32 (i 1).val) (10#32 : BitVec 32)).toNat, (0#32 : BitVec 32).toNat] = _
  rw [exp_read, used_read, slice_read, slice_word]; rfl

/-- The row block staged at a point: at most the point's tile, and that tile when it is in use. -/
def rowTile (i : grid0.Coords) : ℕ :=
  (Scalar.minsi (BitVec.ofNat 32 (i 0).val) (Scalar.maxsi (Scalar.subi (nUsed m) 1#32) 0#32)).toNat

theorem index_0 (i : grid0.Coords) : ix0 (tbl m) 0 i = ![rowTile m i, 0] := by
  show ![(Scalar.minsi (BitVec.ofNat 32 (i 0).val) (Scalar.maxsi (Scalar.subi ((tbl m).at 1 (Rect.unit (s := S1) ![0] S1.size inb_S1_S1_0) numel1_S1) 1#32) 0#32)).toNat, (0#32 : BitVec 32).toNat] = _
  rw [used_read]; rfl

theorem max_zero (w : BitVec 32) : (Scalar.maxsi w 0#32).toInt = max w.toInt 0 := by
  unfold Scalar.maxsi IntOp.maxsi
  have h0 : (0#32 : BitVec 32).toInt = 0 := by decide
  split <;> rename_i h <;> simp only [BitVec.slt, h0, decide_eq_true_eq] at h
  · omega
  · rw [h0]; omega

theorem rowTile_le (i : grid0.Coords) : rowTile m i < 93 := by
  unfold rowTile Scalar.minsi IntOp.minsi
  have h0 := i0_lt i
  have ei : (BitVec.ofNat 32 (i 0).val).toInt = (i 0).val := StableHlo.Predicate.toInt_ofNat_small _ (by omega)
  have hm := max_zero (Scalar.subi (nUsed m) 1#32)
  generalize Scalar.maxsi (Scalar.subi (nUsed m) 1#32) 0#32 = w at hm ⊢
  split <;> rename_i h <;> simp only [BitVec.slt, ei, decide_eq_true_eq] at h
  · rw [toNat_ofNat_small _ (by omega)]; exact h0
  · have hw := BitVec.toInt_eq_toNat_cond w
    have := w.isLt
    split at hw <;> omega

theorem rowTile_live (i : grid0.Coords) (h : live m i) : rowTile m i = (i 0).val := by
  have hl := (live_iff m i).mp h
  unfold rowTile Scalar.minsi IntOp.minsi
  have h0 := i0_lt i
  have ei : (BitVec.ofNat 32 (i 0).val).toInt = (i 0).val := StableHlo.Predicate.toInt_ofNat_small _ (by omega)
  unfold Scalar.cmpi IntOp.cmpi at hl
  simp only [BitVec.slt, ei, StableHlo.Predicate.ofBool_eq_one_iff, decide_eq_true_eq] at hl
  have hm := max_zero (Scalar.subi (nUsed m) 1#32)
  have hs : (Scalar.subi (nUsed m) 1#32).toInt = (nUsed m).toInt - 1 := by
    show (nUsed m - 1#32).toInt = _
    have := BitVec.toInt_lt (x := nUsed m)
    rw [BitVec.toInt_sub, show (1#32 : BitVec 32).toInt = 1 from by decide]
    rw [Int.bmod_def]; omega
  generalize Scalar.maxsi (Scalar.subi (nUsed m) 1#32) 0#32 = w at hm ⊢
  split <;> rename_i h' <;> simp only [BitVec.slt, ei, decide_eq_true_eq] at h'
  · exact toNat_ofNat_small _ (by omega)
  · have hw := BitVec.toInt_eq_toNat_cond w
    have := w.isLt
    split at hw <;> omega

/-- Experts in range name blocks inside their arrays. -/
theorem ok_of_experts (h : ∀ k, (tileExp m k).toNat < 8) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have e := congrFun (index_0 m i) a
    have hr := rowTile_le m i
    refine le_of_eq_of_le (congrArg (fun n => (n + 1) * S768x2048.size a) e) ?_
    match a with
    | ⟨0, _⟩ => show (rowTile m i + 1) * 768 ≤ 71424; omega
    | ⟨1, _⟩ => show (0 + 1) * 2048 ≤ 2048; omega
  · have e := congrFun (index_1 m i) a
    have he := h (i 0)
    have hs := slice_lt m i
    refine le_of_eq_of_le (congrArg (fun n => (n + 1) * S1x2048x512.size a) e) ?_
    match a with
    | ⟨0, _⟩ => show ((tileExp m (i 0)).toNat + 1) * 1 ≤ 8; omega
    | ⟨1, _⟩ => show (0 + 1) * 2048 ≤ 2048; omega
    | ⟨2, _⟩ => show (slice m i + 1) * 512 ≤ 11264; omega
  · have e := congrFun (index_2 m i) a
    have he := h (i 0)
    have hs := slice_lt m i
    refine le_of_eq_of_le (congrArg (fun n => (n + 1) * S1x2048x512.size a) e) ?_
    match a with
    | ⟨0, _⟩ => show ((tileExp m (i 0)).toNat + 1) * 1 ≤ 8; omega
    | ⟨1, _⟩ => show (0 + 1) * 2048 ≤ 2048; omega
    | ⟨2, _⟩ => show (11 + slice m i + 1) * 512 ≤ 11264; omega
  · have e := congrFun (index_3 m i) a
    have he := h (i 0)
    have hs := slice_lt m i
    refine le_of_eq_of_le (congrArg (fun n => (n + 1) * S1x512x2048.size a) e) ?_
    match a with
    | ⟨0, _⟩ => show ((tileExp m (i 0)).toNat + 1) * 1 ≤ 8; omega
    | ⟨1, _⟩ => show (slice m i + 1) * 512 ≤ 5632; omega
    | ⟨2, _⟩ => show (0 + 1) * 2048 ≤ 2048; omega

end Cert.MoeIdeal.Gen

end
-- ==== Proof.ExpertsPre.lean ====
module

public import proofs.«01_k».proof.Proof.Gen.Pre_experts
public import proofs.«01_k».proof.Proof.MoeTables
public import proofs.«01_k».proof.Proof.MoeIdealTables
public import proofs.«01_k».proof.Proof.Gen.MoeRefIdeal.Run
public import proofs.«01_k».proof.Defs
public import Idealize.ShloMosaic.Lib.ReduceAll

@[expose] public section

noncomputable section

namespace Cert.Experts

open Idealize.ShloMosaic Idealize.SL.Sem TcCoe

/-- The precondition at an entry: a tile's expert is one of the eight. -/
theorem small {F : FTy → Type} [FloatOps F] (x0 : IVec Pre_experts.S93 32) (x1 : IVec Pre_experts.S1 32) (x2 : FVec F Pre_experts.S71424x2048 .bf16) (x3 : FVec F Pre_experts.S8x2048x11264 .bf16) (x4 : FVec F Pre_experts.S8x5632x2048 .bf16)
    (h : Pre_experts.fn x0 x1 x2 x3 x4 = fun _ => 1#1) (k : Pre_experts.S93.Idx) : (x0 k).toNat < 8 := by
  haveI : Subsingleton Pre_experts.S_.Idx := ⟨fun a b => funext fun (i : Fin 0) => i.elim0⟩
  have e := congrFun h (fun (i : Fin 0) => i.elim0)
  have hk := Host.reduce_andi_all _ _ _ _ _ e k
  obtain ⟨hge, hlt⟩ := IntOp.andi_eq_one.mp hk
  change IntOp.cmpi .sge (x0 k) 0#32 = 1#1 at hge
  change IntOp.cmpi .slt (x0 k) 8#32 = 1#1 at hlt
  unfold IntOp.cmpi at hge hlt
  simp only [BitVec.sle, BitVec.slt, StableHlo.Predicate.ofBool_eq_one_iff, decide_eq_true_eq, show (0#32 : BitVec 32).toInt = 0 from by decide, show (8#32 : BitVec 32).toInt = 8 from by decide] at hge hlt
  have hw := BitVec.toInt_eq_toNat_cond (x0 k)
  have := (x0 k).isLt
  split at hw <;> omega

theorem ok_Moe (m : (ℓ : Loc Cert.Moe.nD Cert.Moe.τ Cert.Moe.sig) → Buf (Elt Bits) ℓ) (h : Cert.Pre_Moe m) : Cert.Moe.Gen.Ok m :=
  Cert.Moe.Gen.ok_of_experts m fun k => small _ _ _ _ _ (h 0) _

theorem exp_lt (m : (ℓ : Loc Cert.MoeIdeal.nD Cert.MoeIdeal.τ Cert.MoeIdeal.sig) → Buf (Elt Ideal) ℓ) (h : Cert.Pre_MoeIdeal m) (k : Fin 93) :
    (Cert.MoeIdeal.Gen.tileExp m k).toNat < 8 := small _ _ _ _ _ (h 0) _

theorem ok_MoeIdeal (m : (ℓ : Loc Cert.MoeIdeal.nD Cert.MoeIdeal.τ Cert.MoeIdeal.sig) → Buf (Elt Ideal) ℓ) (h : Cert.Pre_MoeIdeal m) : Cert.MoeIdeal.Gen.Ok m :=
  Cert.MoeIdeal.Gen.ok_of_experts m (exp_lt m h)

theorem frame_Moe : Cert.quiescent_Moe := fun m g h => Cert.Moe.Gen.frame m g (ok_Moe m h)
theorem frame_MoeIdeal : Cert.quiescent_MoeIdeal := fun m g h => Cert.MoeIdeal.Gen.frame m g (ok_MoeIdeal m h)
theorem frame_MoeRefIdeal : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run (F := Ideal) m g)
theorem frame_MoeRefIdeal_pre : Cert.quiescent_MoeRefIdeal_pre_experts := fun m g _ =>
  (θ_run Cert.MoeRefIdeal.defs _ _).mono (fun r h => ⟨fun c => (h c).2, sem_eq_zero_of_no_sems (by decide) r.2⟩)
    (Cert.MoeRefIdeal.Value.run (F := Ideal) m g)

end Cert.Experts

end
-- ==== Proof.MoeSum.lean ====
module
public import Idealize.ShloMosaic.Lib.Pipeline.ValueKit
@[expose] public section
noncomputable section
open Idealize.ShloMosaic
namespace Cert.Experts
open scoped BigOperators
/-! A row through one expert: a gated hidden layer and its second weights, over all hidden columns or slice by slice. -/

variable (X : Fin 71424 → Fin 2048 → EReal) (W : Fin 8 → Fin 2048 → Fin 11264 → EReal) (O : Fin 8 → Fin 5632 → Fin 2048 → EReal)

/-- A row against a column of an expert's first weights. -/
def lin (e : Fin 8) (r : Fin 71424) (j : Fin 11264) : EReal := ∑ k : Fin 2048, X r k * W e k j

/-- The share of a hidden column in an entry of the result. -/
def share (e : Fin 8) (r : Fin 71424) (n : Fin 2048) (j : Fin 5632) : EReal :=
  lin X W e r ⟨j.val, by omega⟩ * Ideal.logistic (lin X W e r ⟨j.val, by omega⟩) * lin X W e r ⟨5632 + j.val, by omega⟩ * O e j n

/-- An entry of the result of a row. -/
def ffn (e : Fin 8) (r : Fin 71424) (n : Fin 2048) : EReal := ∑ j : Fin 5632, share X W O e r n j

/-- The shares by number, none past the last column. -/
def shareN (e : Fin 8) (r : Fin 71424) (n : Fin 2048) (j : ℕ) : EReal := if h : j < 5632 then share X W O e r n ⟨j, h⟩ else 0

/-- The shares of the first slices, one slice more at a time, up to all of them. -/
def part (e : Fin 8) (r : Fin 71424) (n : Fin 2048) (f : ℕ) : EReal := ∑ j ∈ Finset.range (f * 512), shareN X W O e r n j

theorem part_zero (e r n) : part X W O e r n 0 = 0 := by simp [part]

theorem part_succ (e r n) (f : ℕ) (hf : f < 11) :
    part X W O e r n (f + 1) = part X W O e r n f + ∑ j : Fin 512, share X W O e r n ⟨f * 512 + j.val, by omega⟩ := by
  unfold part
  rw [Nat.succ_mul, Finset.sum_range_add, Finset.sum_range (n := 512)]
  exact congrArg (_ + ·) (Finset.sum_congr rfl fun j _ => dif_pos (by omega))

theorem part_all (e r n) : part X W O e r n 11 = ffn X W O e r n := by
  unfold part ffn
  rw [Finset.sum_range]
  exact Finset.sum_congr rfl fun j _ => dif_pos j.isLt

/-- An entry of the result: of the expert of its row's tile, nothing for a tile not in use. -/
def routed (ex : Fin 93 → Fin 8) (nv : BitVec 32) (r : Fin 71424) (n : Fin 2048) : EReal :=
  if IntOp.cmpi .slt (BitVec.ofNat 32 (r.val / 768)) nv = 1#1 then ffn X W O (ex ⟨r.val / 768, by omega⟩) r n else 0
end Cert.Experts
-- ==== Proof.MoeIdealValue.lean ====
module
public import proofs.«01_k».proof.Proof.MoeIdealTables
public import proofs.«01_k».proof.Proof.MoeSum
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.MoeIdeal.Value
open Cert.MoeIdeal Cert.MoeIdeal.Gen Cert.Experts
open scoped BigOperators
/-! The result array of the experts' kernel. -/

theorem pay1_at (r : Fin 768) (n : Fin 2048) : (k0_pay1 (F := Ideal)) (ix2 r n) = (0 : EReal) := by
  pointwise [k0_pay1]

/-- A slice's share added to an entry. -/
theorem addSlice_at (x0 : Vec Ideal S768x2048 .bf16) (x1 x2 : Vec Ideal S1x2048x512 .bf16) (x3 : Vec Ideal S1x512x2048 .bf16) (o : Vec Ideal S768x2048 .f32) (r : Fin 768) (n : Fin 2048) :
    addSlice x0 x1 x2 x3 o (ix2 r n) = o (ix2 r n) + ∑ j : Fin 512, (∑ k : Fin 2048, (x0 (ix2 r k) : EReal) * x1 (ix3 (0 : Fin 1) k j)) * Ideal.logistic (∑ k : Fin 2048, (x0 (ix2 r k) : EReal) * x1 (ix3 (0 : Fin 1) k j))
      * (∑ k : Fin 2048, (x0 (ix2 r k) : EReal) * x2 (ix3 (0 : Fin 1) k j)) * x3 (ix3 (0 : Fin 1) j n) := by
  pointwise [addSlice, k0_pay2]

variable (m : (ℓ : Loc nD τ sig) → Buf (Elt Ideal) ℓ) (hO : Ok m) (c : Dev nD)

abbrev argX : FVec Ideal S71424x2048 .bf16 := m ((c.tc : Thread nD τ).loc main_arg2)
abbrev argW : FVec Ideal S8x2048x11264 .bf16 := m ((c.tc : Thread nD τ).loc main_arg3)
abbrev argO : FVec Ideal S8x5632x2048 .bf16 := m ((c.tc : Thread nD τ).loc main_arg4)

/-! The blocks of a point, entry by entry. -/
theorem x_at (t : Fin grid0.N) (r : Fin 768) (k : Fin 2048) (R : Fin 71424) (hR : R.val = rowTile m (grid0.coords t) * 768 + r.val) :
    (iblk m hO c 0 t : Vec Ideal S768x2048 .bf16) (ix2 r k) = argX m c (ix2 R k) := by
  refine congrArg (argX m c) (funext fun a => Fin.ext ?_)
  refine (Pipeline.Window.rect_emb_val ((cfgM m hO).win 0) t (ix2 r k) a).trans ?_
  have e : ((cfgM m hO).win 0).index t = ![rowTile m (grid0.coords t), 0] := index_0 m (grid0.coords t)
  rw [e]
  match a with
  | ⟨0, _⟩ => exact hR.symm
  | ⟨1, _⟩ => exact Nat.zero_add _

theorem w_at (t : Fin grid0.N) (k : Fin 2048) (j : Fin 512) (e : Fin 8) (J : Fin 11264) (he : e.val = (tileExp m (grid0.coords t 0)).toNat)
    (hJ : J.val = slice m (grid0.coords t) * 512 + j.val) :
    (iblk m hO c 1 t : Vec Ideal S1x2048x512 .bf16) (ix3 (0 : Fin 1) k j) = argW m c (ix3 e k J) := by
  refine congrArg (argW m c) (funext fun a => Fin.ext ?_)
  refine (Pipeline.Window.rect_emb_val ((cfgM m hO).win 1) t (ix3 (0 : Fin 1) k j) a).trans ?_
  have e' : ((cfgM m hO).win 1).index t = ![(tileExp m (grid0.coords t 0)).toNat, 0, slice m (grid0.coords t)] := index_1 m (grid0.coords t)
  rw [e']
  match a with
  | ⟨0, _⟩ => exact (Nat.mul_one _).trans he.symm
  | ⟨1, _⟩ => exact Nat.zero_add _
  | ⟨2, _⟩ => exact hJ.symm

theorem u_at (t : Fin grid0.N) (k : Fin 2048) (j : Fin 512) (e : Fin 8) (J : Fin 11264) (he : e.val = (tileExp m (grid0.coords t 0)).toNat)
    (hJ : J.val = (11 + slice m (grid0.coords t)) * 512 + j.val) :
    (iblk m hO c 2 t : Vec Ideal S1x2048x512 .bf16) (ix3 (0 : Fin 1) k j) = argW m c (ix3 e k J) := by
  refine congrArg (argW m c) (funext fun a => Fin.ext ?_)
  refine (Pipeline.Window.rect_emb_val ((cfgM m hO).win 2) t (ix3 (0 : Fin 1) k j) a).trans ?_
  have e' : ((cfgM m hO).win 2).index t = ![(tileExp m (grid0.coords t 0)).toNat, 0, 11 + slice m (grid0.coords t)] := index_2 m (grid0.coords t)
  rw [e']
  match a with
  | ⟨0, _⟩ => exact (Nat.mul_one _).trans he.symm
  | ⟨1, _⟩ => exact Nat.zero_add _
  | ⟨2, _⟩ => exact hJ.symm

theorem o_at (t : Fin grid0.N) (j : Fin 512) (n : Fin 2048) (e : Fin 8) (J : Fin 5632) (he : e.val = (tileExp m (grid0.coords t 0)).toNat)
    (hJ : J.val = slice m (grid0.coords t) * 512 + j.val) :
    (iblk m hO c 3 t : Vec Ideal S1x512x2048 .bf16) (ix3 (0 : Fin 1) j n) = argO m c (ix3 e J n) := by
  refine congrArg (argO m c) (funext fun a => Fin.ext ?_)
  refine (Pipeline.Window.rect_emb_val ((cfgM m hO).win 3) t (ix3 (0 : Fin 1) j n) a).trans ?_
  have e' : ((cfgM m hO).win 3).index t = ![(tileExp m (grid0.coords t 0)).toNat, slice m (grid0.coords t), 0] := index_3 m (grid0.coords t)
  rw [e']
  match a with
  | ⟨0, _⟩ => exact (Nat.mul_one _).trans he.symm
  | ⟨1, _⟩ => exact hJ.symm
  | ⟨2, _⟩ => exact Nat.zero_add _

theorem c0_val (t : Fin grid0.N) : (grid0.coords t 0).val = t.val / 11 % 93 := Pipeline.Grid.coords_val t 0 (by decide) rfl
theorem c1_val (t : Fin grid0.N) : (grid0.coords t 1).val = t.val / 1 % 11 := Pipeline.Grid.coords_val t 1 (by decide) rfl

/-! The arguments by coordinates, a tile's expert. -/
def fX (r : Fin 71424) (k : Fin 2048) : EReal := argX m c (ix2 r k)
def fW (e : Fin 8) (k : Fin 2048) (j : Fin 11264) : EReal := argW m c (ix3 e k j)
def fO (e : Fin 8) (j : Fin 5632) (n : Fin 2048) : EReal := argO m c (ix3 e j n)

/-- The rows a tile's block is written to. -/
theorem idx4 (t : Fin (cfgM m hO).N) : ((cfgM m hO).win 4).index t = ![t.val / 11, 0] := by
  have hN : t.val < 1023 := Nat.lt_of_lt_of_eq t.isLt N_0
  have e := c0_val t
  show ![(BitVec.ofNat 32 (grid0.coords t 0).val).toNat, (0#32 : BitVec 32).toNat] = _
  rw [e, toNat_ofNat_small _ (by omega), Nat.mod_eq_of_lt (by omega)]; rfl

variable (ex : Fin 93 → Fin 8) (hex : ∀ k, (ex k).val = (tileExp m k).toNat)

/-- The tile of a point, and the row of the arrays a row of its block is. -/
def tileOf (t : Fin grid0.N) : Fin 93 := grid0.coords t 0
def rowOf (t : Fin grid0.N) (r : Fin 768) : Fin 71424 := ⟨(tileOf t).val * 768 + r.val, by have := (tileOf t).isLt; omega⟩

include hex
/-- A live point's step adds the shares of its slice. -/
theorem step_live (t : Fin grid0.N) (hl : live m (grid0.coords t)) (r : Fin 768) (n : Fin 2048) (o : Vec Ideal S768x2048 .f32) :
    addSlice (iblk m hO c 0 t) (iblk m hO c 1 t) (iblk m hO c 2 t) (iblk m hO c 3 t) o (ix2 r n)
      = o (ix2 r n) + ∑ j : Fin 512, share (fX m c) (fW m c) (fO m c) (ex (tileOf t)) (rowOf t r) n ⟨t.val % 11 * 512 + j.val, by omega⟩ := by
  refine (addSlice_at _ _ _ _ o r n).trans (congrArg (_ + ·) (Finset.sum_congr rfl fun j _ => ?_))
  have hs : slice m (grid0.coords t) = t.val % 11 := by
    unfold slice; rw [if_pos hl, c1_val, Nat.div_one]
  have hx : ∀ k, (iblk m hO c 0 t : Vec Ideal S768x2048 .bf16) (ix2 r k) = fX m c (rowOf t r) k := fun k =>
    x_at m hO c t r k (rowOf t r) (by rw [rowTile_live m _ hl]; rfl)
  have hw : ∀ k, (iblk m hO c 1 t : Vec Ideal S1x2048x512 .bf16) (ix3 (0 : Fin 1) k j) = fW m c (ex (tileOf t)) k ⟨t.val % 11 * 512 + j.val, by omega⟩ := fun k =>
    w_at m hO c t k j _ _ (hex _) (by rw [hs])
  have hu : ∀ k, (iblk m hO c 2 t : Vec Ideal S1x2048x512 .bf16) (ix3 (0 : Fin 1) k j) = fW m c (ex (tileOf t)) k ⟨5632 + (t.val % 11 * 512 + j.val), by omega⟩ := fun k =>
    u_at m hO c t k j _ _ (hex _) (by rw [hs]; show 5632 + (t.val % 11 * 512 + j.val) = _; omega)
  have ho : (iblk m hO c 3 t : Vec Ideal S1x512x2048 .bf16) (ix3 (0 : Fin 1) j n) = fO m c (ex (tileOf t)) ⟨t.val % 11 * 512 + j.val, by omega⟩ n :=
    o_at m hO c t j n _ _ (hex _) (by rw [hs])
  unfold share lin
  simp only [hx, hw, hu, ho]

omit hex in
theorem live_tile (t : Fin grid0.N) : live m (grid0.coords t) ↔ IntOp.cmpi .slt (BitVec.ofNat 32 (tileOf t).val) (nUsed m) = 1#1 := live_iff m _

/-- A point's step, entry by entry. -/
theorem step_at (t : Fin grid0.N) (r : Fin 768) (n : Fin 2048) (o : Vec Ideal S768x2048 .f32) :
    stepBlk m hO c t o (ix2 r n)
      = (if t.val % 11 = 0 then 0 else o (ix2 r n)) + if live m (grid0.coords t) then ∑ j : Fin 512, share (fX m c) (fW m c) (fO m c) (ex (tileOf t)) (rowOf t r) n ⟨t.val % 11 * 512 + j.val, by omega⟩ else 0 := by
  have hs : (if start (grid0.coords t) then (k0_pay1 (F := Ideal)) else o) (ix2 r n) = if t.val % 11 = 0 then (0 : EReal) else o (ix2 r n) := by
    by_cases h : t.val % 11 = 0
    · rw [if_pos h, if_pos ((start_iff t).mpr h)]; exact pay1_at r n
    · rw [if_neg h, if_neg fun h' => h ((start_iff t).mp h')]
  unfold stepBlk outBlk
  by_cases hl : live m (grid0.coords t)
  · rw [if_pos hl, if_pos hl]
    exact (step_live m hO c ex hex t hl r n _).trans (congrArg (· + _) hs)
  · rw [if_neg hl, if_neg hl, add_zero]
    exact hs

/-- The block after a point: the shares of the slices so far, nothing for a tile not in use. -/
theorem acc_at (q : Fin 93) (r : Fin 768) (n : Fin 2048) : ∀ (f : ℕ) (hf : f < 11) (t : Fin (cfgM m hO).N) (ht : t.val = q.val * 11 + f),
    acc m hO c t.val t.isLt (ix2 r n)
      = if IntOp.cmpi .slt (BitVec.ofNat 32 q.val) (nUsed m) = 1#1 then part (fX m c) (fW m c) (fO m c) (ex q) ⟨q.val * 768 + r.val, by omega⟩ n (f + 1) else 0 := by
  intro f
  induction f with
  | zero =>
    intro hf t ht
    have hq : tileOf t = q := Fin.ext ((c0_val t).trans (by omega))
    have hr : rowOf t r = ⟨q.val * 768 + r.val, by omega⟩ := Fin.ext (congrArg (fun k : Fin 93 => k.val * 768 + r.val) hq)
    rw [acc_start m hO c t (by omega) (k0_pay1 (F := Ideal))]
    refine (step_at m hO c ex hex t r n _).trans ?_
    rw [if_pos (by omega), zero_add, part_succ _ _ _ _ _ _ _ hf, part_zero, zero_add, hr]
    have hm : t.val % 11 = 0 := by omega
    have hl := live_tile m t
    rw [hq] at hl ⊢
    simp only [hm, hl]
  | succ f ih =>
    intro hf t ht
    have hq : tileOf t = q := Fin.ext ((c0_val t).trans (by omega))
    have hr : rowOf t r = ⟨q.val * 768 + r.val, by omega⟩ := Fin.ext (congrArg (fun k : Fin 93 => k.val * 768 + r.val) hq)
    rw [acc_next m hO c t (by omega)]
    refine (step_at m hO c ex hex t r n _).trans ?_
    have hi := ih (by omega) ⟨t.val - 1, Nat.lt_of_le_of_lt (Nat.sub_le _ _) t.isLt⟩ (by show t.val - 1 = _; omega)
    rw [if_neg (by omega), part_succ _ _ _ _ _ _ _ hf, hr]
    have hm : t.val % 11 = f + 1 := by omega
    have hl := live_tile m t
    rw [hq] at hl ⊢
    simp only [hm, hl]
    refine (congrArg (· + _) hi).trans ?_
    split
    · rfl
    · exact zero_add _

omit hex in
/-- The tiles' last points write every row. -/
theorem covers : ((cfgM m hO).win 4).Covers := by
  refine ⟨fun a => by match a with | ⟨0, _⟩ => exact (by decide : 0 < 768) | ⟨1, _⟩ => exact (by decide : 0 < 2048), fun β => ?_⟩
  have h0 : (β (0 : Fin 2)).val < 93 := lt_of_lt_of_eq (β (0 : Fin 2)).isLt (show ((71424 + 768 - 1) / 768 : ℕ) = 93 from rfl)
  have h1 : (β (1 : Fin 2)).val < 1 := lt_of_lt_of_eq (β (1 : Fin 2)).isLt (show ((2048 + 2048 - 1) / 2048 : ℕ) = 1 from rfl)
  refine ⟨⟨(β (0 : Fin 2)).val * 11 + 10, by show _ < grid0.N; rw [N_0]; omega⟩, (flush_iff (adm m hO) _).mpr (by show ((β (0 : Fin 2)).val * 11 + 10) % 11 = 10; omega), fun a => ⟨?_, .inl rfl⟩⟩
  have e := idx4 m hO ⟨(β (0 : Fin 2)).val * 11 + 10, by show _ < grid0.N; rw [N_0]; omega⟩
  refine (congrFun e a).trans ?_
  match a with
  | ⟨0, _⟩ => show ((β (0 : Fin 2)).val * 11 + 10) / 11 = (β (0 : Fin 2)).val; omega
  | ⟨1, _⟩ => show 0 = (β (1 : Fin 2)).val; omega

/-- The result array. -/
theorem final : (dats m hO 0 c).arrAt 4 (cfgM m hO).N = fun i : S71424x2048.Idx => routed (fX m c) (fW m c) (fO m c) ex (nUsed m) (i 0) (i 1) := by
  refine (dats m hO 0 c).arrAt_eq_of_covers 4 _ (covers m hO) fun t hf y => ?_
  have hm := (flush_iff (adm m hO) t).mp hf
  have hN : t.val < 1023 := Nat.lt_of_lt_of_eq t.isLt N_0
  obtain ⟨r, n, rfl⟩ : ∃ (r : Fin 768) (n : Fin 2048), y = ix2 r n := ⟨y (0 : Fin 2), y (1 : Fin 2), by funext a; match a with | ⟨0, _⟩ => rfl | ⟨1, _⟩ => rfl⟩
  have he : (((cfgM m hO).win 4).blk t).view.emb (ix2 r n) = ix2 (⟨t.val / 11 * 768 + r.val, by omega⟩ : Fin 71424) n := by
    funext a
    refine Fin.ext ((Pipeline.Window.rect_emb_val ((cfgM m hO).win 4) t (ix2 r n) a).trans ?_)
    rw [idx4]
    match a with
    | ⟨0, _⟩ => rfl
    | ⟨1, _⟩ => exact Nat.zero_add _
  rw [he, after_4]
  refine (acc_at m hO c ex hex ⟨t.val / 11, by omega⟩ r n 10 (by omega) t (by show t.val = t.val / 11 * 11 + 10; omega)).trans ?_
  rw [part_all]
  show _ = routed _ _ _ ex (nUsed m) ⟨t.val / 11 * 768 + r.val, by omega⟩ n
  unfold routed
  have hd : (t.val / 11 * 768 + r.val) / 768 = t.val / 11 := by omega
  simp only [hd]

end Cert.MoeIdeal.Value
-- ==== Proof.MoeRefRows.lean ====
module
public import proofs.«01_k».proof.Proof.Gen.MoeRefIdeal.Run
public import proofs.«01_k».proof.Proof.MoeSum
public import Idealize.ShloMosaic.Lib.Pipeline.ValueKit
public import Idealize.ShloMosaic.Lib.Routing.Words
public import Idealize.ShloMosaic.Lib.Routing.OpsSet
@[expose] public section
set_option maxRecDepth 16384
noncomputable section
open Idealize.ShloMosaic Idealize.ShloMosaic.TcCoe Idealize.SL.Sem
namespace Cert.MoeRefIdeal.Value
open Cert.MoeRefIdeal Cert.MoeRefIdeal.Gen Cert.Experts
open scoped BigOperators
/-! The reference: every row through every expert, each expert's result times its gate. -/

/-- A row's tile. -/
def refTile : IVec S71424 32 :=
  select (andi (cmpi .ne (signi (iotaInDim S71424 32 0)) (broadcastInDim S71424 ![] bcast_S_S71424 (signi (id (constantI S_ 32 768#32))))) (cmpi .ne (Host.remsi (iotaInDim S71424 32 0) (broadcastInDim S71424 ![] bcast_S_S71424 (id (constantI S_ 32 768#32)))) (broadcastInDim S71424 ![] bcast_S_S71424 (constantI S_ 32 0#32)))) (subi (Host.divsi (iotaInDim S71424 32 0) (broadcastInDim S71424 ![] bcast_S_S71424 (id (constantI S_ 32 768#32)))) (broadcastInDim S71424 ![] bcast_S_S71424 (constantI S_ 32 1#32))) (Host.divsi (iotaInDim S71424 32 0) (broadcastInDim S71424 ![] bcast_S_S71424 (id (constantI S_ 32 768#32))))
/-- Its place in the table of experts. -/
def refPlace (T : IVec S71424 32) : IVec S71424 32 :=
  select (cmpi .slt T (broadcastInDim S71424 ![] bcast_S_S71424 (constantI S_ 32 0#32))) (addi T (broadcastInDim S71424 ![] bcast_S_S71424 (constantI S_ 32 93#32))) T
/-- Its expert. -/
def refExp (E : IVec S93 32) (P : IVec S71424 32) : IVec S71424 32 :=
  Host.gather gather_S93_S71424x1_S71424_n_0_n_n_0_1_1 E (broadcastInDim S71424x1 ![0] bcast_S71424_S71424x1_0 P)
/-- The gates: one at a row's expert for a row in use, else zero. -/
def refGate (T G : IVec S71424 32) (N : IVec S1 32) : FVec Ideal S71424x8 .f32 :=
  mulf (uitofp .f32 (cmpi .eq (broadcastInDim S71424x8 ![0, 1] bcast_S71424x1_S71424x8_0_1 (broadcastInDim S71424x1 ![0] bcast_S71424_S71424x1_0 G)) (broadcastInDim S71424x8 ![0, 1] bcast_S1x8_S71424x8_0_1 (iotaInDim S1x8 32 1)))) (broadcastInDim S71424x8 ![0, 1] bcast_S71424x1_S71424x8_0_1 (uitofp .f32 (broadcastInDim S71424x1 ![0] bcast_S71424_S71424x1_0 (cmpi .slt T (broadcastInDim S71424 ![] bcast_S_S71424 (shapeCast _ N shapeCasts_S1_S_))))))
/-- The rows against an expert's first weights. -/
def refLin (X : FVec Ideal S71424x2048 .bf16) (W : FVec Ideal S8x2048x11264 .bf16) (e : ℕ) (h : S8x2048x11264.Slices ![e, 0, 0] S1x2048x11264) : FVec Ideal S71424x11264 .f32 :=
  Host.dotGeneral dot_S71424x2048_S2048x11264_S71424x11264_1_0_0_1_n_n none (extf .f32 X bitsLt_bf16_f32) (extf .f32 (shapeCast _ (extractStridedSlice S1x2048x11264 ![e, 0, 0] W h) shapeCasts_S1x2048x11264_S2048x11264) bitsLt_bf16_f32)
/-- The gated hidden layer against its second weights. -/
def refOut (L : FVec Ideal S71424x11264 .f32) (O : FVec Ideal S8x5632x2048 .bf16) (e : ℕ) (h : S8x5632x2048.Slices ![e, 0, 0] S1x5632x2048) : FVec Ideal S71424x2048 .f32 :=
  Host.dotGeneral dot_S71424x5632_S5632x2048_S71424x2048_1_0_0_1_n_n none (mulf (mulf (extractStridedSlice S71424x5632 ![0, 0] L slices_S71424x11264_S71424x5632_0_0) (Host.divf (broadcastInDim S71424x5632 ![] bcast_S_S71424x5632 (constant S_ .f32 0x3F800000#32)) (addf (broadcastInDim S71424x5632 ![] bcast_S_S71424x5632 (constant S_ .f32 0x3F800000#32)) (Host.exp (Host.negf (extractStridedSlice S71424x5632 ![0, 0] L slices_S71424x11264_S71424x5632_0_0)))))) (extractStridedSlice S71424x5632 ![0, 5632] L slices_S71424x11264_S71424x5632_0_5632)) (extf .f32 (shapeCast _ (extractStridedSlice S1x5632x2048 ![e, 0, 0] O h) shapeCasts_S1x5632x2048_S5632x2048) bitsLt_bf16_f32)
/-- One expert's gated result. -/
def refOne (A : FVec Ideal S71424x8 .f32) (X : FVec Ideal S71424x2048 .bf16) (W : FVec Ideal S8x2048x11264 .bf16) (O : FVec Ideal S8x5632x2048 .bf16) (e : ℕ)
    (hA : S71424x8.Slices ![0, e] S71424x1) (hW : S8x2048x11264.Slices ![e, 0, 0] S1x2048x11264) (hO : S8x5632x2048.Slices ![e, 0, 0] S1x5632x2048) : FVec Ideal S71424x2048 .f32 :=
  mulf (broadcastInDim S71424x2048 ![0, 1] bcast_S71424x1_S71424x2048_0_1 (extractStridedSlice S71424x1 ![0, e] A hA)) (refOut (refLin X W e hW) O e hO)
/-- The sum of the eight. -/
def refSum (A : FVec Ideal S71424x8 .f32) (X : FVec Ideal S71424x2048 .bf16) (W : FVec Ideal S8x2048x11264 .bf16) (O : FVec Ideal S8x5632x2048 .bf16) : FVec Ideal S71424x2048 .f32 :=
  addf (addf (addf (addf (addf (addf (addf
    (refOne A X W O 0 slices_S71424x8_S71424x1_0_0 slices_S8x2048x11264_S1x2048x11264_0_0_0 slices_S8x5632x2048_S1x5632x2048_0_0_0)
    (refOne A X W O 1 slices_S71424x8_S71424x1_0_1 slices_S8x2048x11264_S1x2048x11264_1_0_0 slices_S8x5632x2048_S1x5632x2048_1_0_0))
    (refOne A X W O 2 slices_S71424x8_S71424x1_0_2 slices_S8x2048x11264_S1x2048x11264_2_0_0 slices_S8x5632x2048_S1x5632x2048_2_0_0))
    (refOne A X W O 3 slices_S71424x8_S71424x1_0_3 slices_S8x2048x11264_S1x2048x11264_3_0_0 slices_S8x5632x2048_S1x5632x2048_3_0_0))
    (refOne A X W O 4 slices_S71424x8_S71424x1_0_4 slices_S8x2048x11264_S1x2048x11264_4_0_0 slices_S8x5632x2048_S1x5632x2048_4_0_0))
    (refOne A X W O 5 slices_S71424x8_S71424x1_0_5 slices_S8x2048x11264_S1x2048x11264_5_0_0 slices_S8x5632x2048_S1x5632x2048_5_0_0))
    (refOne A X W O 6 slices_S71424x8_S71424x1_0_6 slices_S8x2048x11264_S1x2048x11264_6_0_0 slices_S8x5632x2048_S1x5632x2048_6_0_0))
    (refOne A X W O 7 slices_S71424x8_S71424x1_0_7 slices_S8x2048x11264_S1x2048x11264_7_0_0 slices_S8x5632x2048_S1x5632x2048_7_0_0)
/-- The whole reference. -/
def refAll (E : IVec S93 32) (N : IVec S1 32) (X : FVec Ideal S71424x2048 .bf16) (W : FVec Ideal S8x2048x11264 .bf16) (O : FVec Ideal S8x5632x2048 .bf16) : FVec Ideal S71424x2048 .f32 :=
  refSum (refGate refTile (refExp E (refPlace refTile)) N) X W O

theorem tile_at (r : Fin 71424) : refTile (ix1 r) = BitVec.ofNat 32 (r.val / 768) :=
  Routing.pyDiv_ap (s := S71424) bcast_S_S71424 (iotaInDim S71424 32 0) (constantI S_ 32 768#32) (ix1 r) rfl rfl (by omega) (by decide) (by decide)
theorem place_at (T) (r : Fin 71424) (k : ℕ) (hk : k < 93) (h : T (ix1 r) = BitVec.ofNat 32 k) : refPlace T (ix1 r) = BitVec.ofNat 32 k := by
  show (if (IntOp.cmpi .slt (T (ix1 r)) 0#32) = 1#1 then T (ix1 r) + 93#32 else T (ix1 r)) = _
  rw [h, if_neg]
  revert k; intro k hk _
  unfold IntOp.cmpi
  simp only [BitVec.slt, StableHlo.Predicate.ofBool_eq_one_iff, decide_eq_true_eq]
  rw [StableHlo.Predicate.toInt_ofNat_small _ (by omega)]
  show ¬((k : ℤ) < (0#32 : BitVec 32).toInt)
  rw [show (0#32 : BitVec 32).toInt = 0 from by decide]; omega
theorem exp_at (E P) (r : Fin 71424) (k : Fin 93) (h : P (ix1 r) = BitVec.ofNat 32 k.val) : refExp E P (ix1 r) = E (ix1 k) :=
  Routing.gather_take1 (n := 71424) (N := 93) gather_S93_S71424x1_S71424_n_0_n_n_0_1_1 rfl rfl rfl rfl E _ r k (Eq.trans (by pointwise) h) (by decide)
theorem gate_at (T G N) (r : Fin 71424) (e : Fin 8) :
    refGate T G N (ix2 r e) = (((IntOp.cmpi .eq (G (ix1 r)) (BitVec.ofNat 32 e.val)).toNat : ℝ) : EReal) * (((IntOp.cmpi .slt (T (ix1 r)) (N (ix1 0))).toNat : ℝ) : EReal) := by
  pointwise [refGate]
  rfl
theorem lin_at (X W e h) (E : Fin 8) (hE : E.val = e) (r : Fin 71424) (j : Fin 11264) : refLin X W e h (ix2 r j) = ∑ k : Fin 2048, (X (ix2 r k) : EReal) * W (ix3 E k j) := by
  subst hE
  pointwise [refLin]
theorem out_at (L O e h) (E : Fin 8) (hE : E.val = e) (r : Fin 71424) (n : Fin 2048) : refOut L O e h (ix2 r n) = ∑ j : Fin 5632, (L (ix2 r (⟨j.val, by omega⟩ : Fin 11264)) : EReal)
      * Ideal.logistic (L (ix2 r (⟨j.val, by omega⟩ : Fin 11264))) * L (ix2 r (⟨5632 + j.val, by omega⟩ : Fin 11264)) * O (ix3 E j n) := by
  subst hE
  pointwise [refOut]
  rfl
theorem one_at (A X W O e hA hW hO) (E : Fin 8) (hE : E.val = e) (r : Fin 71424) (n : Fin 2048) :
    refOne A X W O e hA hW hO (ix2 r n) = (A (ix2 r E) : EReal) * refOut (refLin X W e hW) O e hO (ix2 r n) := by
  subst hE
  pointwise [refOne]

/-- One expert's share in an entry: its gate times the row through it. -/
theorem one_ffn (A X W O e hA hW hO) (E : Fin 8) (hE : E.val = e) (r : Fin 71424) (n : Fin 2048) :
    refOne A X W O e hA hW hO (ix2 r n) = (A (ix2 r E) : EReal) * ffn (fun r k => X (ix2 r k)) (fun e k j => W (ix3 e k j)) (fun e j n => O (ix3 e j n)) E r n := by
  rw [one_at _ _ _ _ _ _ _ _ E hE, out_at _ _ _ _ E hE]
  unfold ffn share lin
  simp only [lin_at _ _ _ _ E hE]

/-- A row's gates: its own expert's alone, and that only for a tile in use. -/
theorem gate_row (E N) (ex : Fin 93 → Fin 8) (hex : ∀ k, E (ix1 k) = BitVec.ofNat 32 (ex k).val) (r : Fin 71424) (e : Fin 8) :
    refGate refTile (refExp E (refPlace refTile)) N (ix2 r e)
      = if e = ex ⟨r.val / 768, by omega⟩ then (if IntOp.cmpi .slt (BitVec.ofNat 32 (r.val / 768)) (N (ix1 0)) = 1#1 then (1 : EReal) else 0) else 0 := by
  have hp := place_at refTile r (r.val / 768) (by omega) (tile_at r)
  rw [gate_at, exp_at E _ r ⟨r.val / 768, by omega⟩ hp, hex, tile_at]
  generalize ex ⟨r.val / 768, by omega⟩ = q
  have h1 : IntOp.cmpi .eq (BitVec.ofNat 32 q.val) (BitVec.ofNat 32 e.val) = if e = q then 1#1 else 0#1 := by
    revert q e; decide
  rw [h1]
  generalize IntOp.cmpi .slt (BitVec.ofNat 32 (r.val / 768)) (N (ix1 0)) = b
  split
  · revert b
    have hb : ∀ b : BitVec 1, b = 0#1 ∨ b = 1#1 := by decide
    intro b
    rcases hb b with rfl | rfl <;> simp
  · simp

/-- An entry of the reference. -/
theorem res_at (E N X W O) (ex : Fin 93 → Fin 8) (hex : ∀ k, E (ix1 k) = BitVec.ofNat 32 (ex k).val) (r : Fin 71424) (n : Fin 2048) :
    refAll E N X W O (ix2 r n) = routed (fun r k => X (ix2 r k)) (fun e k j => W (ix3 e k j)) (fun e j n => O (ix3 e j n)) ex (N (ix1 0)) r n := by
  have hs : ∀ A, refSum A X W O (ix2 r n) = ∑ e : Fin 8, (A (ix2 r e) : EReal) * ffn (fun r k => X (ix2 r k)) (fun e k j => W (ix3 e k j)) (fun e j n => O (ix3 e j n)) e r n := by
    intro A
    simp only [Fin.sum_univ_eight, ← one_ffn A X W O 0 slices_S71424x8_S71424x1_0_0 slices_S8x2048x11264_S1x2048x11264_0_0_0 slices_S8x5632x2048_S1x5632x2048_0_0_0 0 rfl r n,
      ← one_ffn A X W O 1 slices_S71424x8_S71424x1_0_1 slices_S8x2048x11264_S1x2048x11264_1_0_0 slices_S8x5632x2048_S1x5632x2048_1_0_0 1 rfl r n,
      ← one_ffn A X W O 2 slices_S71424x8_S71424x1_0_2 slices_S8x2048x11264_S1x2048x11264_2_0_0 slices_S8x5632x2048_S1x5632x2048_2_0_0 2 rfl r n,
      ← one_ffn A X W O 3 slices_S71424x8_S71424x1_0_3 slices_S8x2048x11264_S1x2048x11264_3_0_0 slices_S8x5632x2048_S1x5632x2048_3_0_0 3 rfl r n,
      ← one_ffn A X W O 4 slices_S71424x8_S71424x1_0_4 slices_S8x2048x11264_S1x2048x11264_4_0_0 slices_S8x5632x2048_S1x5632x2048_4_0_0 4 rfl r n,
      ← one_ffn A X W O 5 slices_S71424x8_S71424x1_0_5 slices_S8x2048x11264_S1x2048x11264_5_0_0 slices_S8x5632x2048_S1x5632x2048_5_0_0 5 rfl r n,
      ← one_ffn A X W O 6 slices_S71424x8_S71424x1_0_6 slices_S8x2048x11264_S1x2048x11264_6_0_0 slices_S8x5632x2048_S1x5632x2048_6_0_0 6 rfl r n,
      ← one_ffn A X W O 7 slices_S71424x8_S71424x1_0_7 slices_S8x2048x11264_S1x2048x11264_7_0_0 slices_S8x5632x2048_S1x5632x2048_7_0_0 7 rfl r n]
    rfl
  unfold refAll routed
  rw [hs]
  simp only [gate_row E N ex hex, ite_mul, zero_mul, one_mul, Finset.sum_ite_eq', Finset.mem_univ, if_true]

/-- The result of the reference's run is the whole reference of its arguments. -/
theorem res_eq (V0 : Valuation τ sig (Elt Ideal)) : val3 V0 (Proc.devRef .tc main_v144)
    = refAll (V0 (Proc.devRef .tc main_arg0)) (V0 (Proc.devRef .tc main_arg1)) (V0 (Proc.devRef .tc main_arg2)) (V0 (Proc.devRef .tc main_arg3)) (V0 (Proc.devRef .tc main_arg4)) :=
  (val3_main_v144 V0).trans rfl

theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144)
        = refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val3_main_v144 (StableHlo.launchContents m c)).symm.trans (res_eq (StableHlo.launchContents m c))), (h c).2⟩) (run m ρ)
end Cert.MoeRefIdeal.Value
-- ==== Proof.MoeClaim.lean ====
module
public import proofs.«01_k».proof.Proof.MoeIdealValue
public import proofs.«01_k».proof.Proof.MoeRefRows
public import proofs.«01_k».proof.Proof.ExpertsPre
public import Idealize.ShloMosaic.Lib.Claim
@[expose] public section
set_option maxRecDepth 16384
noncomputable section
open Idealize.ShloMosaic Idealize.ShloMosaic.TcCoe Idealize.SL.Sem
namespace Cert.MoeClaim
open Cert.MoeIdeal.Value Cert.MoeRefIdeal.Value Cert.Experts Cert.MoeIdeal.Gen
/-! The routed experts of the kernel and of the reference agree. -/

theorem run_moe (m : (ℓ : Loc Cert.MoeIdeal.nD Cert.MoeIdeal.τ Cert.MoeIdeal.sig) → Buf (Elt Ideal) ℓ) (g : Dev Cert.MoeIdeal.nD → PrngReg) (hpre : Cert.Pre_MoeIdeal m) :
    θ_run Cert.MoeIdeal.defs (onTc (τ := Cert.MoeIdeal.τ) (Cert.MoeIdeal.main (F := Ideal))) ⟨m, fun _ => 0, g⟩ fun r => ∀ c : Dev Cert.MoeIdeal.nD,
      r.2.mem ((c.tc : Thread Cert.MoeIdeal.nD Cert.MoeIdeal.τ).loc Cert.MoeIdeal.main_v0)
        = (fun i : Cert.MoeIdeal.S71424x2048.Idx => routed (fX m c) (fW m c) (fO m c) (fun k => ⟨(tileExp m k).toNat, exp_lt m hpre k⟩) (nUsed m) (i 0) (i 1))
      ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4) :=
  (θ_run Cert.MoeIdeal.defs _ _).mono (fun r h c =>
    ⟨((h.1 c).1 4).trans (final m (ok_MoeIdeal m hpre) c _ fun _ => rfl), kept_of_post m (ok_MoeIdeal m hpre) r h.1 c⟩) (launched m g (ok_MoeIdeal m hpre))

theorem algebraic : Cert.algebraic_MoeIdeal_MoeRefIdeal := by
  pair_intro
  · run_from run_moe m g hpre
  · run_from Cert.MoeRefIdeal.Value.run_all m' g'
    obtain rfl : c = 0 := Subsingleton.elim _ _
    have hex : ∀ k : Fin 93, (m (((0 : Dev Cert.MoeIdeal.nD).tc : Thread Cert.MoeIdeal.nD Cert.MoeIdeal.τ).loc Cert.MoeIdeal.main_arg0) : IVec Cert.MoeIdeal.S93 32) (ix1 k)
        = BitVec.ofNat 32 (⟨(tileExp m k).toNat, exp_lt m hpre k⟩ : Fin 8).val := fun k =>
      (congrArg (tbl m 0) (funext fun (a : Fin 1) => by obtain rfl : a = 0 := Subsingleton.elim _ _; rfl) : _ = tileExp m k).trans (by show tileExp m k = BitVec.ofNat 32 (tileExp m k).toNat; simp)
    funext i
    idx_vars i
    refine (res_at _ _ _ _ _ (fun k => ⟨(tileExp m k).toNat, exp_lt m hpre k⟩) hex i0 i1).trans ?_
    exact congrArg (fun nv => routed (fX m 0) (fW m 0) (fO m 0) (fun k => ⟨(tileExp m k).toNat, exp_lt m hpre k⟩) nv i0 i1) (congrArg (tbl m 1) (one_index _ _))
end Cert.MoeClaim
-- ==== Proof.Merged.lean ====
module
public import Idealize.ShloMosaic.Lib.Pipeline.ValueKit
@[expose] public section
noncomputable section
open Idealize.ShloMosaic
namespace Cert.Merged
open scoped BigOperators
/-! The branches of a layer merged: each projected, gated by a sigmoid of the input, summed. -/

variable {R : ℕ} (H : Fin 16 → Fin R → Fin 2048 → EReal) (G : Fin 2048 → Fin 6144 → EReal) (W : Fin 3 → Fin 1024 → Fin 2048 → EReal)

/-- A branch's gated projection; its gates are the columns from `2048 k` on. -/
def gated (O : Fin 16 → Fin R → Fin 1024 → EReal) (k : Fin 3) (b : Fin 16) (r : Fin R) (n : Fin 2048) : EReal :=
  Ideal.logistic (∑ d : Fin 2048, H b r d * G d ⟨k.val * 2048 + n.val, by omega⟩) * ∑ e : Fin 1024, O b r e * W k e n

def merged (A B C : Fin 16 → Fin R → Fin 1024 → EReal) (b : Fin 16) (r : Fin R) (n : Fin 2048) : EReal :=
  gated H G W A 0 b r n + gated H G W B 1 b r n + gated H G W C 2 b r n
end Cert.Merged
-- ==== Proof.MergeIdealValue.lean ====
module
public import proofs.«01_k».proof.Proof.Gen.MergeIdeal.Value
public import proofs.«01_k».proof.Proof.Merged
public import Idealize.ShloMosaic.Lib.Pipeline.ValueKit
@[expose] public section
set_option maxRecDepth 16384
noncomputable section
open Idealize.ShloMosaic Idealize.ShloMosaic.TcCoe Idealize.SL.Sem
namespace Cert.MergeIdeal.Value
open Cert.MergeIdeal Cert.MergeIdeal.Gen Cert.Merged
open scoped BigOperators
/-! The result array of the kernel that merges the branches. -/

/-- One branch in a block. -/
def branchAt (h : Vec Ideal S1x1152x2048 .bf16) (o : Vec Ideal S1x1152x1024 .bf16) (g : Vec Ideal S2048x512 .bf16) (w : Vec Ideal S3x1024x512 .bf16) (k : Fin 3) (r : Fin 1152) (n : Fin 512) : EReal :=
  Ideal.logistic (∑ d : Fin 2048, (h (ix3 (0 : Fin 1) r d) : EReal) * g (ix2 d n)) * ∑ e : Fin 1024, (o (ix3 (0 : Fin 1) r e) : EReal) * w (ix3 k e n)

theorem pay_at (h : Vec Ideal S1x1152x2048 .bf16) (oa ob oc : Vec Ideal S1x1152x1024 .bf16) (ga gb gc : Vec Ideal S2048x512 .bf16) (w : Vec Ideal S3x1024x512 .bf16) (r : Fin 1152) (n : Fin 512) :
    out0_8 h oa ob oc ga gb gc w (ix3 (0 : Fin 1) r n) = branchAt h oa ga w 0 r n + branchAt h ob gb w 1 r n + branchAt h oc gc w 2 r n := by
  unfold out0_8 branchAt
  frame_out
  pointwise [k0_pay1, k0_pay2, k0_pay3, k0_pay4, k0_pay5]

variable (m : (ℓ : Loc nD τ sig) → Buf (Elt Ideal) ℓ) (c : Dev nD)

theorem N_eq : cfg0.N = 128 := by decide +kernel
theorem idxH : ∀ t : Fin cfg0.N, win0_0.index t = ![t.val / 8, t.val / 4 % 2, 0] := (by decide +kernel : ∀ t : Fin grid0.N, _)
theorem idxA : ∀ t : Fin cfg0.N, win0_1.index t = ![t.val / 8, t.val / 4 % 2, 0] := (by decide +kernel : ∀ t : Fin grid0.N, _)
theorem idxB : ∀ t : Fin cfg0.N, win0_2.index t = ![t.val / 8, t.val / 4 % 2, 0] := (by decide +kernel : ∀ t : Fin grid0.N, _)
theorem idxC : ∀ t : Fin cfg0.N, win0_3.index t = ![t.val / 8, t.val / 4 % 2, 0] := (by decide +kernel : ∀ t : Fin grid0.N, _)
theorem idxGA : ∀ t : Fin cfg0.N, win0_4.index t = ![0, t.val % 4] := (by decide +kernel : ∀ t : Fin grid0.N, _)
theorem idxGB : ∀ t : Fin cfg0.N, win0_5.index t = ![0, 4 + t.val % 4] := (by decide +kernel : ∀ t : Fin grid0.N, _)
theorem idxGC : ∀ t : Fin cfg0.N, win0_6.index t = ![0, 8 + t.val % 4] := (by decide +kernel : ∀ t : Fin grid0.N, _)
theorem idxW : ∀ t : Fin cfg0.N, win0_7.index t = ![0, 0, t.val % 4] := (by decide +kernel : ∀ t : Fin grid0.N, _)
theorem idxY : ∀ t : Fin cfg0.N, win0_8.index t = ![t.val / 8, t.val / 4 % 2, t.val % 4] := (by decide +kernel : ∀ t : Fin grid0.N, _)

/-! The arguments by coordinates. -/
def fH (b : Fin 16) (r : Fin 2304) (d : Fin 2048) : EReal := (m ((c.tc : Thread nD τ).loc main_arg0) : FVec Ideal S16x2304x2048 .bf16) (ix3 b r d)
def fA (b : Fin 16) (r : Fin 2304) (d : Fin 1024) : EReal := (m ((c.tc : Thread nD τ).loc main_arg1) : FVec Ideal S16x2304x1024 .bf16) (ix3 b r d)
def fB (b : Fin 16) (r : Fin 2304) (d : Fin 1024) : EReal := (m ((c.tc : Thread nD τ).loc main_arg2) : FVec Ideal S16x2304x1024 .bf16) (ix3 b r d)
def fC (b : Fin 16) (r : Fin 2304) (d : Fin 1024) : EReal := (m ((c.tc : Thread nD τ).loc main_arg3) : FVec Ideal S16x2304x1024 .bf16) (ix3 b r d)
def fG (d : Fin 2048) (n : Fin 6144) : EReal := (m ((c.tc : Thread nD τ).loc main_arg4) : FVec Ideal S2048x6144 .bf16) (ix2 d n)
def fW (k : Fin 3) (e : Fin 1024) (n : Fin 2048) : EReal := (m ((c.tc : Thread nD τ).loc main_arg5) : FVec Ideal S3x1024x2048 .bf16) (ix3 k e n)

/-! The place of a point's block. -/
def bOf (t : Fin cfg0.N) : Fin 16 := ⟨t.val / 8, by have := lt_of_lt_of_eq t.isLt N_eq; omega⟩
def rOf (t : Fin cfg0.N) (r : Fin 1152) : Fin 2304 := ⟨t.val / 4 % 2 * 1152 + r.val, by omega⟩
def nOf (t : Fin cfg0.N) (n : Fin 512) : Fin 2048 := ⟨t.val % 4 * 512 + n.val, by omega⟩

theorem h_at (t : Fin cfg0.N) (r : Fin 1152) (d : Fin 2048) : (iblk m c 0 t : Vec Ideal S1x1152x2048 .bf16) (ix3 (0 : Fin 1) r d) = fH m c (bOf t) (rOf t r) d := by
  unfold fH bOf rOf
  blk_ext [iblk, V, idxH t]
theorem a_at (t : Fin cfg0.N) (r : Fin 1152) (d : Fin 1024) : (iblk m c 1 t : Vec Ideal S1x1152x1024 .bf16) (ix3 (0 : Fin 1) r d) = fA m c (bOf t) (rOf t r) d := by
  unfold fA bOf rOf
  blk_ext [iblk, V, idxA t]
theorem b_at (t : Fin cfg0.N) (r : Fin 1152) (d : Fin 1024) : (iblk m c 2 t : Vec Ideal S1x1152x1024 .bf16) (ix3 (0 : Fin 1) r d) = fB m c (bOf t) (rOf t r) d := by
  unfold fB bOf rOf
  blk_ext [iblk, V, idxB t]
theorem c_at (t : Fin cfg0.N) (r : Fin 1152) (d : Fin 1024) : (iblk m c 3 t : Vec Ideal S1x1152x1024 .bf16) (ix3 (0 : Fin 1) r d) = fC m c (bOf t) (rOf t r) d := by
  unfold fC bOf rOf
  blk_ext [iblk, V, idxC t]
theorem ga_at (t : Fin cfg0.N) (d : Fin 2048) (n : Fin 512) : (iblk m c 4 t : Vec Ideal S2048x512 .bf16) (ix2 d n) = fG m c d ⟨0 * 2048 + (nOf t n).val, by have := (nOf t n).isLt; omega⟩ := by
  unfold fG nOf
  blk_ext [iblk, V, idxGA t]
theorem gb_at (t : Fin cfg0.N) (d : Fin 2048) (n : Fin 512) : (iblk m c 5 t : Vec Ideal S2048x512 .bf16) (ix2 d n) = fG m c d ⟨1 * 2048 + (nOf t n).val, by have := (nOf t n).isLt; omega⟩ := by
  unfold fG nOf
  blk_ext [iblk, V, idxGB t]
theorem gc_at (t : Fin cfg0.N) (d : Fin 2048) (n : Fin 512) : (iblk m c 6 t : Vec Ideal S2048x512 .bf16) (ix2 d n) = fG m c d ⟨2 * 2048 + (nOf t n).val, by have := (nOf t n).isLt; omega⟩ := by
  unfold fG nOf
  blk_ext [iblk, V, idxGC t]
theorem w_at (t : Fin cfg0.N) (k : Fin 3) (e : Fin 1024) (n : Fin 512) : (iblk m c 7 t : Vec Ideal S3x1024x512 .bf16) (ix3 k e n) = fW m c k e (nOf t n) := by
  unfold fW nOf
  blk_ext [iblk, V, idxW t]

theorem final : (dats m 0 c).arrAt 8 cfg0.N = fun i : S16x2304x2048.Idx => merged (fH m c) (fG m c) (fW m c) (fA m c) (fB m c) (fC m c) (i 0) (i 1) (i 2) := by
  refine (dats m 0 c).arrAt_eq_of_covers 8 _ (by decide +kernel) fun t hf y => ?_
  blk_simp
  rw [after0_8]
  idx_vars y
  obtain rfl : y0 = 0 := Subsingleton.elim _ _
  have he : ((View.whole main_v0).slice (win0_8.rect t)).emb (ix3 (0 : Fin 1) y1 y2) = ix3 (bOf t) (rOf t y1) (nOf t y2) := by
    unfold bOf rOf nOf
    blk_ext [idxY t]
  rw [he]
  refine (pay_at _ _ _ _ _ _ _ _ y1 y2).trans ?_
  show _ = merged _ _ _ _ _ _ (bOf t) (rOf t y1) (nOf t y2)
  unfold merged gated branchAt
  simp only [h_at m c t, a_at m c t, b_at m c t, c_at m c t, ga_at m c t, gb_at m c t, gc_at m c t, w_at m c t]
  rfl
end Cert.MergeIdeal.Value
-- ==== Proof.MergeRefRows.lean ====
module
public import proofs.«01_k».proof.Proof.Gen.MergeRefIdeal.Run
public import proofs.«01_k».proof.Proof.Merged
public import Idealize.ShloMosaic.Lib.Pipeline.ValueKit
@[expose] public section
set_option maxRecDepth 16384
noncomputable section
open Idealize.ShloMosaic Idealize.ShloMosaic.TcCoe Idealize.SL.Sem
namespace Cert.MergeRefIdeal.Value
open Cert.MergeRefIdeal Cert.MergeRefIdeal.Gen Cert.Merged
open scoped BigOperators
/-! The reference of the merge. -/

/-- The gates of all branches. -/
def refGates (H : FVec Ideal S16x2304x2048 .bf16) (G : FVec Ideal S2048x6144 .bf16) : FVec Ideal S16x2304x6144 .f32 :=
  Host.divf (broadcastInDim S16x2304x6144 ![] bcast_S_S16x2304x6144 (constant S_ .f32 0x3F800000#32)) (addf (broadcastInDim S16x2304x6144 ![] bcast_S_S16x2304x6144 (constant S_ .f32 0x3F800000#32)) (Host.exp (Host.negf (Host.dotGeneral dot_S16x2304x2048_S2048x6144_S16x2304x6144_2_0_01_1_n_n none (extf .f32 H bitsLt_bf16_f32) (extf .f32 G bitsLt_bf16_f32)))))
/-- A branch's projection times its gates. -/
def refBranch (S : FVec Ideal S16x2304x6144 .f32) (O : FVec Ideal S16x2304x1024 .bf16) (W : FVec Ideal S3x1024x2048 .bf16) (q k : ℕ) (hq : S16x2304x6144.Slices ![0, 0, q] S16x2304x2048) (hk : S3x1024x2048.Slices ![k, 0, 0] S1x1024x2048) : FVec Ideal S16x2304x2048 .f32 :=
  mulf (extractStridedSlice S16x2304x2048 ![0, 0, q] S hq) (Host.dotGeneral dot_S16x2304x1024_S1024x2048_S16x2304x2048_2_0_01_1_n_n none (extf .f32 O bitsLt_bf16_f32) (shapeCast _ (extractStridedSlice S1x1024x2048 ![k, 0, 0] (extf .f32 W bitsLt_bf16_f32) hk) shapeCasts_S1x1024x2048_S1024x2048))
/-- The whole reference. -/
def refAll (H : FVec Ideal S16x2304x2048 .bf16) (A B C : FVec Ideal S16x2304x1024 .bf16) (G : FVec Ideal S2048x6144 .bf16) (W : FVec Ideal S3x1024x2048 .bf16) : FVec Ideal S16x2304x2048 .bf16 :=
  truncf .bf16 (addf (addf (refBranch (refGates H G) A W 0 0 slices_S16x2304x6144_S16x2304x2048_0_0_0 slices_S3x1024x2048_S1x1024x2048_0_0_0)
    (refBranch (refGates H G) B W 2048 1 slices_S16x2304x6144_S16x2304x2048_0_0_2048 slices_S3x1024x2048_S1x1024x2048_1_0_0))
    (refBranch (refGates H G) C W 4096 2 slices_S16x2304x6144_S16x2304x2048_0_0_4096 slices_S3x1024x2048_S1x1024x2048_2_0_0)) bitsLt_bf16_f32

theorem gates_at (H G) (b : Fin 16) (r : Fin 2304) (n : Fin 6144) : refGates H G (ix3 b r n) = Ideal.logistic (∑ d : Fin 2048, (H (ix3 b r d) : EReal) * G (ix2 d n)) := by
  pointwise [refGates]
  rfl
theorem branch_at (S O W q k hq hk) (K : Fin 3) (hK : K.val = k) (b : Fin 16) (r : Fin 2304) (n : Fin 2048) (J : Fin 6144) (hJ : J.val = q + n.val) :
    refBranch S O W q k hq hk (ix3 b r n) = (S (ix3 b r J) : EReal) * ∑ e : Fin 1024, (O (ix3 b r e) : EReal) * W (ix3 K e n) := by
  subst hK
  have hlt : q + n.val < 6144 := hJ ▸ J.isLt
  obtain rfl : J = ⟨q + n.val, hlt⟩ := Fin.ext hJ
  pointwise [refBranch]
theorem res_at (H A B C G W) (b : Fin 16) (r : Fin 2304) (n : Fin 2048) :
    refAll H A B C G W (ix3 b r n) = merged (fun b r d => H (ix3 b r d)) (fun d n => G (ix2 d n)) (fun k e n => W (ix3 k e n)) (fun b r d => A (ix3 b r d)) (fun b r d => B (ix3 b r d)) (fun b r d => C (ix3 b r d)) b r n := by
  have e0 := branch_at (refGates H G) A W 0 0 slices_S16x2304x6144_S16x2304x2048_0_0_0 slices_S3x1024x2048_S1x1024x2048_0_0_0 0 rfl b r n ⟨0 * 2048 + n.val, by omega⟩ (by show 0 * 2048 + n.val = _; omega)
  have e1 := branch_at (refGates H G) B W 2048 1 slices_S16x2304x6144_S16x2304x2048_0_0_2048 slices_S3x1024x2048_S1x1024x2048_1_0_0 1 rfl b r n ⟨1 * 2048 + n.val, by omega⟩ (by show 1 * 2048 + n.val = _; omega)
  have e2 := branch_at (refGates H G) C W 4096 2 slices_S16x2304x6144_S16x2304x2048_0_0_4096 slices_S3x1024x2048_S1x1024x2048_2_0_0 2 rfl b r n ⟨2 * 2048 + n.val, by omega⟩ (by show 2 * 2048 + n.val = _; omega)
  rw [gates_at] at e0 e1 e2
  exact congr (congrArg (fun x y : EReal => x + y) (congr (congrArg (fun x y : EReal => x + y) e0) e1)) e2

theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (run m ρ)
end Cert.MergeRefIdeal.Value
-- ==== Proof.MergeClaim.lean ====
module
public import proofs.«01_k».proof.Proof.MergeIdealValue
public import proofs.«01_k».proof.Proof.MergeRefRows
public import proofs.«01_k».proof.Defs
public import Idealize.ShloMosaic.Lib.Claim
@[expose] public section
set_option maxRecDepth 16384
noncomputable section
open Idealize.ShloMosaic Idealize.ShloMosaic.TcCoe Idealize.SL.Sem
namespace Cert.MergeClaim
open Cert.MergeIdeal.Value Cert.MergeRefIdeal.Value Cert.Merged
/-! The merged branches of the kernel and of the reference agree. -/

theorem quiet_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run_all m g)

theorem algebraic : Cert.algebraic_MergeIdeal_MergeRefIdeal := by
  pair_intro
  · run_from Cert.MergeIdeal.Value.run_blocks m g
  · run_from Cert.MergeRefIdeal.Value.run_all m' g'
    refine Eq.trans ?_ (final m c).symm
    funext i
    idx_vars i
    exact res_at _ _ _ _ _ _ i0 i1 i2
end Cert.MergeClaim
-- ==== Proof.Dense.lean ====
module
public import Idealize.ShloMosaic.Lib.Pipeline.ValueKit
@[expose] public section
noncomputable section
open Idealize.ShloMosaic
namespace Cert.Dense
open scoped BigOperators
/-! The dense feed-forward part of a layer: a gated hidden layer and its second weights, added to the stream, and the next layer's input. -/

variable (H : Fin 16 → Fin 2304 → Fin 2048 → EReal) (W : Fin 2048 → Fin 11264 → EReal) (O : Fin 5632 → Fin 2048 → EReal)

/-- A row against a column of the first weights. -/
def lin (b : Fin 16) (r : Fin 2304) (j : Fin 11264) : EReal := ∑ k : Fin 2048, H b r k * W k j

/-- The share of a hidden column in an entry. -/
def share (b : Fin 16) (r : Fin 2304) (n : Fin 2048) (j : Fin 5632) : EReal :=
  lin H W b r ⟨j.val, by omega⟩ * Ideal.logistic (lin H W b r ⟨j.val, by omega⟩) * lin H W b r ⟨5632 + j.val, by omega⟩ * O j n

/-- A row through the hidden layer. -/
def through (b : Fin 16) (r : Fin 2304) (n : Fin 2048) : EReal := ∑ j : Fin 5632, share H W O b r n j

/-- A sum over the hidden columns, the first slices of it. -/
def sliced (s : Fin 5632 → EReal) (f : ℕ) : EReal := ∑ j ∈ Finset.range (f * 512), if h : j < 5632 then s ⟨j, h⟩ else 0

theorem sliced_zero (s) : sliced s 0 = 0 := by simp [sliced]

theorem sliced_succ (s) (f : ℕ) (hf : f < 11) : sliced s (f + 1) = sliced s f + ∑ j : Fin 512, s ⟨f * 512 + j.val, by omega⟩ := by
  unfold sliced
  rw [Nat.succ_mul, Finset.sum_range_add, Finset.sum_range (n := 512)]
  exact congrArg (_ + ·) (Finset.sum_congr rfl fun j _ => dif_pos (by omega))

theorem sliced_all (s) : sliced s 11 = ∑ j : Fin 5632, s j := by
  unfold sliced
  rw [Finset.sum_range]
  exact Finset.sum_congr rfl fun j _ => dif_pos j.isLt

/-- One over the root of a row's mean square. -/
def scale (v : Fin 2048 → EReal) : EReal :=
  Ideal.rsqrt (Ideal.div (∑ k : Fin 2048, v k * v k) (Ideal.ofBits .f32 0x45000000#32) + Ideal.ofBits .f32 0x358637BD#32)

/-- A row normed and weighted. -/
def normed (v g : Fin 2048 → EReal) (n : Fin 2048) : EReal := v n * scale v * g n

/-- A modulation vector at a token: of its sequence, or of the shared context past the first 2048. -/
def modAt (M : Fin 24 → Fin 6 → Fin 2048 → EReal) (k : Fin 6) (b : Fin 16) (r : Fin 2304) (n : Fin 2048) : EReal :=
  if 2048 ≤ r.val then M 16 k n else M ⟨b.val, by omega⟩ k n

variable (X : Fin 16 → Fin 2304 → Fin 2048 → EReal) (g g' : Fin 2048 → EReal) (M M' : Fin 24 → Fin 6 → Fin 2048 → EReal)

/-- The stream after the layer. -/
def stream (b : Fin 16) (r : Fin 2304) (n : Fin 2048) : EReal := X b r n + modAt M 5 b r n * normed (through H W O b r) g n

/-- The next layer's input. -/
def next (b : Fin 16) (r : Fin 2304) (n : Fin 2048) : EReal :=
  normed (stream H W O X g M b r) g' n * (1 + modAt M' 1 b r n) + modAt M' 0 b r n
end Cert.Dense
-- ==== Proof.FfnIdealPay.lean ====
module
public import proofs.«01_k».proof.Proof.Gen.FfnIdeal.Frame
public import proofs.«01_k».proof.Proof.Dense
public import Idealize.ShloMosaic.Lib.Pipeline.ValueKit
@[expose] public section
set_option maxRecDepth 16384
noncomputable section
open Idealize.ShloMosaic Idealize.ShloMosaic.TcCoe Idealize.SL.Sem
namespace Cert.FfnIdeal.Value
open Cert.FfnIdeal Cert.FfnIdeal.Gen Cert.Dense
open scoped BigOperators
/-! What the feed-forward kernel's body computes, entry by entry. -/

theorem pay1_at (r : Fin 576) (n : Fin 2048) : (k0_pay1 (F := Ideal)) (ix3 (0 : Fin 1) r n) = (0 : EReal) := by
  pointwise [k0_pay1]

/-- A slice's share added to an entry. -/
theorem pay2_at (x0 : Vec Ideal S1x576x2048 .bf16) (x1 x2 : Vec Ideal S2048x512 .bf16) (o : Vec Ideal S1x576x2048 .f32) (x3 : Vec Ideal S512x2048 .bf16) (r : Fin 576) (n : Fin 2048) :
    k0_pay2 x0 x1 x2 o x3 (ix3 (0 : Fin 1) r n) = o (ix3 (0 : Fin 1) r n) + ∑ j : Fin 512, (∑ k : Fin 2048, (x0 (ix3 (0 : Fin 1) r k) : EReal) * x1 (ix2 k j)) * Ideal.logistic (∑ k : Fin 2048, (x0 (ix3 (0 : Fin 1) r k) : EReal) * x1 (ix2 k j))
      * (∑ k : Fin 2048, (x0 (ix3 (0 : Fin 1) r k) : EReal) * x2 (ix2 k j)) * x3 (ix2 j n) := by
  pointwise [k0_pay2]

/-- Which rows of a tile are of the shared context. -/
theorem mask_at (q : ℕ) (hq : q < 4) (r : Fin 576) : k0_pay4 (BitVec.ofNat 32 q) (ix2 r (0 : Fin 1)) = if 2048 ≤ q * 576 + r.val then 1#1 else 0#1 := by
  pointwise [k0_pay4]
  revert r
  interval_cases q <;> decide +kernel

theorem pay5_at (a : BitVec 32) (x y : Vec Ideal S1x576x2048 .f32) (mc ml : Vec Ideal S1x1x1x2048 .f32) (g : Vec Ideal S1x2048 .f32) (r : Fin 576) (n : Fin 2048) :
    k0_pay5 a x y mc ml g (ix2 r n) = x (ix3 (0 : Fin 1) r n) + (if k0_pay4 a (ix2 r (0 : Fin 1)) = 1#1 then (mc (ix4 (0 : Fin 1) (0 : Fin 1) (0 : Fin 1) n) : EReal) else ml (ix4 (0 : Fin 1) (0 : Fin 1) (0 : Fin 1) n))
      * normed (fun k => y (ix3 (0 : Fin 1) r k)) (fun k => g (ix2 (0 : Fin 1) k)) n := by
  pointwise [k0_pay5, normed, scale]
  rfl

theorem pay7_at (s : IVec S576x1 1) (y : FVec Ideal S576x2048 .f32) (g : Vec Ideal S1x2048 .f32) (mc ml : Vec Ideal S1x1x1x2048 .f32) (r : Fin 576) (n : Fin 2048) :
    k0_pay7 s y g mc ml (ix2 r n) = normed (fun k => y (ix2 r k)) (fun k => g (ix2 (0 : Fin 1) k)) n
      * (1 + if s (ix2 r (0 : Fin 1)) = 1#1 then (mc (ix4 (0 : Fin 1) (0 : Fin 1) (0 : Fin 1) n) : EReal) else ml (ix4 (0 : Fin 1) (0 : Fin 1) (0 : Fin 1) n)) := by
  pointwise [k0_pay7, normed, scale]
  rfl

theorem pay3_at (v : FVec Ideal S576x2048 .f32) (mc ml : Vec Ideal S1x1x1x2048 .f32) (s : IVec S576x1 1) (r : Fin 576) (n : Fin 2048) :
    k0_pay3 v (k0_pay8 mc) (k0_pay9 ml) (k0_pay10 s) (ix3 (0 : Fin 1) r n) = v (ix2 r n) + if s (ix2 r (0 : Fin 1)) = 1#1 then (mc (ix4 (0 : Fin 1) (0 : Fin 1) (0 : Fin 1) n) : EReal) else ml (ix4 (0 : Fin 1) (0 : Fin 1) (0 : Fin 1) n) := by
  pointwise [k0_pay3, k0_pay8, k0_pay9, k0_pay10]
  rfl

variable (m : (ℓ : Loc nD τ sig) → Buf (Elt Ideal) ℓ) (c : Dev nD)

/-- A modulation vector of a block. -/
def pick (k : ℕ) (h : ∀ a, (![0, k, 0, 0] : Fin 4 → ℕ) a + (![1, 1, 1, 2048] : Fin 4 → ℕ) a ≤ S1x6x1x2048.size a) (x : Vec Ideal S1x6x1x2048 .f32) : Vec Ideal S1x1x1x2048 .f32 :=
  View.ld x (Rect.unit (s := S1x6x1x2048) ![0, k, 0, 0] ![1, 1, 1, 2048] h)
theorem pick_at (k h x) (K : Fin 6) (hK : K.val = k) (n : Fin 2048) : pick k h x (ix4 (0 : Fin 1) (0 : Fin 1) (0 : Fin 1) n) = x (ix4 (0 : Fin 1) K (0 : Fin 1) n) := by
  subst hK
  pointwise [pick]

/-- The accumulator after a first point. -/
theorem first_eq (t : Fin cfg0.N) (h0 : t.val % 11 = 0) : (outsAt0 m c t.val t.isLt).1 = k0_pay2 (iblk m c 0 t) (iblk m c 1 t) (iblk m c 2 t) (k0_pay1 (F := Ideal)) (iblk m c 3 t) := by
  rw [outsAt0_A m c t h0 (by omega)]
  frame_out

/-- After a middle point. -/
theorem middle_eq (t : Fin cfg0.N) (h0 : ¬t.val % 11 = 0) (h1 : ¬t.val % 11 = 10) : (outsAt0 m c t.val t.isLt).1 = k0_pay2 (iblk m c 0 t) (iblk m c 1 t) (iblk m c 2 t) (outsAt0 m c (t.val - 1) (Nat.lt_of_le_of_lt (Nat.sub_le _ _) t.isLt)).1 (iblk m c 3 t) := by
  rw [outsAt0_B m c t h0 h1]
  frame_out

/-- The sum at a last point, before the norm. -/
def total (t : Fin cfg0.N) : Vec Ideal S1x576x2048 .f32 :=
  k0_pay2 (iblk m c 0 t) (iblk m c 1 t) (iblk m c 2 t) (outsAt0 m c (t.val - 1) (Nat.lt_of_le_of_lt (Nat.sub_le _ _) t.isLt)).1 (iblk m c 3 t)

/-- The stream of a last point's block. -/
def rows (t : Fin cfg0.N) : FVec Ideal S576x2048 .f32 :=
  k0_pay5 (BitVec.ofNat 32 (grid0.coords t 1).val) (iblk m c 4 t) (total m c t) (pick 5 inb_S1x6x1x2048_S1x1x1x2048_0_5_0_0 (iblk m c 7 t)) (pick 5 inb_S1x6x1x2048_S1x1x1x2048_0_5_0_0 (iblk m c 6 t)) (iblk m c 5 t)

theorem last_eq (t : Fin cfg0.N) (h0 : ¬t.val % 11 = 0) (h1 : t.val % 11 = 10) : (outsAt0 m c t.val t.isLt).1 = k0_pay6 (rows m c t) := by
  rw [outsAt0_C m c t h0 h1]
  frame_out
  rfl

theorem next_eq (t : Fin cfg0.N) (h0 : ¬t.val % 11 = 0) (h1 : t.val % 11 = 10) :
    (outsAt0 m c t.val t.isLt).2 = k0_pay3 (k0_pay7 (k0_pay4 (BitVec.ofNat 32 (grid0.coords t 1).val)) (rows m c t) (iblk m c 8 t) (pick 1 inb_S1x6x1x2048_S1x1x1x2048_0_1_0_0 (iblk m c 10 t)) (pick 1 inb_S1x6x1x2048_S1x1x1x2048_0_1_0_0 (iblk m c 9 t)))
      (k0_pay8 (pick 0 inb_S1x6x1x2048_S1x1x1x2048_0_0_0_0 (iblk m c 10 t))) (k0_pay9 (pick 0 inb_S1x6x1x2048_S1x1x1x2048_0_0_0_0 (iblk m c 9 t))) (k0_pay10 (k0_pay4 (BitVec.ofNat 32 (grid0.coords t 1).val))) := by
  rw [outsAt0_C m c t h0 h1]
  frame_out
  rfl
end Cert.FfnIdeal.Value
-- ==== Proof.FfnIdealValue.lean ====
module
public import proofs.«01_k».proof.Proof.Gen.FfnIdeal.Value
public import proofs.«01_k».proof.Proof.FfnIdealPay
public import Idealize.ShloMosaic.Lib.Pipeline.ValueKit
@[expose] public section
set_option maxRecDepth 16384
noncomputable section
open Idealize.ShloMosaic Idealize.ShloMosaic.TcCoe Idealize.SL.Sem
namespace Cert.FfnIdeal.Value
open Cert.FfnIdeal Cert.FfnIdeal.Gen Cert.Dense
open scoped BigOperators
/-! The result arrays of the feed-forward kernel. -/

variable (m : (ℓ : Loc nD τ sig) → Buf (Elt Ideal) ℓ) (c : Dev nD)

theorem N_eq : cfg0.N = 704 := by decide +kernel
theorem idxH : ∀ t : Fin cfg0.N, win0_0.index t = ![t.val / 44, t.val / 11 % 4, 0] := (by decide +kernel : ∀ t : Fin grid0.N, _)
theorem idxA : ∀ t : Fin cfg0.N, win0_1.index t = ![0, t.val % 11] := (by decide +kernel : ∀ t : Fin grid0.N, _)
theorem idxU : ∀ t : Fin cfg0.N, win0_2.index t = ![0, 11 + t.val % 11] := (by decide +kernel : ∀ t : Fin grid0.N, _)
theorem idxO : ∀ t : Fin cfg0.N, win0_3.index t = ![t.val % 11, 0] := (by decide +kernel : ∀ t : Fin grid0.N, _)
theorem idxX : ∀ t : Fin cfg0.N, win0_4.index t = ![t.val / 44, t.val / 11 % 4, 0] := (by decide +kernel : ∀ t : Fin grid0.N, _)
theorem idxG : ∀ t : Fin cfg0.N, win0_5.index t = ![0, 0] := (by decide +kernel : ∀ t : Fin grid0.N, _)
theorem idxML : ∀ t : Fin cfg0.N, win0_6.index t = ![t.val / 44, 0, 0, 0] := (by decide +kernel : ∀ t : Fin grid0.N, _)
theorem idxMC : ∀ t : Fin cfg0.N, win0_7.index t = ![16, 0, 0, 0] := (by decide +kernel : ∀ t : Fin grid0.N, _)
theorem idxGN : ∀ t : Fin cfg0.N, win0_8.index t = ![0, 0] := (by decide +kernel : ∀ t : Fin grid0.N, _)
theorem idxNL : ∀ t : Fin cfg0.N, win0_9.index t = ![t.val / 44, 0, 0, 0] := (by decide +kernel : ∀ t : Fin grid0.N, _)
theorem idxNC : ∀ t : Fin cfg0.N, win0_10.index t = ![16, 0, 0, 0] := (by decide +kernel : ∀ t : Fin grid0.N, _)
theorem idxY : ∀ t : Fin cfg0.N, win0_11.index t = ![t.val / 44, t.val / 11 % 4, 0] := (by decide +kernel : ∀ t : Fin grid0.N, _)
theorem idxN : ∀ t : Fin cfg0.N, win0_12.index t = ![t.val / 44, t.val / 11 % 4, 0] := (by decide +kernel : ∀ t : Fin grid0.N, _)
theorem coord1 (t : Fin cfg0.N) : (grid0.coords t 1).val = t.val / 11 % 4 := Pipeline.Grid.coords_val t 1 (by decide) rfl

/-! The arguments by coordinates. -/
def fH (b : Fin 16) (r : Fin 2304) (d : Fin 2048) : EReal := (m ((c.tc : Thread nD τ).loc main_arg0) : FVec Ideal S16x2304x2048 .bf16) (ix3 b r d)
def fW (k : Fin 2048) (j : Fin 11264) : EReal := (m ((c.tc : Thread nD τ).loc main_arg1) : FVec Ideal S2048x11264 .bf16) (ix2 k j)
def fO (j : Fin 5632) (n : Fin 2048) : EReal := (m ((c.tc : Thread nD τ).loc main_arg2) : FVec Ideal S5632x2048 .bf16) (ix2 j n)
def fX (b : Fin 16) (r : Fin 2304) (d : Fin 2048) : EReal := (m ((c.tc : Thread nD τ).loc main_arg3) : FVec Ideal S16x2304x2048 .f32) (ix3 b r d)
def fG (n : Fin 2048) : EReal := (m ((c.tc : Thread nD τ).loc main_arg4) : FVec Ideal S2048 .f32) (ix1 n)
def fM (e : Fin 24) (k : Fin 6) (n : Fin 2048) : EReal := (m ((c.tc : Thread nD τ).loc main_arg5) : FVec Ideal S24x6x1x2048 .f32) (ix4 e k (0 : Fin 1) n)
def fGN (n : Fin 2048) : EReal := (m ((c.tc : Thread nD τ).loc main_arg6) : FVec Ideal S2048 .f32) (ix1 n)
def fMN (e : Fin 24) (k : Fin 6) (n : Fin 2048) : EReal := (m ((c.tc : Thread nD τ).loc main_arg7) : FVec Ideal S24x6x1x2048 .f32) (ix4 e k (0 : Fin 1) n)

/-! The place of a point's block. -/
def bOf (t : Fin cfg0.N) : Fin 16 := ⟨t.val / 44, by have := lt_of_lt_of_eq t.isLt N_eq; omega⟩
def rOf (t : Fin cfg0.N) (r : Fin 576) : Fin 2304 := ⟨t.val / 11 % 4 * 576 + r.val, by omega⟩
def jOf (t : Fin cfg0.N) (j : Fin 512) : Fin 5632 := ⟨t.val % 11 * 512 + j.val, by omega⟩

theorem h_at (t : Fin cfg0.N) (r : Fin 576) (d : Fin 2048) : (iblk m c 0 t : Vec Ideal S1x576x2048 .bf16) (ix3 (0 : Fin 1) r d) = fH m c (bOf t) (rOf t r) d := by
  unfold fH
  rw [← V_main_arg0 m c]
  unfold bOf rOf
  blk_ext [iblk, idxH t]
theorem a_at (t : Fin cfg0.N) (k : Fin 2048) (j : Fin 512) : (iblk m c 1 t : Vec Ideal S2048x512 .bf16) (ix2 k j) = fW m c k ⟨(jOf t j).val, by have := (jOf t j).isLt; omega⟩ := by
  unfold fW
  rw [← V_main_arg1 m c]
  unfold jOf
  blk_ext [iblk, idxA t]
theorem u_at (t : Fin cfg0.N) (k : Fin 2048) (j : Fin 512) : (iblk m c 2 t : Vec Ideal S2048x512 .bf16) (ix2 k j) = fW m c k ⟨5632 + (jOf t j).val, by have := (jOf t j).isLt; omega⟩ := by
  unfold fW
  rw [← V_main_arg1 m c]
  unfold jOf
  blk_ext [iblk, idxU t]
theorem o_at (t : Fin cfg0.N) (j : Fin 512) (n : Fin 2048) : (iblk m c 3 t : Vec Ideal S512x2048 .bf16) (ix2 j n) = fO m c (jOf t j) n := by
  unfold fO
  rw [← V_main_arg2 m c]
  unfold jOf
  blk_ext [iblk, idxO t]
theorem x_at (t : Fin cfg0.N) (r : Fin 576) (d : Fin 2048) : (iblk m c 4 t : Vec Ideal S1x576x2048 .f32) (ix3 (0 : Fin 1) r d) = fX m c (bOf t) (rOf t r) d := by
  unfold fX
  rw [← V_main_arg3 m c]
  unfold bOf rOf
  blk_ext [iblk, idxX t]
theorem V_g : V m c main_v0 = (shapeCast S1x2048 (m ((c.tc : Thread nD τ).loc main_arg4) : FVec Ideal S2048 .f32) shapeCasts_S2048_S1x2048 : FVec Ideal S1x2048 .f32) := by
  unfold V
  after_results
  rfl
theorem V_gn : V m c main_v1 = (shapeCast S1x2048 (m ((c.tc : Thread nD τ).loc main_arg6) : FVec Ideal S2048 .f32) shapeCasts_S2048_S1x2048 : FVec Ideal S1x2048 .f32) := by
  unfold V
  after_results
  rfl
theorem g_at (t : Fin cfg0.N) (n : Fin 2048) : (iblk m c 5 t : Vec Ideal S1x2048 .f32) (ix2 (0 : Fin 1) n) = fG m c n := by
  have e : (iblk m c 5 t : Vec Ideal S1x2048 .f32) (ix2 (0 : Fin 1) n) = (V m c main_v0 : FVec Ideal S1x2048 .f32) (ix2 (0 : Fin 1) n) := by
    blk_ext [iblk, idxG t]
  rw [e, V_g]
  pointwise [fG]
theorem gn_at (t : Fin cfg0.N) (n : Fin 2048) : (iblk m c 8 t : Vec Ideal S1x2048 .f32) (ix2 (0 : Fin 1) n) = fGN m c n := by
  have e : (iblk m c 8 t : Vec Ideal S1x2048 .f32) (ix2 (0 : Fin 1) n) = (V m c main_v1 : FVec Ideal S1x2048 .f32) (ix2 (0 : Fin 1) n) := by
    blk_ext [iblk, idxGN t]
  rw [e, V_gn]
  pointwise [fGN]
theorem ml_at (t : Fin cfg0.N) (k : Fin 6) (n : Fin 2048) : (iblk m c 6 t : Vec Ideal S1x6x1x2048 .f32) (ix4 (0 : Fin 1) k (0 : Fin 1) n) = fM m c ⟨(bOf t).val, by have := (bOf t).isLt; omega⟩ k n := by
  unfold fM
  rw [← V_main_arg5 m c]
  unfold bOf
  blk_ext [iblk, idxML t]
theorem mc_at (t : Fin cfg0.N) (k : Fin 6) (n : Fin 2048) : (iblk m c 7 t : Vec Ideal S1x6x1x2048 .f32) (ix4 (0 : Fin 1) k (0 : Fin 1) n) = fM m c 16 k n := by
  unfold fM
  rw [← V_main_arg5 m c]
  blk_ext [iblk, idxMC t]
theorem nl_at (t : Fin cfg0.N) (k : Fin 6) (n : Fin 2048) : (iblk m c 9 t : Vec Ideal S1x6x1x2048 .f32) (ix4 (0 : Fin 1) k (0 : Fin 1) n) = fMN m c ⟨(bOf t).val, by have := (bOf t).isLt; omega⟩ k n := by
  unfold fMN
  rw [← V_main_arg7 m c]
  unfold bOf
  blk_ext [iblk, idxNL t]
theorem nc_at (t : Fin cfg0.N) (k : Fin 6) (n : Fin 2048) : (iblk m c 10 t : Vec Ideal S1x6x1x2048 .f32) (ix4 (0 : Fin 1) k (0 : Fin 1) n) = fMN m c 16 k n := by
  unfold fMN
  rw [← V_main_arg7 m c]
  blk_ext [iblk, idxNC t]

/-- A point's step adds the shares of its slice. -/
theorem step_at (t : Fin cfg0.N) (r : Fin 576) (n : Fin 2048) (o : Vec Ideal S1x576x2048 .f32) :
    k0_pay2 (iblk m c 0 t) (iblk m c 1 t) (iblk m c 2 t) o (iblk m c 3 t) (ix3 (0 : Fin 1) r n)
      = o (ix3 (0 : Fin 1) r n) + ∑ j : Fin 512, share (fH m c) (fW m c) (fO m c) (bOf t) (rOf t r) n (jOf t j) := by
  refine (pay2_at _ _ _ _ _ r n).trans (congrArg (_ + ·) (Finset.sum_congr rfl fun j _ => ?_))
  unfold share lin
  simp only [h_at m c t, a_at m c t, u_at m c t, o_at m c t]

/-- The block after a point that is not a last one: the shares of the slices so far. -/
theorem acc_at (q : ℕ) (r : Fin 576) (n : Fin 2048) (B : Fin 16) (R : Fin 2304) (hB : B.val = q / 4) (hR : R.val = q % 4 * 576 + r.val) : ∀ (f : ℕ) (hf : f < 10) (t : Fin cfg0.N) (ht : t.val = q * 11 + f),
    (outsAt0 m c t.val t.isLt).1 (ix3 (0 : Fin 1) r n) = sliced (share (fH m c) (fW m c) (fO m c) B R n) (f + 1) := by
  intro f
  induction f with
  | zero =>
    intro hf t ht
    have hb : bOf t = B := Fin.ext (by show t.val / 44 = _; omega)
    have hr : rOf t r = R := Fin.ext (by show t.val / 11 % 4 * 576 + r.val = _; omega)
    rw [first_eq m c t (by omega)]
    refine (step_at m c t r n _).trans ?_
    rw [pay1_at, hb, hr, sliced_succ _ 0 (by omega), sliced_zero]
    refine congrArg (_ + ·) (Finset.sum_congr rfl fun j _ => congrArg _ (Fin.ext ?_))
    show t.val % 11 * 512 + j.val = 0 * 512 + j.val
    omega
  | succ f ih =>
    intro hf t ht
    have hb : bOf t = B := Fin.ext (by show t.val / 44 = _; omega)
    have hr : rOf t r = R := Fin.ext (by show t.val / 11 % 4 * 576 + r.val = _; omega)
    rw [middle_eq m c t (by omega) (by omega)]
    refine (step_at m c t r n _).trans ?_
    have hi := ih (by omega) ⟨t.val - 1, Nat.lt_of_le_of_lt (Nat.sub_le _ _) t.isLt⟩ (by show t.val - 1 = _; omega)
    rw [hb, hr, sliced_succ _ (f + 1) (by omega)]
    refine congr (congrArg (fun x y : EReal => x + y) hi) (Finset.sum_congr rfl fun j _ => congrArg _ (Fin.ext ?_))
    show t.val % 11 * 512 + j.val = (f + 1) * 512 + j.val
    omega

/-- At a last point all the shares are there. -/
theorem total_at (t : Fin cfg0.N) (h1 : t.val % 11 = 10) (r : Fin 576) (n : Fin 2048) :
    total m c t (ix3 (0 : Fin 1) r n) = through (fH m c) (fW m c) (fO m c) (bOf t) (rOf t r) n := by
  refine (step_at m c t r n _).trans ?_
  have hi := acc_at m c (t.val / 11) r n (bOf t) (rOf t r) (by show t.val / 44 = _; omega) rfl 9 (by omega) ⟨t.val - 1, Nat.lt_of_le_of_lt (Nat.sub_le _ _) t.isLt⟩ (by show t.val - 1 = _; omega)
  unfold through
  rw [← sliced_all, sliced_succ _ 10 (by omega)]
  refine congr (congrArg (fun x y : EReal => x + y) hi) (Finset.sum_congr rfl fun j _ => congrArg _ (Fin.ext ?_))
  show t.val % 11 * 512 + j.val = 10 * 512 + j.val
  omega

/-- The choice between a sequence's vector and the context's, at a row of a block. -/
theorem choice (t : Fin cfg0.N) (M : Fin 24 → Fin 6 → Fin 2048 → EReal) (k : Fin 6) (r : Fin 576) (n : Fin 2048) (mc ml : EReal) (hc : mc = M 16 k n) (hl : ml = M ⟨(bOf t).val, by have := (bOf t).isLt; omega⟩ k n) :
    (if k0_pay4 (BitVec.ofNat 32 (grid0.coords t 1).val) (ix2 r (0 : Fin 1)) = 1#1 then mc else ml) = modAt M k (bOf t) (rOf t r) n := by
  rw [coord1, mask_at _ (by omega), hc, hl]
  unfold modAt
  by_cases h : 2048 ≤ t.val / 11 % 4 * 576 + r.val
  · rw [if_pos h, if_pos rfl]
    exact (if_pos h).symm
  · rw [if_neg h, if_neg (by decide)]
    exact (if_neg h).symm

theorem rows_at (t : Fin cfg0.N) (h1 : t.val % 11 = 10) (r : Fin 576) (n : Fin 2048) :
    rows m c t (ix2 r n) = stream (fH m c) (fW m c) (fO m c) (fX m c) (fG m c) (fM m c) (bOf t) (rOf t r) n := by
  refine (pay5_at _ _ _ _ _ _ r n).trans ?_
  rw [choice t (fM m c) 5 r n _ _ ((pick_at 5 _ _ 5 rfl n).trans (mc_at m c t 5 n)) ((pick_at 5 _ _ 5 rfl n).trans (ml_at m c t 5 n))]
  simp only [x_at m c t, total_at m c t h1, g_at m c t]
  rfl

theorem next_at (t : Fin cfg0.N) (h1 : t.val % 11 = 10) (r : Fin 576) (n : Fin 2048) :
    (outsAt0 m c t.val t.isLt).2 (ix3 (0 : Fin 1) r n) = next (fH m c) (fW m c) (fO m c) (fX m c) (fG m c) (fGN m c) (fM m c) (fMN m c) (bOf t) (rOf t r) n := by
  rw [next_eq m c t (by omega) h1]
  refine (pay3_at _ _ _ _ r n).trans ?_
  rw [choice t (fMN m c) 0 r n _ _ ((pick_at 0 _ _ 0 rfl n).trans (nc_at m c t 0 n)) ((pick_at 0 _ _ 0 rfl n).trans (nl_at m c t 0 n)), pay7_at,
    choice t (fMN m c) 1 r n _ _ ((pick_at 1 _ _ 1 rfl n).trans (nc_at m c t 1 n)) ((pick_at 1 _ _ 1 rfl n).trans (nl_at m c t 1 n))]
  simp only [rows_at m c t h1, gn_at m c t]
  rfl

theorem final : (dats m 0 c).arrAt 11 cfg0.N = fun i : S16x2304x2048.Idx => stream (fH m c) (fW m c) (fO m c) (fX m c) (fG m c) (fM m c) (i 0) (i 1) (i 2) := by
  refine (dats m 0 c).arrAt_eq_of_covers 11 _ (by decide +kernel) fun t hf y => ?_
  have h1 := (flush0_11 t).mp hf
  blk_simp
  rw [after0_11]
  idx_vars y
  obtain rfl : y0 = 0 := Subsingleton.elim _ _
  have he : ((View.whole main_v2_0).slice (win0_11.rect t)).emb (ix3 (0 : Fin 1) y1 y2) = ix3 (bOf t) (rOf t y1) y2 := by
    unfold bOf rOf
    blk_ext [idxY t]
  rw [he, last_eq m c t (by omega) h1]
  refine Eq.trans ?_ (rows_at m c t h1 y1 y2)
  pointwise [k0_pay6]

theorem final_next : (dats m 0 c).arrAt 12 cfg0.N = fun i : S16x2304x2048.Idx => next (fH m c) (fW m c) (fO m c) (fX m c) (fG m c) (fGN m c) (fM m c) (fMN m c) (i 0) (i 1) (i 2) := by
  refine (dats m 0 c).arrAt_eq_of_covers 12 _ (by decide +kernel) fun t hf y => ?_
  have h1 := (flush0_12 t).mp hf
  blk_simp
  rw [after0_12]
  idx_vars y
  obtain rfl : y0 = 0 := Subsingleton.elim _ _
  have he : ((View.whole main_v2_1).slice (win0_12.rect t)).emb (ix3 (0 : Fin 1) y1 y2) = ix3 (bOf t) (rOf t y1) y2 := by
    unfold bOf rOf
    blk_ext [idxN t]
  rw [he]
  exact next_at m c t h1 y1 y2
end Cert.FfnIdeal.Value
-- ==== Proof.FfnRefRows.lean ====
module
public import proofs.«01_k».proof.Proof.Gen.FfnRefIdeal.Run
public import proofs.«01_k».proof.Proof.Dense
public import Idealize.ShloMosaic.Lib.Pipeline.ValueKit
@[expose] public section
set_option maxRecDepth 16384
noncomputable section
open Idealize.ShloMosaic Idealize.ShloMosaic.TcCoe Idealize.SL.Sem
namespace Cert.FfnRefIdeal.Value
open Cert.FfnRefIdeal Cert.FfnRefIdeal.Gen Cert.Dense
open scoped BigOperators
/-! The reference of the dense feed-forward part. -/

/-- The rows against the first weights. -/
def refLin (H : FVec Ideal S16x2304x2048 .bf16) (W : FVec Ideal S2048x11264 .bf16) : FVec Ideal S16x2304x11264 .f32 :=
  Host.dotGeneral dot_S16x2304x2048_S2048x11264_S16x2304x11264_2_0_01_1_n_n none (extf .f32 H bitsLt_bf16_f32) (extf .f32 W bitsLt_bf16_f32)
/-- The gated hidden layer against the second weights. -/
def refHidden (L : FVec Ideal S16x2304x11264 .f32) (O : FVec Ideal S5632x2048 .bf16) : FVec Ideal S16x2304x2048 .f32 :=
  Host.dotGeneral dot_S16x2304x5632_S5632x2048_S16x2304x2048_2_0_01_1_n_n none (mulf (mulf (extractStridedSlice S16x2304x5632 ![0, 0, 0] L slices_S16x2304x11264_S16x2304x5632_0_0_0) (Host.divf (broadcastInDim S16x2304x5632 ![] bcast_S_S16x2304x5632 (constant S_ .f32 0x3F800000#32)) (addf (broadcastInDim S16x2304x5632 ![] bcast_S_S16x2304x5632 (constant S_ .f32 0x3F800000#32)) (Host.exp (Host.negf (extractStridedSlice S16x2304x5632 ![0, 0, 0] L slices_S16x2304x11264_S16x2304x5632_0_0_0)))))) (extractStridedSlice S16x2304x5632 ![0, 0, 5632] L slices_S16x2304x11264_S16x2304x5632_0_0_5632)) (extf .f32 O bitsLt_bf16_f32)
/-- Rows normed and weighted. -/
def refNorm (Y : FVec Ideal S16x2304x2048 .f32) (G : FVec Ideal S2048 .f32) : FVec Ideal S16x2304x2048 .f32 :=
  mulf (mulf Y (broadcastInDim S16x2304x2048 ![0, 1, 2] bcast_S16x2304x1_S16x2304x2048_0_1_2 (Host.rsqrt (addf (Host.divf (broadcastInDim S16x2304x1 ![0, 1] bcast_S16x2304_S16x2304x1_0_1 (Host.reduceAdd (mulf Y Y) (constant S_ .f32 0x00000000#32) reducesTo_S16x2304x2048_S16x2304_d2 h_S_)) (broadcastInDim S16x2304x1 ![] bcast_S_S16x2304x1 (constant S_ .f32 0x45000000#32))) (broadcastInDim S16x2304x1 ![] bcast_S_S16x2304x1 (constant S_ .f32 0x358637BD#32)))))) (broadcastInDim S16x2304x2048 ![0, 1, 2] bcast_S1x1x2048_S16x2304x2048_0_1_2 (broadcastInDim S1x1x2048 ![2] bcast_S2048_S1x1x2048_2 G))
/-- A modulation vector at every token. -/
def refMod (M : FVec Ideal S24x6x1x2048 .f32) (k : ℕ) (hk : S24x6x1x2048.Slices ![0, k, 0, 0] S16x1x1x2048) (hc : S24x6x1x2048.Slices ![16, k, 0, 0] S1x1x1x2048) : FVec Ideal S16x2304x2048 .f32 :=
  concatenate S16x2304x2048 1 [⟨S16x2048x2048, (broadcastInDim S16x2048x2048 ![0, 1, 2] bcast_S16x1x2048_S16x2048x2048_0_1_2 (shapeCast _ (extractStridedSlice S16x1x1x2048 ![0, k, 0, 0] M hk) shapeCasts_S16x1x1x2048_S16x1x2048))⟩, ⟨S16x256x2048, (broadcastInDim S16x256x2048 ![1, 2] bcast_S1x2048_S16x256x2048_1_2 (shapeCast _ (extractStridedSlice S1x1x1x2048 ![16, k, 0, 0] M hc) shapeCasts_S1x1x1x2048_S1x2048))⟩] concatenates_S16x2048x2048_S16x256x2048_S16x2304x2048_d1
/-- The stream after the layer. -/
def refStream (H : FVec Ideal S16x2304x2048 .bf16) (W : FVec Ideal S2048x11264 .bf16) (O : FVec Ideal S5632x2048 .bf16) (X : FVec Ideal S16x2304x2048 .f32) (G : FVec Ideal S2048 .f32) (M : FVec Ideal S24x6x1x2048 .f32) : FVec Ideal S16x2304x2048 .f32 :=
  addf X (mulf (refMod M 5 slices_S24x6x1x2048_S16x1x1x2048_0_5_0_0 slices_S24x6x1x2048_S1x1x1x2048_16_5_0_0) (refNorm (refHidden (refLin H W) O) G))
/-- The next layer's input. -/
def refNext (Y : FVec Ideal S16x2304x2048 .f32) (G : FVec Ideal S2048 .f32) (M : FVec Ideal S24x6x1x2048 .f32) : FVec Ideal S16x2304x2048 .bf16 :=
  truncf .bf16 (addf (mulf (refNorm Y G) (addf (broadcastInDim S16x2304x2048 ![] bcast_S_S16x2304x2048 (constant S_ .f32 0x3F800000#32)) (refMod M 1 slices_S24x6x1x2048_S16x1x1x2048_0_1_0_0 slices_S24x6x1x2048_S1x1x1x2048_16_1_0_0))) (refMod M 0 slices_S24x6x1x2048_S16x1x1x2048_0_0_0_0 slices_S24x6x1x2048_S1x1x1x2048_16_0_0_0)) bitsLt_bf16_f32

theorem lin_at (H W) (b : Fin 16) (r : Fin 2304) (j : Fin 11264) : refLin H W (ix3 b r j) = ∑ k : Fin 2048, (H (ix3 b r k) : EReal) * W (ix2 k j) := by
  pointwise [refLin]
theorem hidden_at (L O) (b : Fin 16) (r : Fin 2304) (n : Fin 2048) : refHidden L O (ix3 b r n) = ∑ j : Fin 5632, (L (ix3 b r (⟨j.val, by omega⟩ : Fin 11264)) : EReal)
      * Ideal.logistic (L (ix3 b r (⟨j.val, by omega⟩ : Fin 11264))) * L (ix3 b r (⟨5632 + j.val, by omega⟩ : Fin 11264)) * O (ix2 j n) := by
  pointwise [refHidden]
  rfl
theorem norm_at (Y G) (b : Fin 16) (r : Fin 2304) (n : Fin 2048) : refNorm Y G (ix3 b r n) = normed (fun k => Y (ix3 b r k)) (fun k => G (ix1 k)) n := by
  pointwise [refNorm, normed, scale]
theorem mod_at (M k hk hc) (K : Fin 6) (hK : K.val = k) (b : Fin 16) (r : Fin 2304) (n : Fin 2048) : refMod M k hk hc (ix3 b r n) = modAt (fun e k n => M (ix4 e k (0 : Fin 1) n)) K b r n := by
  subst hK
  unfold modAt
  by_cases h : 2048 ≤ r.val
  · rw [if_pos h]
    pointwise [refMod]
    exact dif_neg (by omega)
  · rw [if_neg h]
    pointwise [refMod]
    exact dif_pos (by omega)
theorem stream_at (H W O X G M) (b : Fin 16) (r : Fin 2304) (n : Fin 2048) :
    refStream H W O X G M (ix3 b r n) = stream (fun b r k => H (ix3 b r k)) (fun k j => W (ix2 k j)) (fun j n => O (ix2 j n)) (fun b r n => X (ix3 b r n)) (fun k => G (ix1 k)) (fun e k n => M (ix4 e k (0 : Fin 1) n)) b r n := by
  have eh : ∀ k, refHidden (refLin H W) O (ix3 b r k) = through (fun b r k => H (ix3 b r k)) (fun k j => W (ix2 k j)) (fun j n => O (ix2 j n)) b r k := fun k => by
    rw [hidden_at]
    simp only [lin_at]
    rfl
  have em := mod_at M 5 slices_S24x6x1x2048_S16x1x1x2048_0_5_0_0 slices_S24x6x1x2048_S1x1x1x2048_16_5_0_0 5 rfl b r n
  have en := norm_at (refHidden (refLin H W) O) G b r n
  simp only [eh] at en
  exact congrArg (fun y : EReal => X (ix3 b r n) + y) (congr (congrArg (fun x y : EReal => x * y) em) en)
theorem next_at (Y G M) (b : Fin 16) (r : Fin 2304) (n : Fin 2048) :
    refNext Y G M (ix3 b r n) = normed (fun k => Y (ix3 b r k)) (fun k => G (ix1 k)) n * (1 + modAt (fun e k n => M (ix4 e k (0 : Fin 1) n)) 1 b r n) + modAt (fun e k n => M (ix4 e k (0 : Fin 1) n)) 0 b r n := by
  have e1 := mod_at M 1 slices_S24x6x1x2048_S16x1x1x2048_0_1_0_0 slices_S24x6x1x2048_S1x1x1x2048_16_1_0_0 1 rfl b r n
  have e0 := mod_at M 0 slices_S24x6x1x2048_S16x1x1x2048_0_0_0_0 slices_S24x6x1x2048_S1x1x1x2048_16_0_0_0 0 rfl b r n
  rw [← norm_at, ← e1, ← e0]
  pointwise [refNext]

theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v30)
        = refStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v62)
        = refNext (refStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨⟨(h c).1.trans rfl, (h c).2.1.trans rfl⟩, (h c).2.2⟩) (run m ρ)
end Cert.FfnRefIdeal.Value
-- ==== Proof.FfnClaim.lean ====
module
public import proofs.«01_k».proof.Proof.FfnIdealValue
public import proofs.«01_k».proof.Proof.FfnRefRows
public import proofs.«01_k».proof.Defs
public import Idealize.ShloMosaic.Lib.Claim
@[expose] public section
set_option maxRecDepth 16384
noncomputable section
open Idealize.ShloMosaic Idealize.ShloMosaic.TcCoe Idealize.SL.Sem
namespace Cert.FfnClaim
open Cert.FfnIdeal.Value Cert.FfnRefIdeal.Value Cert.Dense
/-! The dense feed-forward part of the kernel and of the reference agree. -/

theorem quiet_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run_all m g)

theorem algebraic : Cert.algebraic_FfnIdeal_FfnRefIdeal := by
  pair_intro
  · run_from Cert.FfnIdeal.Value.run_blocks m g
  · run_from Cert.FfnRefIdeal.Value.run_all m' g'
    · refine Eq.trans ?_ (final m c).symm
      funext i
      idx_vars i
      exact stream_at _ _ _ _ _ _ i0 i1 i2
    · refine Eq.trans ?_ (final_next m c).symm
      funext i
      idx_vars i
      refine (Cert.FfnRefIdeal.Value.next_at _ _ _ i0 i1 i2).trans ?_
      simp only [stream_at]
      rfl
end Cert.FfnClaim
-- ==== Proof.LastIdealValue.lean ====
module
public import proofs.«01_k».proof.Proof.Gen.LastIdeal.Value
public import proofs.«01_k».proof.Proof.Merged
public import Idealize.ShloMosaic.Lib.Pipeline.ValueKit
@[expose] public section
set_option maxRecDepth 16384
noncomputable section
open Idealize.ShloMosaic Idealize.ShloMosaic.TcCoe Idealize.SL.Sem
namespace Cert.LastIdeal.Value
open Cert.LastIdeal Cert.LastIdeal.Gen Cert.Merged
open scoped BigOperators
/-! The result array of the last layer's merge: the latent rows only, of an input that has the context's too. -/

/-- One branch in a block. -/
def branchAt (h : Vec Ideal S1x1024x2048 .bf16) (o : Vec Ideal S1x1024x1024 .bf16) (g : Vec Ideal S2048x512 .bf16) (w : Vec Ideal S3x1024x512 .bf16) (k : Fin 3) (r : Fin 1024) (n : Fin 512) : EReal :=
  Ideal.logistic (∑ d : Fin 2048, (h (ix3 (0 : Fin 1) r d) : EReal) * g (ix2 d n)) * ∑ e : Fin 1024, (o (ix3 (0 : Fin 1) r e) : EReal) * w (ix3 k e n)

theorem pay_at (h : Vec Ideal S1x1024x2048 .bf16) (oa ob oc : Vec Ideal S1x1024x1024 .bf16) (ga gb gc : Vec Ideal S2048x512 .bf16) (w : Vec Ideal S3x1024x512 .bf16) (r : Fin 1024) (n : Fin 512) :
    k0_pay1 (k0_pay3 h ga oa (View.ld w (Rect.unit (s := S3x1024x512) ![0, 0, 0] S1x1024x512.size inb_S3x1024x512_S1x1024x512_0_0_0)) gb ob (View.ld w (Rect.unit (s := S3x1024x512) ![1, 0, 0] S1x1024x512.size inb_S3x1024x512_S1x1024x512_1_0_0)))
      (k0_pay4 h gc) (k0_pay5 oc) (View.ld w (Rect.unit (s := S3x1024x512) ![2, 0, 0] S1x1024x512.size inb_S3x1024x512_S1x1024x512_2_0_0)) (ix3 (0 : Fin 1) r n) = branchAt h oa ga w 0 r n + branchAt h ob gb w 1 r n + branchAt h oc gc w 2 r n := by
  unfold branchAt
  pointwise [k0_pay1, k0_pay2, k0_pay3, k0_pay4, k0_pay5]

variable (m : (ℓ : Loc nD τ sig) → Buf (Elt Ideal) ℓ) (c : Dev nD)

theorem N_eq : cfg0.N = 128 := by decide +kernel
theorem idxH : ∀ t : Fin cfg0.N, win0_0.index t = ![t.val / 8, t.val / 4 % 2, 0] := (by decide +kernel : ∀ t : Fin grid0.N, _)
theorem idxA : ∀ t : Fin cfg0.N, win0_1.index t = ![t.val / 8, t.val / 4 % 2, 0] := (by decide +kernel : ∀ t : Fin grid0.N, _)
theorem idxB : ∀ t : Fin cfg0.N, win0_2.index t = ![t.val / 8, t.val / 4 % 2, 0] := (by decide +kernel : ∀ t : Fin grid0.N, _)
theorem idxC : ∀ t : Fin cfg0.N, win0_3.index t = ![t.val / 8, t.val / 4 % 2, 0] := (by decide +kernel : ∀ t : Fin grid0.N, _)
theorem idxGA : ∀ t : Fin cfg0.N, win0_4.index t = ![0, t.val % 4] := (by decide +kernel : ∀ t : Fin grid0.N, _)
theorem idxGB : ∀ t : Fin cfg0.N, win0_5.index t = ![0, 4 + t.val % 4] := (by decide +kernel : ∀ t : Fin grid0.N, _)
theorem idxGC : ∀ t : Fin cfg0.N, win0_6.index t = ![0, 8 + t.val % 4] := (by decide +kernel : ∀ t : Fin grid0.N, _)
theorem idxW : ∀ t : Fin cfg0.N, win0_7.index t = ![0, 0, t.val % 4] := (by decide +kernel : ∀ t : Fin grid0.N, _)
theorem idxY : ∀ t : Fin cfg0.N, win0_8.index t = ![t.val / 8, t.val / 4 % 2, t.val % 4] := (by decide +kernel : ∀ t : Fin grid0.N, _)

/-! The arguments by coordinates. -/
def fH (b : Fin 16) (r : Fin 2048) (d : Fin 2048) : EReal := (m ((c.tc : Thread nD τ).loc main_arg0) : FVec Ideal S16x2304x2048 .bf16) (ix3 b (⟨r.val, by omega⟩ : Fin 2304) d)
def fA (b : Fin 16) (r : Fin 2048) (d : Fin 1024) : EReal := (m ((c.tc : Thread nD τ).loc main_arg1) : FVec Ideal S16x2048x1024 .bf16) (ix3 b r d)
def fB (b : Fin 16) (r : Fin 2048) (d : Fin 1024) : EReal := (m ((c.tc : Thread nD τ).loc main_arg2) : FVec Ideal S16x2048x1024 .bf16) (ix3 b r d)
def fC (b : Fin 16) (r : Fin 2048) (d : Fin 1024) : EReal := (m ((c.tc : Thread nD τ).loc main_arg3) : FVec Ideal S16x2048x1024 .bf16) (ix3 b r d)
def fG (d : Fin 2048) (n : Fin 6144) : EReal := (m ((c.tc : Thread nD τ).loc main_arg4) : FVec Ideal S2048x6144 .bf16) (ix2 d n)
def fW (k : Fin 3) (e : Fin 1024) (n : Fin 2048) : EReal := (m ((c.tc : Thread nD τ).loc main_arg5) : FVec Ideal S3x1024x2048 .bf16) (ix3 k e n)

/-! The place of a point's block. -/
def bOf (t : Fin cfg0.N) : Fin 16 := ⟨t.val / 8, by have := lt_of_lt_of_eq t.isLt N_eq; omega⟩
def rOf (t : Fin cfg0.N) (r : Fin 1024) : Fin 2048 := ⟨t.val / 4 % 2 * 1024 + r.val, by omega⟩
def nOf (t : Fin cfg0.N) (n : Fin 512) : Fin 2048 := ⟨t.val % 4 * 512 + n.val, by omega⟩

theorem h_at (t : Fin cfg0.N) (r : Fin 1024) (d : Fin 2048) : (X0_0 m c t : Vec Ideal S1x1024x2048 .bf16) (ix3 (0 : Fin 1) r d) = fH m c (bOf t) (rOf t r) d := by
  unfold fH bOf rOf X0_0 Pipeline.Window.fill
  refine (dif_pos (moved0_0 t _)).trans ?_
  blk_ext [iblk, V, idxH t]
theorem a_at (t : Fin cfg0.N) (r : Fin 1024) (d : Fin 1024) : (iblk m c 1 t : Vec Ideal S1x1024x1024 .bf16) (ix3 (0 : Fin 1) r d) = fA m c (bOf t) (rOf t r) d := by
  unfold fA bOf rOf
  blk_ext [iblk, V, idxA t]
theorem b_at (t : Fin cfg0.N) (r : Fin 1024) (d : Fin 1024) : (iblk m c 2 t : Vec Ideal S1x1024x1024 .bf16) (ix3 (0 : Fin 1) r d) = fB m c (bOf t) (rOf t r) d := by
  unfold fB bOf rOf
  blk_ext [iblk, V, idxB t]
theorem c_at (t : Fin cfg0.N) (r : Fin 1024) (d : Fin 1024) : (iblk m c 3 t : Vec Ideal S1x1024x1024 .bf16) (ix3 (0 : Fin 1) r d) = fC m c (bOf t) (rOf t r) d := by
  unfold fC bOf rOf
  blk_ext [iblk, V, idxC t]
theorem ga_at (t : Fin cfg0.N) (d : Fin 2048) (n : Fin 512) : (iblk m c 4 t : Vec Ideal S2048x512 .bf16) (ix2 d n) = fG m c d ⟨0 * 2048 + (nOf t n).val, by have := (nOf t n).isLt; omega⟩ := by
  unfold fG nOf
  blk_ext [iblk, V, idxGA t]
theorem gb_at (t : Fin cfg0.N) (d : Fin 2048) (n : Fin 512) : (iblk m c 5 t : Vec Ideal S2048x512 .bf16) (ix2 d n) = fG m c d ⟨1 * 2048 + (nOf t n).val, by have := (nOf t n).isLt; omega⟩ := by
  unfold fG nOf
  blk_ext [iblk, V, idxGB t]
theorem gc_at (t : Fin cfg0.N) (d : Fin 2048) (n : Fin 512) : (iblk m c 6 t : Vec Ideal S2048x512 .bf16) (ix2 d n) = fG m c d ⟨2 * 2048 + (nOf t n).val, by have := (nOf t n).isLt; omega⟩ := by
  unfold fG nOf
  blk_ext [iblk, V, idxGC t]
theorem w_at (t : Fin cfg0.N) (k : Fin 3) (e : Fin 1024) (n : Fin 512) : (iblk m c 7 t : Vec Ideal S3x1024x512 .bf16) (ix3 k e n) = fW m c k e (nOf t n) := by
  unfold fW nOf
  blk_ext [iblk, V, idxW t]

/-- What a point leaves. -/
theorem out_eq (t : Fin cfg0.N) : outsAt0 m c t = k0_pay1 (k0_pay3 (X0_0 m c t) (iblk m c 4 t) (iblk m c 1 t) (View.ld (iblk m c 7 t) (Rect.unit (s := S3x1024x512) ![0, 0, 0] S1x1024x512.size inb_S3x1024x512_S1x1024x512_0_0_0)) (iblk m c 5 t) (iblk m c 2 t) (View.ld (iblk m c 7 t) (Rect.unit (s := S3x1024x512) ![1, 0, 0] S1x1024x512.size inb_S3x1024x512_S1x1024x512_1_0_0)))
    (k0_pay4 (X0_0 m c t) (iblk m c 6 t)) (k0_pay5 (iblk m c 3 t)) (View.ld (iblk m c 7 t) (Rect.unit (s := S3x1024x512) ![2, 0, 0] S1x1024x512.size inb_S3x1024x512_S1x1024x512_2_0_0)) := by
  unfold outsAt0
  frame_out
  rfl

theorem final : (dats m 0 c).arrAt 8 cfg0.N = fun i : S16x2048x2048.Idx => merged (fH m c) (fG m c) (fW m c) (fA m c) (fB m c) (fC m c) (i 0) (i 1) (i 2) := by
  refine (dats m 0 c).arrAt_eq_of_covers 8 _ (by decide +kernel) fun t hf y => ?_
  blk_simp
  rw [after0_8]
  idx_vars y
  obtain rfl : y0 = 0 := Subsingleton.elim _ _
  have he : ((View.whole main_v0).slice (win0_8.rect t)).emb (ix3 (0 : Fin 1) y1 y2) = ix3 (bOf t) (rOf t y1) (nOf t y2) := by
    unfold bOf rOf nOf
    blk_ext [idxY t]
  rw [he, out_eq]
  refine (pay_at _ _ _ _ _ _ _ _ y1 y2).trans ?_
  show _ = merged _ _ _ _ _ _ (bOf t) (rOf t y1) (nOf t y2)
  unfold merged gated branchAt
  simp only [h_at m c t, a_at m c t, b_at m c t, c_at m c t, ga_at m c t, gb_at m c t, gc_at m c t, w_at m c t]
  rfl
end Cert.LastIdeal.Value
-- ==== Proof.LastRefRows.lean ====
module
public import proofs.«01_k».proof.Proof.Gen.LastRefIdeal.Run
public import proofs.«01_k».proof.Proof.Merged
public import Idealize.ShloMosaic.Lib.Pipeline.ValueKit
@[expose] public section
set_option maxRecDepth 16384
noncomputable section
open Idealize.ShloMosaic Idealize.ShloMosaic.TcCoe Idealize.SL.Sem
namespace Cert.LastRefIdeal.Value
open Cert.LastRefIdeal Cert.LastRefIdeal.Gen Cert.Merged
open scoped BigOperators
/-! The reference of the last layer's merge. -/

/-- The input's latent rows. -/
def refLat (H : FVec Ideal S16x2304x2048 .bf16) : FVec Ideal S16x2048x2048 .bf16 := extractStridedSlice S16x2048x2048 ![0, 0, 0] H slices_S16x2304x2048_S16x2048x2048_0_0_0
/-- The gates of all branches. -/
def refGates (H : FVec Ideal S16x2048x2048 .bf16) (G : FVec Ideal S2048x6144 .bf16) : FVec Ideal S16x2048x6144 .f32 :=
  Host.divf (broadcastInDim S16x2048x6144 ![] bcast_S_S16x2048x6144 (constant S_ .f32 0x3F800000#32)) (addf (broadcastInDim S16x2048x6144 ![] bcast_S_S16x2048x6144 (constant S_ .f32 0x3F800000#32)) (Host.exp (Host.negf (Host.dotGeneral dot_S16x2048x2048_S2048x6144_S16x2048x6144_2_0_01_1_n_n none (extf .f32 H bitsLt_bf16_f32) (extf .f32 G bitsLt_bf16_f32)))))
/-- A branch's projection times its gates. -/
def refBranch (S : FVec Ideal S16x2048x6144 .f32) (O : FVec Ideal S16x2048x1024 .bf16) (W : FVec Ideal S3x1024x2048 .bf16) (q k : ℕ) (hq : S16x2048x6144.Slices ![0, 0, q] S16x2048x2048) (hk : S3x1024x2048.Slices ![k, 0, 0] S1x1024x2048) : FVec Ideal S16x2048x2048 .f32 :=
  mulf (extractStridedSlice S16x2048x2048 ![0, 0, q] S hq) (Host.dotGeneral dot_S16x2048x1024_S1024x2048_S16x2048x2048_2_0_01_1_n_n none (extf .f32 O bitsLt_bf16_f32) (shapeCast _ (extractStridedSlice S1x1024x2048 ![k, 0, 0] (extf .f32 W bitsLt_bf16_f32) hk) shapeCasts_S1x1024x2048_S1024x2048))
/-- The whole reference. -/
def refAll (H : FVec Ideal S16x2048x2048 .bf16) (A B C : FVec Ideal S16x2048x1024 .bf16) (G : FVec Ideal S2048x6144 .bf16) (W : FVec Ideal S3x1024x2048 .bf16) : FVec Ideal S16x2048x2048 .bf16 :=
  truncf .bf16 (addf (addf (refBranch (refGates H G) A W 0 0 slices_S16x2048x6144_S16x2048x2048_0_0_0 slices_S3x1024x2048_S1x1024x2048_0_0_0)
    (refBranch (refGates H G) B W 2048 1 slices_S16x2048x6144_S16x2048x2048_0_0_2048 slices_S3x1024x2048_S1x1024x2048_1_0_0))
    (refBranch (refGates H G) C W 4096 2 slices_S16x2048x6144_S16x2048x2048_0_0_4096 slices_S3x1024x2048_S1x1024x2048_2_0_0)) bitsLt_bf16_f32

theorem lat_at (H) (b : Fin 16) (r : Fin 2048) (d : Fin 2048) : refLat H (ix3 b r d) = H (ix3 b (⟨r.val, by omega⟩ : Fin 2304) d) := by
  pointwise [refLat]
theorem gates_at (H G) (b : Fin 16) (r : Fin 2048) (n : Fin 6144) : refGates H G (ix3 b r n) = Ideal.logistic (∑ d : Fin 2048, (H (ix3 b r d) : EReal) * G (ix2 d n)) := by
  pointwise [refGates]
  rfl
theorem branch_at (S O W q k hq hk) (K : Fin 3) (hK : K.val = k) (b : Fin 16) (r : Fin 2048) (n : Fin 2048) (J : Fin 6144) (hJ : J.val = q + n.val) :
    refBranch S O W q k hq hk (ix3 b r n) = (S (ix3 b r J) : EReal) * ∑ e : Fin 1024, (O (ix3 b r e) : EReal) * W (ix3 K e n) := by
  subst hK
  have hlt : q + n.val < 6144 := hJ ▸ J.isLt
  obtain rfl : J = ⟨q + n.val, hlt⟩ := Fin.ext hJ
  pointwise [refBranch]
theorem res_at (H A B C G W) (b : Fin 16) (r : Fin 2048) (n : Fin 2048) :
    refAll H A B C G W (ix3 b r n) = merged (fun b r d => H (ix3 b r d)) (fun d n => G (ix2 d n)) (fun k e n => W (ix3 k e n)) (fun b r d => A (ix3 b r d)) (fun b r d => B (ix3 b r d)) (fun b r d => C (ix3 b r d)) b r n := by
  have e0 := branch_at (refGates H G) A W 0 0 slices_S16x2048x6144_S16x2048x2048_0_0_0 slices_S3x1024x2048_S1x1024x2048_0_0_0 0 rfl b r n ⟨0 * 2048 + n.val, by omega⟩ (by show 0 * 2048 + n.val = _; omega)
  have e1 := branch_at (refGates H G) B W 2048 1 slices_S16x2048x6144_S16x2048x2048_0_0_2048 slices_S3x1024x2048_S1x1024x2048_1_0_0 1 rfl b r n ⟨1 * 2048 + n.val, by omega⟩ (by show 1 * 2048 + n.val = _; omega)
  have e2 := branch_at (refGates H G) C W 4096 2 slices_S16x2048x6144_S16x2048x2048_0_0_4096 slices_S3x1024x2048_S1x1024x2048_2_0_0 2 rfl b r n ⟨2 * 2048 + n.val, by omega⟩ (by show 2 * 2048 + n.val = _; omega)
  rw [gates_at] at e0 e1 e2
  exact congr (congrArg (fun x y : EReal => x + y) (congr (congrArg (fun x y : EReal => x + y) e0) e1)) e2

theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = refAll (refLat (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (run m ρ)
end Cert.LastRefIdeal.Value
-- ==== Proof.LastClaim.lean ====
module
public import proofs.«01_k».proof.Proof.LastIdealValue
public import proofs.«01_k».proof.Proof.LastRefRows
public import proofs.«01_k».proof.Defs
public import Idealize.ShloMosaic.Lib.Claim
@[expose] public section
set_option maxRecDepth 16384
noncomputable section
open Idealize.ShloMosaic Idealize.ShloMosaic.TcCoe Idealize.SL.Sem
namespace Cert.LastClaim
open Cert.LastIdeal.Value Cert.LastRefIdeal.Value Cert.Merged
/-! The merged branches of the last layer agree. -/

theorem quiet_ref : Cert.quiescent_LastRefIdeal := fun m g _ =>
  (θ_run Cert.LastRefIdeal.defs _ _).mono (fun r h => ⟨fun c => (h c).2, sem_eq_zero_of_no_sems (by decide) r.2⟩)
    (Cert.LastRefIdeal.Value.run_all m g)

theorem algebraic : Cert.algebraic_LastIdeal_LastRefIdeal := by
  pair_intro
  · run_from Cert.LastIdeal.Value.run_blocks m g
  · run_from Cert.LastRefIdeal.Value.run_all m' g'
    refine Eq.trans ?_ (final m c).symm
    funext i
    idx_vars i
    refine (res_at _ _ _ _ _ _ i0 i1 i2).trans ?_
    simp only [lat_at]
    rfl
end Cert.LastClaim
-- ==== Proof.Residual.lean ====
module
public import proofs.«01_k».proof.Proof.Dense
@[expose] public section
noncomputable section
open Idealize.ShloMosaic
namespace Cert.Residual
open Cert.Dense
open scoped BigOperators
/-! The output projection of the merged branches, added to the stream, and the input of the feed-forward part. -/

variable (Y : Fin 16 → Fin 2304 → Fin 2048 → EReal) (W : Fin 2048 → Fin 2048 → EReal)

/-- The merged branches projected. -/
def projected (b : Fin 16) (r : Fin 2304) (n : Fin 2048) : EReal := ∑ k : Fin 2048, Y b r k * W k n

variable (X : Fin 16 → Fin 2304 → Fin 2048 → EReal) (g g' : Fin 2048 → EReal) (M : Fin 24 → Fin 6 → Fin 2048 → EReal)

/-- The stream after the mixing of the tokens. -/
def mixed (b : Fin 16) (r : Fin 2304) (n : Fin 2048) : EReal := X b r n + modAt M 2 b r n * normed (projected Y W b r) g n

/-- The input of the feed-forward part. -/
def entry (b : Fin 16) (r : Fin 2304) (n : Fin 2048) : EReal :=
  normed (mixed Y W X g M b r) g' n * (1 + modAt M 4 b r n) + modAt M 3 b r n
end Cert.Residual
-- ==== Proof.ResidIdealValue.lean ====
module
public import proofs.«01_k».proof.Proof.Gen.ResidIdeal.Value
public import proofs.«01_k».proof.Proof.Residual
public import Idealize.ShloMosaic.Lib.Pipeline.ValueKit
@[expose] public section
set_option maxRecDepth 16384
noncomputable section
open Idealize.ShloMosaic Idealize.ShloMosaic.TcCoe Idealize.SL.Sem
namespace Cert.ResidIdeal.Value
open Cert.ResidIdeal Cert.ResidIdeal.Gen Cert.Dense Cert.Residual
open scoped BigOperators
/-! The result arrays of the kernel of the output projection. -/

/-- Which rows of a tile are of the shared context. -/
theorem mask_at (i : grid0.Coords) (q : ℕ) (hq : q < 6) (hi : (i 1).val = q) (r : Fin 384) : k0_pay2 i (ix2 r (0 : Fin 1)) = if 2048 ≤ q * 384 + r.val then 1#1 else 0#1 := by
  pointwise [k0_pay2, hi]
  revert r
  clear hi
  interval_cases q <;> decide +kernel

theorem pay3_at (x : Vec Ideal S1x384x2048 .f32) (r : Fin 384) (n : Fin 2048) : k0_pay3 x (ix2 r n) = x (ix3 (0 : Fin 1) r n) := by
  pointwise [k0_pay3]

theorem pay4_at (i : grid0.Coords) (mc ml : Vec Ideal S1x1x1x2048 .f32) (r : Fin 384) (n : Fin 2048) :
    k0_pay4 i mc ml (ix2 r n) = if k0_pay2 i (ix2 r (0 : Fin 1)) = 1#1 then (mc (ix4 (0 : Fin 1) (0 : Fin 1) (0 : Fin 1) n) : EReal) else ml (ix4 (0 : Fin 1) (0 : Fin 1) (0 : Fin 1) n) := by
  pointwise [k0_pay4]
  rfl

/-- A projected row over its root mean square. -/
theorem pay5_at (y : Vec Ideal S1x384x2048 .bf16) (w : Vec Ideal S2048x2048 .bf16) (r : Fin 384) (n : Fin 2048) :
    k0_pay5 y w (ix2 r n) = (∑ k : Fin 2048, (y (ix3 (0 : Fin 1) r k) : EReal) * w (ix2 k n)) * scale (fun j => ∑ k : Fin 2048, (y (ix3 (0 : Fin 1) r k) : EReal) * w (ix2 k j)) := by
  pointwise [k0_pay5, scale]

theorem pay6_at (x u v : FVec Ideal S384x2048 .f32) (g : Vec Ideal S1x2048 .f32) (r : Fin 384) (n : Fin 2048) :
    k0_pay6 x u v g (ix2 r n) = (x (ix2 r n) : EReal) + u (ix2 r n) * (v (ix2 r n) * g (ix2 (0 : Fin 1) n)) := by
  pointwise [k0_pay6]

theorem pay7_at (x u v : FVec Ideal S384x2048 .f32) (g : Vec Ideal S1x2048 .f32) (r : Fin 384) (n : Fin 2048) : k0_pay7 x u v g (ix3 (0 : Fin 1) r n) = k0_pay6 x u v g (ix2 r n) := by
  pointwise [k0_pay7]

theorem pay8_at (s : IVec S384x1 1) (x u v : FVec Ideal S384x2048 .f32) (g g' : Vec Ideal S1x2048 .f32) (mc ml : Vec Ideal S1x1x1x2048 .f32) (r : Fin 384) (n : Fin 2048) :
    k0_pay8 s x u v g g' mc ml (ix2 r n) = normed (fun k => k0_pay6 x u v g (ix2 r k)) (fun k => g' (ix2 (0 : Fin 1) k)) n
      * (1 + if s (ix2 r (0 : Fin 1)) = 1#1 then (mc (ix4 (0 : Fin 1) (0 : Fin 1) (0 : Fin 1) n) : EReal) else ml (ix4 (0 : Fin 1) (0 : Fin 1) (0 : Fin 1) n)) := by
  pointwise [k0_pay8, normed, scale]
  rfl

theorem pay1_at (s : IVec S384x1 1) (v : FVec Ideal S384x2048 .f32) (mc ml : Vec Ideal S1x1x1x2048 .f32) (r : Fin 384) (n : Fin 2048) :
    k0_pay1 s v (k0_pay9 mc) ml (ix3 (0 : Fin 1) r n) = v (ix2 r n) + if s (ix2 r (0 : Fin 1)) = 1#1 then (mc (ix4 (0 : Fin 1) (0 : Fin 1) (0 : Fin 1) n) : EReal) else ml (ix4 (0 : Fin 1) (0 : Fin 1) (0 : Fin 1) n) := by
  pointwise [k0_pay1, k0_pay9]
  rfl

/-- A modulation vector of a block. -/
def pick (k : ℕ) (h : ∀ a, (![0, k, 0, 0] : Fin 4 → ℕ) a + (![1, 1, 1, 2048] : Fin 4 → ℕ) a ≤ S1x6x1x2048.size a) (x : Vec Ideal S1x6x1x2048 .f32) : Vec Ideal S1x1x1x2048 .f32 :=
  View.ld x (Rect.unit (s := S1x6x1x2048) ![0, k, 0, 0] ![1, 1, 1, 2048] h)
theorem pick_at (k h x) (K : Fin 6) (hK : K.val = k) (n : Fin 2048) : pick k h x (ix4 (0 : Fin 1) (0 : Fin 1) (0 : Fin 1) n) = x (ix4 (0 : Fin 1) K (0 : Fin 1) n) := by
  subst hK
  pointwise [pick]

/-- The stream's rows of a block. -/
def rows (i : grid0.Coords) (y : Vec Ideal S1x384x2048 .bf16) (w : Vec Ideal S2048x2048 .bf16) (x : Vec Ideal S1x384x2048 .f32) (g : Vec Ideal S1x2048 .f32) (ml mc : Vec Ideal S1x6x1x2048 .f32) : FVec Ideal S384x2048 .f32 :=
  k0_pay6 (k0_pay3 x) (k0_pay4 i (pick 2 inb_S1x6x1x2048_S1x1x1x2048_0_2_0_0 mc) (pick 2 inb_S1x6x1x2048_S1x1x1x2048_0_2_0_0 ml)) (k0_pay5 y w) g

theorem first_at (i y w x g g' ml mc) (r : Fin 384) (n : Fin 2048) : out0_7 i y w x g g' ml mc (ix3 (0 : Fin 1) r n) = rows i y w x g ml mc (ix2 r n) := by
  refine Eq.trans ?_ (pay7_at _ _ _ _ r n)
  unfold_out out0_7
  frame_out
  rfl

theorem second_at (i y w x g g' ml mc) (r : Fin 384) (n : Fin 2048) :
    out0_8 i y w x g g' ml mc (ix3 (0 : Fin 1) r n) = normed (fun k => rows i y w x g ml mc (ix2 r k)) (fun k => g' (ix2 (0 : Fin 1) k)) n
      * (1 + if k0_pay2 i (ix2 r (0 : Fin 1)) = 1#1 then (mc (ix4 (0 : Fin 1) (4 : Fin 6) (0 : Fin 1) n) : EReal) else ml (ix4 (0 : Fin 1) (4 : Fin 6) (0 : Fin 1) n))
      + if k0_pay2 i (ix2 r (0 : Fin 1)) = 1#1 then (mc (ix4 (0 : Fin 1) (3 : Fin 6) (0 : Fin 1) n) : EReal) else ml (ix4 (0 : Fin 1) (3 : Fin 6) (0 : Fin 1) n) := by
  rw [← pick_at 4 inb_S1x6x1x2048_S1x1x1x2048_0_4_0_0 mc 4 rfl, ← pick_at 4 inb_S1x6x1x2048_S1x1x1x2048_0_4_0_0 ml 4 rfl, ← pick_at 3 inb_S1x6x1x2048_S1x1x1x2048_0_3_0_0 mc 3 rfl, ← pick_at 3 inb_S1x6x1x2048_S1x1x1x2048_0_3_0_0 ml 3 rfl]
  unfold rows
  rw [← pay8_at, ← pay1_at]
  unfold_out out0_8
  frame_out
  rfl

variable (m : (ℓ : Loc nD τ sig) → Buf (Elt Ideal) ℓ) (c : Dev nD)

theorem N_eq : cfg0.N = 96 := by decide +kernel
theorem idxY : ∀ t : Fin cfg0.N, win0_0.index t = ![t.val / 6, t.val % 6, 0] := (by decide +kernel : ∀ t : Fin grid0.N, _)
theorem idxW : ∀ t : Fin cfg0.N, win0_1.index t = ![0, 0] := (by decide +kernel : ∀ t : Fin grid0.N, _)
theorem idxX : ∀ t : Fin cfg0.N, win0_2.index t = ![t.val / 6, t.val % 6, 0] := (by decide +kernel : ∀ t : Fin grid0.N, _)
theorem idxG : ∀ t : Fin cfg0.N, win0_3.index t = ![0, 0] := (by decide +kernel : ∀ t : Fin grid0.N, _)
theorem idxGN : ∀ t : Fin cfg0.N, win0_4.index t = ![0, 0] := (by decide +kernel : ∀ t : Fin grid0.N, _)
theorem idxML : ∀ t : Fin cfg0.N, win0_5.index t = ![t.val / 6, 0, 0, 0] := (by decide +kernel : ∀ t : Fin grid0.N, _)
theorem idxMC : ∀ t : Fin cfg0.N, win0_6.index t = ![16, 0, 0, 0] := (by decide +kernel : ∀ t : Fin grid0.N, _)
theorem idxS : ∀ t : Fin cfg0.N, win0_7.index t = ![t.val / 6, t.val % 6, 0] := (by decide +kernel : ∀ t : Fin grid0.N, _)
theorem idxN : ∀ t : Fin cfg0.N, win0_8.index t = ![t.val / 6, t.val % 6, 0] := (by decide +kernel : ∀ t : Fin grid0.N, _)
theorem coord1 : ∀ t : Fin cfg0.N, (grid0.coords t 1).val = t.val % 6 := (by decide +kernel : ∀ t : Fin grid0.N, _)

/-! The arguments by coordinates. -/
def fY (b : Fin 16) (r : Fin 2304) (k : Fin 2048) : EReal := (m ((c.tc : Thread nD τ).loc main_arg0) : FVec Ideal S16x2304x2048 .bf16) (ix3 b r k)
def fW (k : Fin 2048) (n : Fin 2048) : EReal := (m ((c.tc : Thread nD τ).loc main_arg1) : FVec Ideal S2048x2048 .bf16) (ix2 k n)
def fX (b : Fin 16) (r : Fin 2304) (d : Fin 2048) : EReal := (m ((c.tc : Thread nD τ).loc main_arg2) : FVec Ideal S16x2304x2048 .f32) (ix3 b r d)
def fG (n : Fin 2048) : EReal := (m ((c.tc : Thread nD τ).loc main_arg3) : FVec Ideal S2048 .f32) (ix1 n)
def fGN (n : Fin 2048) : EReal := (m ((c.tc : Thread nD τ).loc main_arg4) : FVec Ideal S2048 .f32) (ix1 n)
def fM (e : Fin 24) (k : Fin 6) (n : Fin 2048) : EReal := (m ((c.tc : Thread nD τ).loc main_arg5) : FVec Ideal S24x6x1x2048 .f32) (ix4 e k (0 : Fin 1) n)

/-! The place of a point's block. -/
def bOf (t : Fin cfg0.N) : Fin 16 := ⟨t.val / 6, by have := lt_of_lt_of_eq t.isLt N_eq; omega⟩
def rOf (t : Fin cfg0.N) (r : Fin 384) : Fin 2304 := ⟨t.val % 6 * 384 + r.val, by omega⟩

theorem y_at (t : Fin cfg0.N) (r : Fin 384) (d : Fin 2048) : (iblk m c 0 t : Vec Ideal S1x384x2048 .bf16) (ix3 (0 : Fin 1) r d) = fY m c (bOf t) (rOf t r) d := by
  unfold fY
  rw [← V_main_arg0 m c]
  unfold bOf rOf
  blk_ext [iblk, idxY t]
theorem w_at (t : Fin cfg0.N) (k : Fin 2048) (j : Fin 2048) : (iblk m c 1 t : Vec Ideal S2048x2048 .bf16) (ix2 k j) = fW m c k j := by
  unfold fW
  rw [← V_main_arg1 m c]
  blk_ext [iblk, idxW t]
theorem x_at (t : Fin cfg0.N) (r : Fin 384) (d : Fin 2048) : (iblk m c 2 t : Vec Ideal S1x384x2048 .f32) (ix3 (0 : Fin 1) r d) = fX m c (bOf t) (rOf t r) d := by
  unfold fX
  rw [← V_main_arg2 m c]
  unfold bOf rOf
  blk_ext [iblk, idxX t]
theorem V_g : V m c main_v0 = (shapeCast S1x2048 (m ((c.tc : Thread nD τ).loc main_arg3) : FVec Ideal S2048 .f32) shapeCasts_S2048_S1x2048 : FVec Ideal S1x2048 .f32) := by
  unfold V
  after_results
  rfl
theorem V_gn : V m c main_v1 = (shapeCast S1x2048 (m ((c.tc : Thread nD τ).loc main_arg4) : FVec Ideal S2048 .f32) shapeCasts_S2048_S1x2048 : FVec Ideal S1x2048 .f32) := by
  unfold V
  after_results
  rfl
theorem g_at (t : Fin cfg0.N) (n : Fin 2048) : (iblk m c 3 t : Vec Ideal S1x2048 .f32) (ix2 (0 : Fin 1) n) = fG m c n := by
  have e : (iblk m c 3 t : Vec Ideal S1x2048 .f32) (ix2 (0 : Fin 1) n) = (V m c main_v0 : FVec Ideal S1x2048 .f32) (ix2 (0 : Fin 1) n) := by
    blk_ext [iblk, idxG t]
  rw [e, V_g]
  pointwise [fG]
theorem gn_at (t : Fin cfg0.N) (n : Fin 2048) : (iblk m c 4 t : Vec Ideal S1x2048 .f32) (ix2 (0 : Fin 1) n) = fGN m c n := by
  have e : (iblk m c 4 t : Vec Ideal S1x2048 .f32) (ix2 (0 : Fin 1) n) = (V m c main_v1 : FVec Ideal S1x2048 .f32) (ix2 (0 : Fin 1) n) := by
    blk_ext [iblk, idxGN t]
  rw [e, V_gn]
  pointwise [fGN]
theorem ml_at (t : Fin cfg0.N) (k : Fin 6) (n : Fin 2048) : (iblk m c 5 t : Vec Ideal S1x6x1x2048 .f32) (ix4 (0 : Fin 1) k (0 : Fin 1) n) = fM m c ⟨(bOf t).val, by have := (bOf t).isLt; omega⟩ k n := by
  unfold fM
  rw [← V_main_arg5 m c]
  unfold bOf
  blk_ext [iblk, idxML t]
theorem mc_at (t : Fin cfg0.N) (k : Fin 6) (n : Fin 2048) : (iblk m c 6 t : Vec Ideal S1x6x1x2048 .f32) (ix4 (0 : Fin 1) k (0 : Fin 1) n) = fM m c 16 k n := by
  unfold fM
  rw [← V_main_arg5 m c]
  blk_ext [iblk, idxMC t]

/-- The choice between a sequence's vector and the context's, at a row of a block. -/
theorem choice (t : Fin cfg0.N) (k : Fin 6) (r : Fin 384) (n : Fin 2048) :
    (if k0_pay2 (grid0.coords t) (ix2 r (0 : Fin 1)) = 1#1 then ((iblk m c 6 t : Vec Ideal S1x6x1x2048 .f32) (ix4 (0 : Fin 1) k (0 : Fin 1) n) : EReal) else (iblk m c 5 t : Vec Ideal S1x6x1x2048 .f32) (ix4 (0 : Fin 1) k (0 : Fin 1) n)) = modAt (fM m c) k (bOf t) (rOf t r) n := by
  rw [mask_at _ (t.val % 6) (by omega) (coord1 t), mc_at, ml_at]
  unfold modAt
  by_cases h : 2048 ≤ t.val % 6 * 384 + r.val
  · rw [if_pos h, if_pos rfl]
    exact (if_pos h).symm
  · rw [if_neg h, if_neg (by decide)]
    exact (if_neg h).symm

theorem rows_at (t : Fin cfg0.N) (r : Fin 384) (n : Fin 2048) :
    rows (grid0.coords t) (iblk m c 0 t) (iblk m c 1 t) (iblk m c 2 t) (iblk m c 3 t) (iblk m c 5 t) (iblk m c 6 t) (ix2 r n) = mixed (fY m c) (fW m c) (fX m c) (fG m c) (fM m c) (bOf t) (rOf t r) n := by
  refine (pay6_at _ _ _ _ r n).trans ?_
  rw [pay3_at, pay4_at, pay5_at, pick_at 2 _ _ 2 rfl, pick_at 2 _ _ 2 rfl, choice m c t 2 r n]
  simp only [x_at m c t, y_at m c t, w_at m c t, g_at m c t]
  rfl

theorem final : (dats m 0 c).arrAt 7 cfg0.N = fun i : S16x2304x2048.Idx => mixed (fY m c) (fW m c) (fX m c) (fG m c) (fM m c) (i 0) (i 1) (i 2) := by
  refine (dats m 0 c).arrAt_eq_of_covers 7 _ (by decide +kernel) fun t hf y => ?_
  blk_simp
  rw [after0_7]
  idx_vars y
  obtain rfl : y0 = 0 := Subsingleton.elim _ _
  have he : ((View.whole main_v2_0).slice (win0_7.rect t)).emb (ix3 (0 : Fin 1) y1 y2) = ix3 (bOf t) (rOf t y1) y2 := by
    unfold bOf rOf
    blk_ext [idxS t]
  rw [he]
  exact (first_at _ _ _ _ _ _ _ _ y1 y2).trans (rows_at m c t y1 y2)

theorem final_next : (dats m 0 c).arrAt 8 cfg0.N = fun i : S16x2304x2048.Idx => entry (fY m c) (fW m c) (fX m c) (fG m c) (fGN m c) (fM m c) (i 0) (i 1) (i 2) := by
  refine (dats m 0 c).arrAt_eq_of_covers 8 _ (by decide +kernel) fun t hf y => ?_
  blk_simp
  rw [after0_8]
  idx_vars y
  obtain rfl : y0 = 0 := Subsingleton.elim _ _
  have he : ((View.whole main_v2_1).slice (win0_8.rect t)).emb (ix3 (0 : Fin 1) y1 y2) = ix3 (bOf t) (rOf t y1) y2 := by
    unfold bOf rOf
    blk_ext [idxN t]
  rw [he]
  refine (second_at _ _ _ _ _ _ _ _ y1 y2).trans ?_
  rw [choice m c t 4 y1 y2, choice m c t 3 y1 y2]
  simp only [rows_at m c t, gn_at m c t]
  rfl
end Cert.ResidIdeal.Value
-- ==== Proof.ResidRefRows.lean ====
module
public import proofs.«01_k».proof.Proof.Gen.ResidRefIdeal.Run
public import proofs.«01_k».proof.Proof.Residual
public import Idealize.ShloMosaic.Lib.Pipeline.ValueKit
@[expose] public section
set_option maxRecDepth 16384
noncomputable section
open Idealize.ShloMosaic Idealize.ShloMosaic.TcCoe Idealize.SL.Sem
namespace Cert.ResidRefIdeal.Value
open Cert.ResidRefIdeal Cert.ResidRefIdeal.Gen Cert.Dense Cert.Residual
open scoped BigOperators
/-! The reference of the output projection and its residual. -/

/-- The merged branches projected. -/
def refProj (Y : FVec Ideal S16x2304x2048 .bf16) (W : FVec Ideal S2048x2048 .bf16) : FVec Ideal S16x2304x2048 .f32 :=
  Host.dotGeneral dot_S16x2304x2048_S2048x2048_S16x2304x2048_2_0_01_1_n_n none (extf .f32 Y bitsLt_bf16_f32) (extf .f32 W bitsLt_bf16_f32)
/-- Rows normed and weighted. -/
def refNorm (Y : FVec Ideal S16x2304x2048 .f32) (G : FVec Ideal S2048 .f32) : FVec Ideal S16x2304x2048 .f32 :=
  mulf (mulf Y (broadcastInDim S16x2304x2048 ![0, 1, 2] bcast_S16x2304x1_S16x2304x2048_0_1_2 (Host.rsqrt (addf (Host.divf (broadcastInDim S16x2304x1 ![0, 1] bcast_S16x2304_S16x2304x1_0_1 (Host.reduceAdd (mulf Y Y) (constant S_ .f32 0x00000000#32) reducesTo_S16x2304x2048_S16x2304_d2 h_S_)) (broadcastInDim S16x2304x1 ![] bcast_S_S16x2304x1 (constant S_ .f32 0x45000000#32))) (broadcastInDim S16x2304x1 ![] bcast_S_S16x2304x1 (constant S_ .f32 0x358637BD#32)))))) (broadcastInDim S16x2304x2048 ![0, 1, 2] bcast_S1x1x2048_S16x2304x2048_0_1_2 (broadcastInDim S1x1x2048 ![2] bcast_S2048_S1x1x2048_2 G))
/-- A modulation vector at every token. -/
def refMod (M : FVec Ideal S24x6x1x2048 .f32) (k : ℕ) (hk : S24x6x1x2048.Slices ![0, k, 0, 0] S16x1x1x2048) (hc : S24x6x1x2048.Slices ![16, k, 0, 0] S1x1x1x2048) : FVec Ideal S16x2304x2048 .f32 :=
  concatenate S16x2304x2048 1 [⟨S16x2048x2048, (broadcastInDim S16x2048x2048 ![0, 1, 2] bcast_S16x1x2048_S16x2048x2048_0_1_2 (shapeCast _ (extractStridedSlice S16x1x1x2048 ![0, k, 0, 0] M hk) shapeCasts_S16x1x1x2048_S16x1x2048))⟩, ⟨S16x256x2048, (broadcastInDim S16x256x2048 ![1, 2] bcast_S1x2048_S16x256x2048_1_2 (shapeCast _ (extractStridedSlice S1x1x1x2048 ![16, k, 0, 0] M hc) shapeCasts_S1x1x1x2048_S1x2048))⟩] concatenates_S16x2048x2048_S16x256x2048_S16x2304x2048_d1
/-- The stream after it. -/
def refStream (Y : FVec Ideal S16x2304x2048 .bf16) (W : FVec Ideal S2048x2048 .bf16) (X : FVec Ideal S16x2304x2048 .f32) (G : FVec Ideal S2048 .f32) (M : FVec Ideal S24x6x1x2048 .f32) : FVec Ideal S16x2304x2048 .f32 :=
  addf X (mulf (refMod M 2 slices_S24x6x1x2048_S16x1x1x2048_0_2_0_0 slices_S24x6x1x2048_S1x1x1x2048_16_2_0_0) (refNorm (refProj Y W) G))
/-- The input of the feed-forward part. -/
def refNext (S : FVec Ideal S16x2304x2048 .f32) (G : FVec Ideal S2048 .f32) (M : FVec Ideal S24x6x1x2048 .f32) : FVec Ideal S16x2304x2048 .bf16 :=
  truncf .bf16 (addf (mulf (refNorm S G) (addf (broadcastInDim S16x2304x2048 ![] bcast_S_S16x2304x2048 (constant S_ .f32 0x3F800000#32)) (refMod M 4 slices_S24x6x1x2048_S16x1x1x2048_0_4_0_0 slices_S24x6x1x2048_S1x1x1x2048_16_4_0_0))) (refMod M 3 slices_S24x6x1x2048_S16x1x1x2048_0_3_0_0 slices_S24x6x1x2048_S1x1x1x2048_16_3_0_0)) bitsLt_bf16_f32

theorem proj_at (Y W) (b : Fin 16) (r : Fin 2304) (n : Fin 2048) : refProj Y W (ix3 b r n) = projected (fun b r k => Y (ix3 b r k)) (fun k j => W (ix2 k j)) b r n := by
  pointwise [refProj, projected]
theorem norm_at (Y G) (b : Fin 16) (r : Fin 2304) (n : Fin 2048) : refNorm Y G (ix3 b r n) = normed (fun k => Y (ix3 b r k)) (fun k => G (ix1 k)) n := by
  pointwise [refNorm, normed, scale]
theorem mod_at (M k hk hc) (K : Fin 6) (hK : K.val = k) (b : Fin 16) (r : Fin 2304) (n : Fin 2048) : refMod M k hk hc (ix3 b r n) = modAt (fun e k n => M (ix4 e k (0 : Fin 1) n)) K b r n := by
  subst hK
  unfold modAt
  by_cases h : 2048 ≤ r.val
  · rw [if_pos h]
    pointwise [refMod]
    exact dif_neg (by omega)
  · rw [if_neg h]
    pointwise [refMod]
    exact dif_pos (by omega)
theorem stream_at (Y W X G M) (b : Fin 16) (r : Fin 2304) (n : Fin 2048) :
    refStream Y W X G M (ix3 b r n) = mixed (fun b r k => Y (ix3 b r k)) (fun k j => W (ix2 k j)) (fun b r n => X (ix3 b r n)) (fun k => G (ix1 k)) (fun e k n => M (ix4 e k (0 : Fin 1) n)) b r n := by
  have em := mod_at M 2 slices_S24x6x1x2048_S16x1x1x2048_0_2_0_0 slices_S24x6x1x2048_S1x1x1x2048_16_2_0_0 2 rfl b r n
  have en := norm_at (refProj Y W) G b r n
  simp only [proj_at] at en
  exact congrArg (fun y : EReal => X (ix3 b r n) + y) (congr (congrArg (fun x y : EReal => x * y) em) en)
theorem next_at (S G M) (b : Fin 16) (r : Fin 2304) (n : Fin 2048) :
    refNext S G M (ix3 b r n) = normed (fun k => S (ix3 b r k)) (fun k => G (ix1 k)) n * (1 + modAt (fun e k n => M (ix4 e k (0 : Fin 1) n)) 4 b r n) + modAt (fun e k n => M (ix4 e k (0 : Fin 1) n)) 3 b r n := by
  have e1 := mod_at M 4 slices_S24x6x1x2048_S16x1x1x2048_0_4_0_0 slices_S24x6x1x2048_S1x1x1x2048_16_4_0_0 4 rfl b r n
  have e0 := mod_at M 3 slices_S24x6x1x2048_S16x1x1x2048_0_3_0_0 slices_S24x6x1x2048_S1x1x1x2048_16_3_0_0 3 rfl b r n
  rw [← norm_at, ← e1, ← e0]
  pointwise [refNext]

theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v24)
        = refStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v56)
        = refNext (refStream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨⟨(h c).1.trans rfl, (h c).2.1.trans rfl⟩, (h c).2.2⟩) (run m ρ)
end Cert.ResidRefIdeal.Value
-- ==== Proof.ResidClaim.lean ====
module
public import proofs.«01_k».proof.Proof.ResidIdealValue
public import proofs.«01_k».proof.Proof.ResidRefRows
public import proofs.«01_k».proof.Defs
public import Idealize.ShloMosaic.Lib.Claim
@[expose] public section
set_option maxRecDepth 16384
noncomputable section
open Idealize.ShloMosaic Idealize.ShloMosaic.TcCoe Idealize.SL.Sem
namespace Cert.ResidClaim
open Cert.ResidIdeal.Value Cert.ResidRefIdeal.Value Cert.Dense Cert.Residual
/-! The output projection with its residual agrees with the reference's. -/

theorem quiet_ref : Cert.quiescent_ResidRefIdeal := fun m g _ =>
  (θ_run Cert.ResidRefIdeal.defs _ _).mono (fun r h => ⟨fun c => (h c).2, sem_eq_zero_of_no_sems (by decide) r.2⟩)
    (Cert.ResidRefIdeal.Value.run_all m g)

theorem algebraic : Cert.algebraic_ResidIdeal_ResidRefIdeal := by
  pair_intro
  · run_from Cert.ResidIdeal.Value.run_blocks m g
  · run_from Cert.ResidRefIdeal.Value.run_all m' g'
    · refine Eq.trans ?_ (final m c).symm
      funext i
      idx_vars i
      exact stream_at _ _ _ _ _ i0 i1 i2
    · refine Eq.trans ?_ (final_next m c).symm
      funext i
      idx_vars i
      refine (Cert.ResidRefIdeal.Value.next_at _ _ _ i0 i1 i2).trans ?_
      simp only [stream_at]
      rfl
end Cert.ResidClaim
-- ==== Proof.lean ====
module

public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.Moe
public import proofs.«01_k».proof.Proof.Gen.MoeIdeal
public import proofs.«01_k».proof.Proof.Gen.MoeRefIdeal
public import proofs.«01_k».proof.Proof.Gen.Pre_experts
public import proofs.«01_k».proof.Proof.Gen.Moe.Skeleton
public import proofs.«01_k».proof.Proof.Gen.Moe.Launch
public import proofs.«01_k».proof.Proof.Gen.MoeIdeal.Skeleton
public import proofs.«01_k».proof.Proof.Gen.MoeIdeal.Launch
public import proofs.«01_k».proof.Proof.Gen.MoeRefIdeal.Run
public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.Pre_finite
public import proofs.«01_k».proof.Proof.Gen.Pre_finite_p
public import proofs.«01_k».proof.Proof.GqaFrame
public import proofs.«01_k».proof.Proof.GqaIdealFrame
public import proofs.«01_k».proof.Proof.DiffFrame
public import proofs.«01_k».proof.Proof.DiffIdealFrame
public import proofs.«01_k».proof.Proof.GqaClaim
public import proofs.«01_k».proof.Proof.DiffClaim
public import proofs.«01_k».proof.Proof.MoeFrame
public import proofs.«01_k».proof.Proof.MoeIdealFrame
public import proofs.«01_k».proof.Proof.ExpertsPre
public import proofs.«01_k».proof.Proof.MoeClaim
public import proofs.«01_k».proof.Proof.MergeClaim
public import proofs.«01_k».proof.Proof.FfnClaim
public import proofs.«01_k».proof.Proof.LastClaim
public import proofs.«01_k».proof.Proof.ResidClaim
public import Idealize.ShloMosaic.Lib.Claim
public import Idealize.ShloMosaic.Adequacy
public import Idealize.ShloMosaic.Init
public import proofs.«01_k».proof.Proof.Gen.GqaRefIdeal.Run
public import proofs.«01_k».proof.Proof.Gen.DiffRefIdeal.Run

@[expose] public section

noncomputable section

namespace Cert.Proof

open Idealize.ShloMosaic Idealize.SL.Sem Cert.Gqa

theorem quiet_GqaRefIdeal : Cert.quiescent_GqaRefIdeal := fun m g _ =>
  (θ_run Cert.GqaRefIdeal.defs _ _).mono (fun r h => ⟨fun c => (h c).2, sem_eq_zero_of_no_sems (by decide) r.2⟩)
    (Cert.GqaRefIdeal.Value.run (F := Ideal) m g)
theorem quiet_GqaRefIdeal_pre : Cert.quiescent_GqaRefIdeal_pre_finite_p := fun m g _ =>
  (θ_run Cert.GqaRefIdeal.defs _ _).mono (fun r h => ⟨fun c => (h c).2, sem_eq_zero_of_no_sems (by decide) r.2⟩)
    (Cert.GqaRefIdeal.Value.run (F := Ideal) m g)
theorem quiet_DiffRefIdeal : Cert.quiescent_DiffRefIdeal := fun m g _ =>
  (θ_run Cert.DiffRefIdeal.defs _ _).mono (fun r h => ⟨fun c => (h c).2, sem_eq_zero_of_no_sems (by decide) r.2⟩)
    (Cert.DiffRefIdeal.Value.run (F := Ideal) m g)
theorem quiet_DiffRefIdeal_pre : Cert.quiescent_DiffRefIdeal_pre_finite := fun m g _ =>
  (θ_run Cert.DiffRefIdeal.defs _ _).mono (fun r h => ⟨fun c => (h c).2, sem_eq_zero_of_no_sems (by decide) r.2⟩)
    (Cert.DiffRefIdeal.Value.run (F := Ideal) m g)

theorem claim : Cert.Claim := ⟨Cert.Gqa.Gen.facts, Cert.GqaIdeal.Gen.facts, Cert.GqaRefIdeal.Gen.facts, Cert.Diff.Gen.facts, Cert.DiffIdeal.Gen.facts, Cert.DiffRefIdeal.Gen.facts,
  Cert.Moe.Gen.facts, Cert.MoeIdeal.Gen.facts, Cert.MoeRefIdeal.Gen.facts,
  Cert.Merge.Gen.facts, Cert.MergeIdeal.Gen.facts, Cert.MergeRefIdeal.Gen.facts,
  Cert.Ffn.Gen.facts, Cert.FfnIdeal.Gen.facts, Cert.FfnRefIdeal.Gen.facts,
  Cert.Last.Gen.facts, Cert.LastIdeal.Gen.facts, Cert.LastRefIdeal.Gen.facts, Cert.Resid.Gen.facts, Cert.ResidIdeal.Gen.facts, Cert.ResidRefIdeal.Gen.facts, Cert.Pre_finite_p.Gen.facts, Cert.Pre_finite.Gen.facts, Cert.Pre_experts.Gen.facts,
  fun m g _ => Cert.Gqa.Gen.frame m g, fun m g _ => Cert.GqaIdeal.Gen.frame m g, fun m g _ => Cert.GqaIdeal.Gen.frame m g,
  quiet_GqaRefIdeal, quiet_GqaRefIdeal_pre,
  fun m g _ => Cert.Diff.Gen.frame m g, fun m g _ => Cert.DiffIdeal.Gen.frame m g, fun m g _ => Cert.DiffIdeal.Gen.frame m g,
  quiet_DiffRefIdeal, quiet_DiffRefIdeal_pre,
  Cert.Experts.frame_Moe, Cert.Experts.frame_MoeIdeal, Cert.Experts.frame_MoeRefIdeal, Cert.Experts.frame_MoeRefIdeal_pre,
  fun m g _ => Cert.Merge.Gen.frame m g, fun m g _ => Cert.MergeIdeal.Gen.frame m g, Cert.MergeClaim.quiet_ref,
  fun m g _ => Cert.Ffn.Gen.frame m g, fun m g _ => Cert.FfnIdeal.Gen.frame m g, Cert.FfnClaim.quiet_ref,
  fun m g _ => Cert.Last.Gen.frame m g, fun m g _ => Cert.LastIdeal.Gen.frame m g, Cert.LastClaim.quiet_ref,
  fun m g _ => Cert.Resid.Gen.frame m g, fun m g _ => Cert.ResidIdeal.Gen.frame m g, Cert.ResidClaim.quiet_ref,
  trivial, Cert.GqaClaim.algebraic, trivial, Cert.DiffClaim.algebraic, trivial, Cert.MoeClaim.algebraic, trivial, Cert.MergeClaim.algebraic, trivial, Cert.FfnClaim.algebraic, trivial, Cert.LastClaim.algebraic, trivial, Cert.ResidClaim.algebraic⟩

end Cert.Proof

end
